-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_scan_finite [hPre_scan_finite : Cert.Pre_scan_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_scan_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_scan_finite [hPre_scan_finite : Cert.Pre_scan_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_scan_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_back_finite [hPre_back_finite : Cert.Pre_back_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_back_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_back_finite [hPre_back_finite : Cert.Pre_back_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_back_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_gates_finite [hPre_gates_finite : Cert.Pre_gates_finite.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_gates_finite.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_gates_finite [hPre_gates_finite : Cert.Pre_gates_finite.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_gates_finite.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_mod_finite [hPre_mod_finite : Cert.Pre_mod_finite.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_mod_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_mod_finite [hPre_mod_finite : Cert.Pre_mod_finite.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_mod_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_scan_finite [hKernel10Ideal : Cert.Kernel10Ideal.Facts] [hPre_scan_finite : Cert.Pre_scan_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_scan_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_scan_finite [hReference10Ideal : Cert.Reference10Ideal.Facts] [hPre_scan_finite : Cert.Pre_scan_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_scan_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Kernel11Ideal_pre_back_finite [hKernel11Ideal : Cert.Kernel11Ideal.Facts] [hPre_back_finite : Cert.Pre_back_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_back_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Reference11Ideal_pre_back_finite [hReference11Ideal : Cert.Reference11Ideal.Facts] [hPre_back_finite : Cert.Pre_back_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_back_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Kernel16Ideal_pre_gates_finite [hKernel16Ideal : Cert.Kernel16Ideal.Facts] [hPre_gates_finite : Cert.Pre_gates_finite.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_gates_finite m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Reference16Ideal_pre_gates_finite [hReference16Ideal : Cert.Reference16Ideal.Facts] [hPre_gates_finite : Cert.Pre_gates_finite.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_gates_finite m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Kernel18Ideal_pre_mod_finite [hKernel18Ideal : Cert.Kernel18Ideal.Facts] [hPre_mod_finite : Cert.Pre_mod_finite.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_mod_finite m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_mod_finite [hReference18Ideal : Cert.Reference18Ideal.Facts] [hPre_mod_finite : Cert.Pre_mod_finite.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_mod_finite m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v281)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v281) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_scan_finite [hKernel10Ideal : Cert.Kernel10Ideal.Facts] [hReference10Ideal : Cert.Reference10Ideal.Facts] [hPre_scan_finite : Cert.Pre_scan_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_scan_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v2_0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v63) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal_pre_back_finite [hKernel11Ideal : Cert.Kernel11Ideal.Facts] [hReference11Ideal : Cert.Reference11Ideal.Facts] [hPre_back_finite : Cert.Pre_back_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_back_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v2_0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v69) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v33) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v28) = v0 c
          ∧ r.2.mem ((c.tc : Thread Cert.Reference13Ideal.nD Cert.Reference13Ideal.τ).loc Cert.Reference13Ideal.main_v34) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v18) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v29) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal_pre_gates_finite [hKernel16Ideal : Cert.Kernel16Ideal.Facts] [hReference16Ideal : Cert.Reference16Ideal.Facts] [hPre_gates_finite : Cert.Pre_gates_finite.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_gates_finite m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal_pre_mod_finite [hKernel18Ideal : Cert.Kernel18Ideal.Facts] [hReference18Ideal : Cert.Reference18Ideal.Facts] [hPre_mod_finite : Cert.Pre_mod_finite.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_mod_finite m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_scores_finite : Cert.Pre_scores_finite.Facts) (hPre_scan_finite : Cert.Pre_scan_finite.Facts) (hPre_back_finite : Cert.Pre_back_finite.Facts) (hPre_gates_finite : Cert.Pre_gates_finite.Facts) (hPre_mod_finite : Cert.Pre_mod_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_scan_finite (hKernel10Ideal := hKernel10Ideal) (hPre_scan_finite := hPre_scan_finite)
    ∧ quiescent_Reference10Ideal (hReference10Ideal := hReference10Ideal)
    ∧ quiescent_Reference10Ideal_pre_scan_finite (hReference10Ideal := hReference10Ideal) (hPre_scan_finite := hPre_scan_finite)
    ∧ quiescent_Kernel11 (hKernel11 := hKernel11)
    ∧ quiescent_Kernel11Ideal (hKernel11Ideal := hKernel11Ideal)
    ∧ quiescent_Kernel11Ideal_pre_back_finite (hKernel11Ideal := hKernel11Ideal) (hPre_back_finite := hPre_back_finite)
    ∧ quiescent_Reference11Ideal (hReference11Ideal := hReference11Ideal)
    ∧ quiescent_Reference11Ideal_pre_back_finite (hReference11Ideal := hReference11Ideal) (hPre_back_finite := hPre_back_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_gates_finite (hKernel16Ideal := hKernel16Ideal) (hPre_gates_finite := hPre_gates_finite)
    ∧ quiescent_Reference16Ideal (hReference16Ideal := hReference16Ideal)
    ∧ quiescent_Reference16Ideal_pre_gates_finite (hReference16Ideal := hReference16Ideal) (hPre_gates_finite := hPre_gates_finite)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_mod_finite (hKernel18Ideal := hKernel18Ideal) (hPre_mod_finite := hPre_mod_finite)
    ∧ quiescent_Reference18Ideal (hReference18Ideal := hReference18Ideal)
    ∧ quiescent_Reference18Ideal_pre_mod_finite (hReference18Ideal := hReference18Ideal) (hPre_mod_finite := hPre_mod_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_scan_finite (hKernel10Ideal := hKernel10Ideal) (hReference10Ideal := hReference10Ideal) (hPre_scan_finite := hPre_scan_finite)
    ∧ preserves_Kernel11_Kernel11Ideal
    ∧ algebraic_Kernel11Ideal_Reference11Ideal_pre_back_finite (hKernel11Ideal := hKernel11Ideal) (hReference11Ideal := hReference11Ideal) (hPre_back_finite := hPre_back_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_gates_finite (hKernel16Ideal := hKernel16Ideal) (hReference16Ideal := hReference16Ideal) (hPre_gates_finite := hPre_gates_finite)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_mod_finite (hKernel18Ideal := hKernel18Ideal) (hReference18Ideal := hReference18Ideal) (hPre_mod_finite := hPre_mod_finite)
-- ==== Pre_back_finite.lean ====
abbrev S16384x1024 : Shape := ⟨2, ![16384, 1024]⟩
abbrev S16384x2048 : Shape := ⟨2, ![16384, 2048]⟩
abbrev S16384x128 : Shape := ⟨2, ![16384, 128]⟩
abbrev S8x128x256 : Shape := ⟨3, ![8, 128, 256]⟩
abbrev S8x1x128 : Shape := ⟨3, ![8, 1, 128]⟩
abbrev S16384x16 : Shape := ⟨2, ![16384, 16]⟩
abbrev S_ : Shape := ⟨0, ![]⟩

class Facts : Prop where
  slices_S16384x128_S16384x16_0_16 : S16384x128.Slices ![0, 16] S16384x16
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S16384x16 : S_.BroadcastsInDim S16384x16 (![] : Fin 0 → Fin S16384x16.rank)
  reducesTo_S16384x16_S_d0_1 : S16384x16.ReducesTo [0, 1] S_
  bcast_S_S8x128x256 : S_.BroadcastsInDim S8x128x256 (![] : Fin 0 → Fin S8x128x256.rank)
  reducesTo_S8x128x256_S_d0_1_2 : S8x128x256.ReducesTo [0, 1, 2] S_
  bcast_S_S8x1x128 : S_.BroadcastsInDim S8x1x128 (![] : Fin 0 → Fin S8x1x128.rank)
  reducesTo_S8x1x128_S_d0_1_2 : S8x1x128.ReducesTo [0, 1, 2] S_

variable [Facts]

def fn_part2 {F : FTy → Type} [FloatOps F] (main_v32 : IVec S_ 1) (main_v33 : FVec F S8x1x128 .f32) (main_v34 : FVec F S8x1x128 .f32) : IVec S_ 1 :=
  let main_v35 : IVec S8x1x128 1 := cmpf .olt main_v33 main_v34
  let main_c_11 : IVec S_ 1 := constantI S_ 1 1#1
  let main_v36 : IVec S_ 1 := (fun x v => Host.reduce IntOp.andi x v reducesTo_S8x1x128_S_d0_1_2 h_S_) main_v35 main_c_11
  let main_v37 : IVec S_ 1 := andi main_v32 main_v36
  main_v37

def fn_part1 {F : FTy → Type} [FloatOps F] (main_arg4 : FVec F S8x128x256 .f32) (main_arg5 : FVec F S8x1x128 .f32) (main_arg6 : FVec F S8x1x128 .f32) (main_v0 : FVec F S16384x16 .f32) (main_v17 : IVec S_ 1) : IVec S_ 1 :=
  let main_v18 : FVec F S16384x16 .f32 := Host.absf main_v0
  let main_cst_4 : FVec F S_ .f32 := constant S_ .f32 0x7F800000#32
  let main_v19 : FVec F S16384x16 .f32 := broadcastInDim S16384x16 ![] bcast_S_S16384x16 main_cst_4
  let main_v20 : IVec S16384x16 1 := cmpf .olt main_v18 main_v19
  let main_c_5 : IVec S_ 1 := constantI S_ 1 1#1
  let main_v21 : IVec S_ 1 := (fun x v => Host.reduce IntOp.andi x v reducesTo_S16384x16_S_d0_1 h_S_) main_v20 main_c_5
  let main_v22 : IVec S_ 1 := andi main_v17 main_v21
  let main_v23 : FVec F S8x128x256 .f32 := Host.absf main_arg4
  let main_cst_6 : FVec F S_ .f32 := constant S_ .f32 0x7F800000#32
  let main_v24 : FVec F S8x128x256 .f32 := broadcastInDim S8x128x256 ![] bcast_S_S8x128x256 main_cst_6
  let main_v25 : IVec S8x128x256 1 := cmpf .olt main_v23 main_v24
  let main_c_7 : IVec S_ 1 := constantI S_ 1 1#1
  let main_v26 : IVec S_ 1 := (fun x v => Host.reduce IntOp.andi x v reducesTo_S8x128x256_S_d0_1_2 h_S_) main_v25 main_c_7
  let main_v27 : IVec S_ 1 := andi main_v22 main_v26
  let main_v28 : FVec F S8x1x128 .f32 := Host.absf main_arg5
  let main_cst_8 : FVec F S_ .f32 := constant S_ .f32 0x7F800000#32
  let main_v29 : FVec F S8x1x128 .f32 := broadcastInDim S8x1x128 ![] bcast_S_S8x1x128 main_cst_8
  let main_v30 : IVec S8x1x128 1 := cmpf .olt main_v28 main_v29
  let main_c_9 : IVec S_ 1 := constantI S_ 1 1#1
  let main_v31 : IVec S_ 1 := (fun x v => Host.reduce IntOp.andi x v reducesTo_S8x1x128_S_d0_1_2 h_S_) main_v30 main_c_9
  let main_v32 : IVec S_ 1 := andi main_v27 main_v31
  let main_v33 : FVec F S8x1x128 .f32 := Host.absf main_arg6
  let main_cst_10 : FVec F S_ .f32 := constant S_ .f32 0x7F800000#32
  let main_v34 : FVec F S8x1x128 .f32 := broadcastInDim S8x1x128 ![] bcast_S_S8x1x128 main_cst_10
  fn_part2 (F := F) main_v32 main_v33 main_v34

def fn {F : FTy → Type} [FloatOps F] (main_arg0 : FVec F S16384x1024 .bf16) (main_arg1 : FVec F S16384x1024 .bf16) (main_arg2 : FVec F S16384x2048 .bf16) (main_arg3 : FVec F S16384x128 .f32) (main_arg4 : FVec F S8x128x256 .f32) (main_arg5 : FVec F S8x1x128 .f32) (main_arg6 : FVec F S8x1x128 .f32) : IVec S_ 1 :=
  let main_v0 : FVec F S16384x16 .f32 := (extractStridedSlice S16384x16 ![0, 16] · slices_S16384x128_S16384x16_0_16) main_arg3
  let main_v1 : FVec F S16384x1024 .f32 := (extf .f32 · bitsLt_bf16_f32) main_arg0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_c : IVec S_ 1 := constantI S_ 1 1#1
  let main_v5 : IVec S_ 1 := (fun x v => Host.reduce IntOp.andi x v reducesTo_S16384x1024_S_d0_1 h_S_) main_v4 main_c
  let main_v6 : FVec F S16384x1024 .f32 := (extf .f32 · bitsLt_bf16_f32) main_arg1
  let main_v7 : FVec F S16384x1024 .f32 := Host.absf main_v6
  let main_cst_0 : FVec F S_ .f32 := constant S_ .f32 0x7F800000#32
  let main_v8 : FVec F S16384x1024 .f32 := broadcastInDim S16384x1024 ![] bcast_S_S16384x1024 main_cst_0
  let main_v9 : IVec S16384x1024 1 := cmpf .olt main_v7 main_v8
  let main_c_1 : IVec S_ 1 := constantI S_ 1 1#1
  let main_v10 : IVec S_ 1 := (fun x v => Host.reduce IntOp.andi x v reducesTo_S16384x1024_S_d0_1 h_S_) main_v9 main_c_1
  let main_v11 : IVec S_ 1 := andi main_v5 main_v10
  let main_v12 : FVec F S16384x2048 .f32 := (extf .f32 · bitsLt_bf16_f32) main_arg2
  let main_v13 : FVec F S16384x2048 .f32 := Host.absf main_v12
  let main_cst_2 : FVec F S_ .f32 := constant S_ .f32 0x7F800000#32
  let main_v14 : FVec F S16384x2048 .f32 := broadcastInDim S16384x2048 ![] bcast_S_S16384x2048 main_cst_2
  let main_v15 : IVec S16384x2048 1 := cmpf .olt main_v13 main_v14
  let main_c_3 : IVec S_ 1 := constantI S_ 1 1#1
  let main_v16 : IVec S_ 1 := (fun x v => Host.reduce IntOp.andi x v reducesTo_S16384x2048_S_d0_1 h_S_) main_v15 main_c_3
  let main_v17 : IVec S_ 1 := andi main_v11 main_v16
  fn_part1 (F := F) main_arg4 main_arg5 main_arg6 main_v0 main_v17
-- ==== Pre_gates_finite.lean ====
abbrev S16384x2048 : Shape := ⟨2, ![16384, 2048]⟩
abbrev S1x2048 : Shape := ⟨2, ![1, 2048]⟩
abbrev S2048x6176 : Shape := ⟨2, ![2048, 6176]⟩
abbrev S_ : Shape := ⟨0, ![]⟩
abbrev S2048x32 : Shape := ⟨2, ![2048, 32]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  slices_S2048x6176_S2048x32_0_6144 : S2048x6176.Slices ![0, 6144] S2048x32
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_v13 : IVec S_ 1) (main_v15 : FVec F S2048x32 .f32) (main_v16 : FVec F S2048x32 .f32) : IVec S_ 1 :=
  let main_v17 : IVec S2048x32 1 := cmpf .olt main_v15 main_v16
  let main_c_5 : IVec S_ 1 := constantI S_ 1 1#1
  let main_v18 : IVec S_ 1 := (fun x v => Host.reduce IntOp.andi x v reducesTo_S2048x32_S_d0_1 h_S_) main_v17 main_c_5
  let main_v19 : IVec S_ 1 := andi main_v13 main_v18
  main_v19

def fn {F : FTy → Type} [FloatOps F] (main_arg0 : FVec F S16384x2048 .f32) (main_arg1 : FVec F S1x2048 .f32) (main_arg2 : FVec F S1x2048 .f32) (main_arg3 : FVec F S2048x6176 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S2048x32 .f32 := (extractStridedSlice S2048x32 ![0, 6144] · slices_S2048x6176_S2048x32_0_6144) main_arg3
  let main_v15 : FVec F S2048x32 .f32 := Host.absf main_v14
  let main_cst_4 : FVec F S_ .f32 := constant S_ .f32 0x7F800000#32
  let main_v16 : FVec F S2048x32 .f32 := broadcastInDim S2048x32 ![] bcast_S_S2048x32 main_cst_4
  fn_part1 (F := F) main_v13 main_v15 main_v16
-- ==== Pre_mod_finite.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel
  bcast_S_S2048x12288 : S_.BroadcastsInDim S2048x12288 (![] : Fin 0 → Fin S2048x12288.rank)
  reducesTo_S2048x12288_S_d0_1 : S2048x12288.ReducesTo [0, 1] S_

variable [Facts]

def fn {F : FTy → Type} [FloatOps F] (main_arg0 : FVec F S8x2048 .f32) (main_arg1 : FVec F S2048x12288 .f32) (main_arg2 : FVec F S12288 .f32) : IVec S_ 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_c : IVec S_ 1 := constantI S_ 1 1#1
  let main_v3 : IVec S_ 1 := (fun x v => Host.reduce IntOp.andi x v reducesTo_S8x2048_S_d0_1 h_S_) main_v2 main_c
  let main_v4 : FVec F S2048x12288 .f32 := Host.absf main_arg1
  let main_cst_0 : FVec F S_ .f32 := constant S_ .f32 0x7F800000#32
  let main_v5 : FVec F S2048x12288 .f32 := broadcastInDim S2048x12288 ![] bcast_S_S2048x12288 main_cst_0
  let main_v6 : IVec S2048x12288 1 := cmpf .olt main_v4 main_v5
  let main_c_1 : IVec S_ 1 := constantI S_ 1 1#1
  let main_v7 : IVec S_ 1 := (fun x v => Host.reduce IntOp.andi x v reducesTo_S2048x12288_S_d0_1 h_S_) main_v6 main_c_1
  let main_v8 : IVec S_ 1 := andi main_v3 main_v7
  main_v8
-- ==== Pre_scan_finite.lean ====
abbrev S16384x1024 : Shape := ⟨2, ![16384, 1024]⟩
abbrev S16384x2048 : Shape := ⟨2, ![16384, 2048]⟩
abbrev S16384x128 : Shape := ⟨2, ![16384, 128]⟩
abbrev S8x128x256 : Shape := ⟨3, ![8, 128, 256]⟩
abbrev S8x1x128 : Shape := ⟨3, ![8, 1, 128]⟩
abbrev S_ : Shape := ⟨0, ![]⟩
abbrev S16384x16 : Shape := ⟨2, ![16384, 16]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  slices_S16384x128_S16384x16_0_0 : S16384x128.Slices ![0, 0] S16384x16
  bcast_S_S16384x16 : S_.BroadcastsInDim S16384x16 (![] : Fin 0 → Fin S16384x16.rank)
  reducesTo_S16384x16_S_d0_1 : S16384x16.ReducesTo [0, 1] S_
  bcast_S_S8x128x256 : S_.BroadcastsInDim S8x128x256 (![] : Fin 0 → Fin S8x128x256.rank)
  reducesTo_S8x128x256_S_d0_1_2 : S8x128x256.ReducesTo [0, 1, 2] S_
  bcast_S_S8x1x128 : S_.BroadcastsInDim S8x1x128 (![] : Fin 0 → Fin S8x1x128.rank)
  reducesTo_S8x1x128_S_d0_1_2 : S8x1x128.ReducesTo [0, 1, 2] S_

variable [Facts]

def fn_part2 {F : FTy → Type} [FloatOps F] (main_v32 : IVec S_ 1) (main_v33 : FVec F S8x1x128 .f32) (main_v34 : FVec F S8x1x128 .f32) : IVec S_ 1 :=
  let main_v35 : IVec S8x1x128 1 := cmpf .olt main_v33 main_v34
  let main_c_11 : IVec S_ 1 := constantI S_ 1 1#1
  let main_v36 : IVec S_ 1 := (fun x v => Host.reduce IntOp.andi x v reducesTo_S8x1x128_S_d0_1_2 h_S_) main_v35 main_c_11
  let main_v37 : IVec S_ 1 := andi main_v32 main_v36
  main_v37

def fn_part1 {F : FTy → Type} [FloatOps F] (main_arg4 : FVec F S8x128x256 .f32) (main_arg5 : FVec F S8x1x128 .f32) (main_arg6 : FVec F S8x1x128 .f32) (main_v16 : IVec S_ 1) (main_v17 : FVec F S16384x16 .f32) : IVec S_ 1 :=
  let main_v18 : FVec F S16384x16 .f32 := Host.absf main_v17
  let main_cst_4 : FVec F S_ .f32 := constant S_ .f32 0x7F800000#32
  let main_v19 : FVec F S16384x16 .f32 := broadcastInDim S16384x16 ![] bcast_S_S16384x16 main_cst_4
  let main_v20 : IVec S16384x16 1 := cmpf .olt main_v18 main_v19
  let main_c_5 : IVec S_ 1 := constantI S_ 1 1#1
  let main_v21 : IVec S_ 1 := (fun x v => Host.reduce IntOp.andi x v reducesTo_S16384x16_S_d0_1 h_S_) main_v20 main_c_5
  let main_v22 : IVec S_ 1 := andi main_v16 main_v21
  let main_v23 : FVec F S8x128x256 .f32 := Host.absf main_arg4
  let main_cst_6 : FVec F S_ .f32 := constant S_ .f32 0x7F800000#32
  let main_v24 : FVec F S8x128x256 .f32 := broadcastInDim S8x128x256 ![] bcast_S_S8x128x256 main_cst_6
  let main_v25 : IVec S8x128x256 1 := cmpf .olt main_v23 main_v24
  let main_c_7 : IVec S_ 1 := constantI S_ 1 1#1
  let main_v26 : IVec S_ 1 := (fun x v => Host.reduce IntOp.andi x v reducesTo_S8x128x256_S_d0_1_2 h_S_) main_v25 main_c_7
  let main_v27 : IVec S_ 1 := andi main_v22 main_v26
  let main_v28 : FVec F S8x1x128 .f32 := Host.absf main_arg5
  let main_cst_8 : FVec F S_ .f32 := constant S_ .f32 0x7F800000#32
  let main_v29 : FVec F S8x1x128 .f32 := broadcastInDim S8x1x128 ![] bcast_S_S8x1x128 main_cst_8
  let main_v30 : IVec S8x1x128 1 := cmpf .olt main_v28 main_v29
  let main_c_9 : IVec S_ 1 := constantI S_ 1 1#1
  let main_v31 : IVec S_ 1 := (fun x v => Host.reduce IntOp.andi x v reducesTo_S8x1x128_S_d0_1_2 h_S_) main_v30 main_c_9
  let main_v32 : IVec S_ 1 := andi main_v27 main_v31
  let main_v33 : FVec F S8x1x128 .f32 := Host.absf main_arg6
  let main_cst_10 : FVec F S_ .f32 := constant S_ .f32 0x7F800000#32
  let main_v34 : FVec F S8x1x128 .f32 := broadcastInDim S8x1x128 ![] bcast_S_S8x1x128 main_cst_10
  fn_part2 (F := F) main_v32 main_v33 main_v34

def fn {F : FTy → Type} [FloatOps F] (main_arg0 : FVec F S16384x1024 .bf16) (main_arg1 : FVec F S16384x1024 .bf16) (main_arg2 : FVec F S16384x2048 .bf16) (main_arg3 : FVec F S16384x128 .f32) (main_arg4 : FVec F S8x128x256 .f32) (main_arg5 : FVec F S8x1x128 .f32) (main_arg6 : FVec F S8x1x128 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S16384x2048 .f32 := (extf .f32 · bitsLt_bf16_f32) main_arg2
  let main_v12 : FVec F S16384x2048 .f32 := Host.absf main_v11
  let main_cst_2 : FVec F S_ .f32 := constant S_ .f32 0x7F800000#32
  let main_v13 : FVec F S16384x2048 .f32 := broadcastInDim S16384x2048 ![] bcast_S_S16384x2048 main_cst_2
  let main_v14 : IVec S16384x2048 1 := cmpf .olt main_v12 main_v13
  let main_c_3 : IVec S_ 1 := constantI S_ 1 1#1
  let main_v15 : IVec S_ 1 := (fun x v => Host.reduce IntOp.andi x v reducesTo_S16384x2048_S_d0_1 h_S_) main_v14 main_c_3
  let main_v16 : IVec S_ 1 := andi main_v10 main_v15
  let main_v17 : FVec F S16384x16 .f32 := (extractStridedSlice S16384x16 ![0, 0] · slices_S16384x128_S16384x16_0_0) main_arg3
  fn_part1 (F := F) main_arg4 main_arg5 main_arg6 main_v16 main_v17
-- ==== Pre_scores_finite.lean ====
abbrev S16384x3072 : Shape := ⟨2, ![16384, 3072]⟩
abbrev S256x3072 : Shape := ⟨2, ![256, 3072]⟩
abbrev S8x15x31 : Shape := ⟨3, ![8, 15, 31]⟩
abbrev S16384x2048 : Shape := ⟨2, ![16384, 2048]⟩
abbrev S_ : Shape := ⟨0, ![]⟩
abbrev S256x1024 : Shape := ⟨2, ![256, 1024]⟩

class Facts : Prop where
  slices_S16384x3072_S16384x2048_0_0 : S16384x3072.Slices ![0, 0] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  slices_S256x3072_S256x1024_0_1024 : S256x3072.Slices ![0, 1024] S256x1024
  bcast_S_S256x1024 : S_.BroadcastsInDim S256x1024 (![] : Fin 0 → Fin S256x1024.rank)
  reducesTo_S256x1024_S_d0_1 : S256x1024.ReducesTo [0, 1] S_
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S16384x3072 .bf16) (main_arg1 : FVec F S256x3072 .bf16) (main_arg2 : FVec F S8x15x31 .f32) : IVec S_ 1 :=
  let main_v0 : FVec F S16384x2048 .bf16 := (extractStridedSlice S16384x2048 ![0, 0] · slices_S16384x3072_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_v6 : FVec F S256x1024 .bf16 := (extractStridedSlice S256x1024 ![0, 1024] · slices_S256x3072_S256x1024_0_1024) main_arg1
  let main_v7 : FVec F S256x1024 .f32 := (extf .f32 · bitsLt_bf16_f32) main_v6
  let main_v8 : FVec F S256x1024 .f32 := Host.absf main_v7
  let main_cst_0 : FVec F S_ .f32 := constant S_ .f32 0x7F800000#32
  let main_v9 : FVec F S256x1024 .f32 := broadcastInDim S256x1024 ![] bcast_S_S256x1024 main_cst_0
  let main_v10 : IVec S256x1024 1 := cmpf .olt main_v8 main_v9
  let main_c_1 : IVec S_ 1 := constantI S_ 1 1#1
  let main_v11 : IVec S_ 1 := (fun x v => Host.reduce IntOp.andi x v reducesTo_S256x1024_S_d0_1 h_S_) main_v10 main_c_1
  let main_v12 : IVec S_ 1 := andi main_v5 main_v11
  let main_v13 : FVec F S8x15x31 .f32 := Host.absf main_arg2
  let main_cst_2 : FVec F S_ .f32 := constant S_ .f32 0x7F800000#32
  let main_v14 : FVec F S8x15x31 .f32 := broadcastInDim S8x15x31 ![] bcast_S_S8x15x31 main_cst_2
  let main_v15 : IVec S8x15x31 1 := cmpf .olt main_v13 main_v14
  let main_c_3 : IVec S_ 1 := constantI S_ 1 1#1
  let main_v16 : IVec S_ 1 := (fun x v => Host.reduce IntOp.andi x v reducesTo_S8x15x31_S_d0_1_2 h_S_) main_v15 main_c_3
  let main_v17 : IVec S_ 1 := andi main_v12 main_v16
  main_v17
-- ==== Kernel.lean ====
abbrev S16384x3072 : Shape := ⟨2, ![16384, 3072]⟩
abbrev S256x3072 : Shape := ⟨2, ![256, 3072]⟩
abbrev S8x15x31 : Shape := ⟨3, ![8, 15, 31]⟩
abbrev S64x64 : Shape := ⟨2, ![64, 64]⟩
abbrev S1x1x64x64 : Shape := ⟨4, ![1, 1, 64, 64]⟩
abbrev S_ : Shape := ⟨0, ![]⟩
abbrev S8x15x158 : Shape := ⟨3, ![8, 15, 158]⟩
abbrev S8x15x64 : Shape := ⟨3, ![8, 15, 64]⟩
abbrev S8x15x1x64 : Shape := ⟨4, ![8, 15, 1, 64]⟩
abbrev S8x15x16x64 : Shape := ⟨4, ![8, 15, 16, 64]⟩
abbrev S8x15x64x64 : Shape := ⟨4, ![8, 15, 64, 64]⟩
abbrev S8x1x64x64 : Shape := ⟨4, ![8, 1, 64, 64]⟩
abbrev S8x64x64 : Shape := ⟨3, ![8, 64, 64]⟩
abbrev S8x64x512 : Shape := ⟨3, ![8, 64, 512]⟩
abbrev S8x1x64x512 : Shape := ⟨4, ![8, 1, 64, 512]⟩
abbrev S8x8x64x512 : Shape := ⟨4, ![8, 8, 64, 512]⟩
abbrev S16384x1024 : Shape := ⟨2, ![16384, 1024]⟩
abbrev S512x128 : Shape := ⟨2, ![512, 128]⟩
abbrev S16384x128 : Shape := ⟨2, ![16384, 128]⟩
abbrev S256x128 : Shape := ⟨2, ![256, 128]⟩
abbrev S1x8x64x512 : Shape := ⟨4, ![1, 8, 64, 512]⟩
abbrev S64x128 : Shape := ⟨2, ![64, 128]⟩
abbrev S64x512 : Shape := ⟨2, ![64, 512]⟩
abbrev S1x1x64x512 : Shape := ⟨4, ![1, 1, 64, 512]⟩
abbrev S64x256 : Shape := ⟨2, ![64, 256]⟩
abbrev S64 : Shape := ⟨1, ![64]⟩
abbrev S64x1 : Shape := ⟨2, ![64, 1]⟩

abbrev nBuf : Space → Nat
  | .hbm => 292
  | .vmem => 14
  | .smem => 0
  | _ => 0

abbrev hbmTy0_0 (i : Nat) : BufTy := match i % 128 with
  | 0 => ⟨S16384x3072, .bf16⟩
  | 1 => ⟨S256x3072, .bf16⟩
  | 2 => ⟨S8x15x31, .f32⟩
  | 3 => ⟨S64x64, .i1⟩
  | 4 => ⟨S1x1x64x64, .i1⟩
  | 5 => ⟨S_, .i32⟩
  | 6 => ⟨S_, .f32⟩
  | 7 => ⟨S8x15x158, .f32⟩
  | 8 => ⟨S8x15x64, .f32⟩
  | 9 => ⟨S8x15x64, .f32⟩
  | 10 => ⟨S8x15x64, .f32⟩
  | 11 => ⟨S8x15x64, .f32⟩
  | 12 => ⟨S8x15x64, .f32⟩
  | 13 => ⟨S8x15x64, .f32⟩
  | 14 => ⟨S8x15x64, .f32⟩
  | 15 => ⟨S8x15x64, .f32⟩
  | 16 => ⟨S8x15x64, .f32⟩
  | 17 => ⟨S8x15x64, .f32⟩
  | 18 => ⟨S8x15x64, .f32⟩
  | 19 => ⟨S8x15x64, .f32⟩
  | 20 => ⟨S8x15x64, .f32⟩
  | 21 => ⟨S8x15x64, .f32⟩
  | 22 => ⟨S8x15x64, .f32⟩
  | 23 => ⟨S8x15x64, .f32⟩
  | 24 => ⟨S8x15x64, .f32⟩
  | 25 => ⟨S8x15x64, .f32⟩
  | 26 => ⟨S8x15x64, .f32⟩
  | 27 => ⟨S8x15x64, .f32⟩
  | 28 => ⟨S8x15x64, .f32⟩
  | 29 => ⟨S8x15x64, .f32⟩
  | 30 => ⟨S8x15x64, .f32⟩
  | 31 => ⟨S8x15x64, .f32⟩
  | 32 => ⟨S8x15x64, .f32⟩
  | 33 => ⟨S8x15x64, .f32⟩
  | 34 => ⟨S8x15x64, .f32⟩
  | 35 => ⟨S8x15x64, .f32⟩
  | 36 => ⟨S8x15x64, .f32⟩
  | 37 => ⟨S8x15x64, .f32⟩
  | 38 => ⟨S8x15x64, .f32⟩
  | 39 => ⟨S8x15x64, .f32⟩
  | 40 => ⟨S8x15x64, .f32⟩
  | 41 => ⟨S8x15x64, .f32⟩
  | 42 => ⟨S8x15x64, .f32⟩
  | 43 => ⟨S8x15x64, .f32⟩
  | 44 => ⟨S8x15x64, .f32⟩
  | 45 => ⟨S8x15x64, .f32⟩
  | 46 => ⟨S8x15x64, .f32⟩
  | 47 => ⟨S8x15x64, .f32⟩
  | 48 => ⟨S8x15x64, .f32⟩
  | 49 => ⟨S8x15x64, .f32⟩
  | 50 => ⟨S8x15x64, .f32⟩
  | 51 => ⟨S8x15x64, .f32⟩
  | 52 => ⟨S8x15x64, .f32⟩
  | 53 => ⟨S8x15x64, .f32⟩
  | 54 => ⟨S8x15x64, .f32⟩
  | 55 => ⟨S8x15x64, .f32⟩
  | 56 => ⟨S8x15x64, .f32⟩
  | 57 => ⟨S8x15x64, .f32⟩
  | 58 => ⟨S8x15x64, .f32⟩
  | 59 => ⟨S8x15x64, .f32⟩
  | 60 => ⟨S8x15x64, .f32⟩
  | 61 => ⟨S8x15x64, .f32⟩
  | 62 => ⟨S8x15x64, .f32⟩
  | 63 => ⟨S8x15x64, .f32⟩
  | 64 => ⟨S8x15x64, .f32⟩
  | 65 => ⟨S8x15x64, .f32⟩
  | 66 => ⟨S8x15x64, .f32⟩
  | 67 => ⟨S8x15x64, .f32⟩
  | 68 => ⟨S8x15x64, .f32⟩
  | 69 => ⟨S8x15x64, .f32⟩
  | 70 => ⟨S8x15x64, .f32⟩
  | 71 => ⟨S8x15x64, .f32⟩
  | 72 => ⟨S8x15x1x64, .f32⟩
  | 73 => ⟨S8x15x1x64, .f32⟩
  | 74 => ⟨S8x15x1x64, .f32⟩
  | 75 => ⟨S8x15x1x64, .f32⟩
  | 76 => ⟨S8x15x1x64, .f32⟩
  | 77 => ⟨S8x15x1x64, .f32⟩
  | 78 => ⟨S8x15x1x64, .f32⟩
  | 79 => ⟨S8x15x1x64, .f32⟩
  | 80 => ⟨S8x15x1x64, .f32⟩
  | 81 => ⟨S8x15x1x64, .f32⟩
  | 82 => ⟨S8x15x1x64, .f32⟩
  | 83 => ⟨S8x15x1x64, .f32⟩
  | 84 => ⟨S8x15x1x64, .f32⟩
  | 85 => ⟨S8x15x1x64, .f32⟩
  | 86 => ⟨S8x15x1x64, .f32⟩
  | 87 => ⟨S8x15x1x64, .f32⟩
  | 88 => ⟨S8x15x1x64, .f32⟩
  | 89 => ⟨S8x15x1x64, .f32⟩
  | 90 => ⟨S8x15x1x64, .f32⟩
  | 91 => ⟨S8x15x1x64, .f32⟩
  | 92 => ⟨S8x15x1x64, .f32⟩
  | 93 => ⟨S8x15x1x64, .f32⟩
  | 94 => ⟨S8x15x1x64, .f32⟩
  | 95 => ⟨S8x15x1x64, .f32⟩
  | 96 => ⟨S8x15x1x64, .f32⟩
  | 97 => ⟨S8x15x1x64, .f32⟩
  | 98 => ⟨S8x15x1x64, .f32⟩
  | 99 => ⟨S8x15x1x64, .f32⟩
  | 100 => ⟨S8x15x1x64, .f32⟩
  | 101 => ⟨S8x15x1x64, .f32⟩
  | 102 => ⟨S8x15x1x64, .f32⟩
  | 103 => ⟨S8x15x1x64, .f32⟩
  | 104 => ⟨S8x15x1x64, .f32⟩
  | 105 => ⟨S8x15x1x64, .f32⟩
  | 106 => ⟨S8x15x1x64, .f32⟩
  | 107 => ⟨S8x15x1x64, .f32⟩
  | 108 => ⟨S8x15x1x64, .f32⟩
  | 109 => ⟨S8x15x1x64, .f32⟩
  | 110 => ⟨S8x15x1x64, .f32⟩
  | 111 => ⟨S8x15x1x64, .f32⟩
  | 112 => ⟨S8x15x1x64, .f32⟩
  | 113 => ⟨S8x15x1x64, .f32⟩
  | 114 => ⟨S8x15x1x64, .f32⟩
  | 115 => ⟨S8x15x1x64, .f32⟩
  | 116 => ⟨S8x15x1x64, .f32⟩
  | 117 => ⟨S8x15x1x64, .f32⟩
  | 118 => ⟨S8x15x1x64, .f32⟩
  | 119 => ⟨S8x15x1x64, .f32⟩
  | 120 => ⟨S8x15x1x64, .f32⟩
  | 121 => ⟨S8x15x1x64, .f32⟩
  | 122 => ⟨S8x15x1x64, .f32⟩
  | 123 => ⟨S8x15x1x64, .f32⟩
  | 124 => ⟨S8x15x1x64, .f32⟩
  | 125 => ⟨S8x15x1x64, .f32⟩
  | 126 => ⟨S8x15x1x64, .f32⟩
  | 127 => ⟨S8x15x1x64, .f32⟩
  | _ => ⟨S16384x3072, .bf16⟩

abbrev hbmTy0_1 (i : Nat) : BufTy := match i % 128 with
  | 0 => ⟨S8x15x1x64, .f32⟩
  | 1 => ⟨S8x15x1x64, .f32⟩
  | 2 => ⟨S8x15x1x64, .f32⟩
  | 3 => ⟨S8x15x1x64, .f32⟩
  | 4 => ⟨S8x15x1x64, .f32⟩
  | 5 => ⟨S8x15x1x64, .f32⟩
  | 6 => ⟨S8x15x1x64, .f32⟩
  | 7 => ⟨S8x15x1x64, .f32⟩
  | 8 => ⟨S8x15x16x64, .f32⟩
  | 9 => ⟨S8x15x16x64, .f32⟩
  | 10 => ⟨S8x15x16x64, .f32⟩
  | 11 => ⟨S8x15x16x64, .f32⟩
  | 12 => ⟨S8x15x64x64, .f32⟩
  | 13 => ⟨S_, .f32⟩
  | 14 => ⟨S_, .f32⟩
  | 15 => ⟨S8x15x64x64, .i1⟩
  | 16 => ⟨S8x15x64x64, .f32⟩
  | 17 => ⟨S8x15x64x64, .f32⟩
  | 18 => ⟨S8x1x64x64, .f32⟩
  | 19 => ⟨S8x64x64, .f32⟩
  | 20 => ⟨S8x1x64x64, .f32⟩
  | 21 => ⟨S8x64x64, .f32⟩
  | 22 => ⟨S8x1x64x64, .f32⟩
  | 23 => ⟨S8x64x64, .f32⟩
  | 24 => ⟨S8x1x64x64, .f32⟩
  | 25 => ⟨S8x64x64, .f32⟩
  | 26 => ⟨S8x1x64x64, .f32⟩
  | 27 => ⟨S8x64x64, .f32⟩
  | 28 => ⟨S8x1x64x64, .f32⟩
  | 29 => ⟨S8x64x64, .f32⟩
  | 30 => ⟨S8x1x64x64, .f32⟩
  | 31 => ⟨S8x64x64, .f32⟩
  | 32 => ⟨S8x1x64x64, .f32⟩
  | 33 => ⟨S8x64x64, .f32⟩
  | 34 => ⟨S8x64x512, .f32⟩
  | 35 => ⟨S8x1x64x64, .f32⟩
  | 36 => ⟨S8x64x64, .f32⟩
  | 37 => ⟨S8x1x64x64, .f32⟩
  | 38 => ⟨S8x64x64, .f32⟩
  | 39 => ⟨S8x1x64x64, .f32⟩
  | 40 => ⟨S8x64x64, .f32⟩
  | 41 => ⟨S8x1x64x64, .f32⟩
  | 42 => ⟨S8x64x64, .f32⟩
  | 43 => ⟨S8x1x64x64, .f32⟩
  | 44 => ⟨S8x64x64, .f32⟩
  | 45 => ⟨S8x1x64x64, .f32⟩
  | 46 => ⟨S8x64x64, .f32⟩
  | 47 => ⟨S8x1x64x64, .f32⟩
  | 48 => ⟨S8x64x64, .f32⟩
  | 49 => ⟨S8x1x64x64, .f32⟩
  | 50 => ⟨S8x64x64, .f32⟩
  | 51 => ⟨S8x64x512, .f32⟩
  | 52 => ⟨S8x1x64x64, .f32⟩
  | 53 => ⟨S8x64x64, .f32⟩
  | 54 => ⟨S8x1x64x64, .f32⟩
  | 55 => ⟨S8x64x64, .f32⟩
  | 56 => ⟨S8x1x64x64, .f32⟩
  | 57 => ⟨S8x64x64, .f32⟩
  | 58 => ⟨S8x1x64x64, .f32⟩
  | 59 => ⟨S8x64x64, .f32⟩
  | 60 => ⟨S8x1x64x64, .f32⟩
  | 61 => ⟨S8x64x64, .f32⟩
  | 62 => ⟨S8x1x64x64, .f32⟩
  | 63 => ⟨S8x64x64, .f32⟩
  | 64 => ⟨S8x1x64x64, .f32⟩
  | 65 => ⟨S8x64x64, .f32⟩
  | 66 => ⟨S8x1x64x64, .f32⟩
  | 67 => ⟨S8x64x64, .f32⟩
  | 68 => ⟨S8x64x512, .f32⟩
  | 69 => ⟨S8x1x64x64, .f32⟩
  | 70 => ⟨S8x64x64, .f32⟩
  | 71 => ⟨S8x1x64x64, .f32⟩
  | 72 => ⟨S8x64x64, .f32⟩
  | 73 => ⟨S8x1x64x64, .f32⟩
  | 74 => ⟨S8x64x64, .f32⟩
  | 75 => ⟨S8x1x64x64, .f32⟩
  | 76 => ⟨S8x64x64, .f32⟩
  | 77 => ⟨S8x1x64x64, .f32⟩
  | 78 => ⟨S8x64x64, .f32⟩
  | 79 => ⟨S8x1x64x64, .f32⟩
  | 80 => ⟨S8x64x64, .f32⟩
  | 81 => ⟨S8x1x64x64, .f32⟩
  | 82 => ⟨S8x64x64, .f32⟩
  | 83 => ⟨S8x1x64x64, .f32⟩
  | 84 => ⟨S8x64x64, .f32⟩
  | 85 => ⟨S8x64x512, .f32⟩
  | 86 => ⟨S8x1x64x64, .f32⟩
  | 87 => ⟨S8x64x64, .f32⟩
  | 88 => ⟨S8x1x64x64, .f32⟩
  | 89 => ⟨S8x64x64, .f32⟩
  | 90 => ⟨S8x1x64x64, .f32⟩
  | 91 => ⟨S8x64x64, .f32⟩
  | 92 => ⟨S8x1x64x64, .f32⟩
  | 93 => ⟨S8x64x64, .f32⟩
  | 94 => ⟨S8x1x64x64, .f32⟩
  | 95 => ⟨S8x64x64, .f32⟩
  | 96 => ⟨S8x1x64x64, .f32⟩
  | 97 => ⟨S8x64x64, .f32⟩
  | 98 => ⟨S8x1x64x64, .f32⟩
  | 99 => ⟨S8x64x64, .f32⟩
  | 100 => ⟨S8x1x64x64, .f32⟩
  | 101 => ⟨S8x64x64, .f32⟩
  | 102 => ⟨S8x64x512, .f32⟩
  | 103 => ⟨S8x1x64x64, .f32⟩
  | 104 => ⟨S8x64x64, .f32⟩
  | 105 => ⟨S8x1x64x64, .f32⟩
  | 106 => ⟨S8x64x64, .f32⟩
  | 107 => ⟨S8x1x64x64, .f32⟩
  | 108 => ⟨S8x64x64, .f32⟩
  | 109 => ⟨S8x1x64x64, .f32⟩
  | 110 => ⟨S8x64x64, .f32⟩
  | 111 => ⟨S8x1x64x64, .f32⟩
  | 112 => ⟨S8x64x64, .f32⟩
  | 113 => ⟨S8x1x64x64, .f32⟩
  | 114 => ⟨S8x64x64, .f32⟩
  | 115 => ⟨S8x1x64x64, .f32⟩
  | 116 => ⟨S8x64x64, .f32⟩
  | 117 => ⟨S8x1x64x64, .f32⟩
  | 118 => ⟨S8x64x64, .f32⟩
  | 119 => ⟨S8x64x512, .f32⟩
  | 120 => ⟨S8x1x64x64, .f32⟩
  | 121 => ⟨S8x64x64, .f32⟩
  | 122 => ⟨S8x1x64x64, .f32⟩
  | 123 => ⟨S8x64x64, .f32⟩
  | 124 => ⟨S8x1x64x64, .f32⟩
  | 125 => ⟨S8x64x64, .f32⟩
  | 126 => ⟨S8x1x64x64, .f32⟩
  | 127 => ⟨S8x64x64, .f32⟩
  | _ => ⟨S16384x3072, .bf16⟩

abbrev hbmTy0_2 (i : Nat) : BufTy := match i % 128 with
  | 0 => ⟨S8x1x64x64, .f32⟩
  | 1 => ⟨S8x64x64, .f32⟩
  | 2 => ⟨S8x1x64x64, .f32⟩
  | 3 => ⟨S8x64x64, .f32⟩
  | 4 => ⟨S8x1x64x64, .f32⟩
  | 5 => ⟨S8x64x64, .f32⟩
  | 6 => ⟨S8x1x64x64, .f32⟩
  | 7 => ⟨S8x64x64, .f32⟩
  | 8 => ⟨S8x64x512, .f32⟩
  | 9 => ⟨S8x1x64x64, .f32⟩
  | 10 => ⟨S8x64x64, .f32⟩
  | 11 => ⟨S8x1x64x64, .f32⟩
  | 12 => ⟨S8x64x64, .f32⟩
  | 13 => ⟨S8x1x64x64, .f32⟩
  | 14 => ⟨S8x64x64, .f32⟩
  | 15 => ⟨S8x1x64x64, .f32⟩
  | 16 => ⟨S8x64x64, .f32⟩
  | 17 => ⟨S8x1x64x64, .f32⟩
  | 18 => ⟨S8x64x64, .f32⟩
  | 19 => ⟨S8x1x64x64, .f32⟩
  | 20 => ⟨S8x64x64, .f32⟩
  | 21 => ⟨S8x1x64x64, .f32⟩
  | 22 => ⟨S8x64x64, .f32⟩
  | 23 => ⟨S8x1x64x64, .f32⟩
  | 24 => ⟨S8x64x64, .f32⟩
  | 25 => ⟨S8x64x512, .f32⟩
  | 26 => ⟨S8x1x64x512, .f32⟩
  | 27 => ⟨S8x1x64x512, .f32⟩
  | 28 => ⟨S8x1x64x512, .f32⟩
  | 29 => ⟨S8x1x64x512, .f32⟩
  | 30 => ⟨S8x1x64x512, .f32⟩
  | 31 => ⟨S8x1x64x512, .f32⟩
  | 32 => ⟨S8x1x64x512, .f32⟩
  | 33 => ⟨S8x1x64x512, .f32⟩
  | 34 => ⟨S8x8x64x512, .f32⟩
  | 35 => ⟨S16384x1024, .bf16⟩
  | _ => ⟨S16384x3072, .bf16⟩

abbrev hbmTy (i : Nat) : BufTy := match i / 128 with
  | 0 => hbmTy0_0 i
  | 1 => hbmTy0_1 i
  | 2 => hbmTy0_2 i
  | _ => ⟨S16384x3072, .bf16⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1x8x64x512, .f32⟩
  | .local _ .vmem, ⟨11, _⟩ => ⟨S1x8x64x512, .f32⟩
  | .local _ .vmem, ⟨12, _⟩ => ⟨S512x128, .bf16⟩
  | .local _ .vmem, ⟨13, _⟩ => ⟨S512x128, .bf16⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_cst : Ref sig .tc := ⟨.hbm, 141, rfl⟩
abbrev main_call1_v0 : Ref sig .tc := ⟨.hbm, 142, rfl⟩
abbrev main_call1_v1 : Ref sig .tc := ⟨.hbm, 143, rfl⟩
abbrev main_call1_v2 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_v246 : Ref sig .tc := ⟨.hbm, 256, rfl⟩
abbrev main_v247 : Ref sig .tc := ⟨.hbm, 257, rfl⟩
abbrev main_v248 : Ref sig .tc := ⟨.hbm, 258, rfl⟩
abbrev main_v249 : Ref sig .tc := ⟨.hbm, 259, rfl⟩
abbrev main_v250 : Ref sig .tc := ⟨.hbm, 260, rfl⟩
abbrev main_v251 : Ref sig .tc := ⟨.hbm, 261, rfl⟩
abbrev main_v252 : Ref sig .tc := ⟨.hbm, 262, rfl⟩
abbrev main_v253 : Ref sig .tc := ⟨.hbm, 263, rfl⟩
abbrev main_v254 : Ref sig .tc := ⟨.hbm, 264, rfl⟩
abbrev main_v255 : Ref sig .tc := ⟨.hbm, 265, rfl⟩
abbrev main_v256 : Ref sig .tc := ⟨.hbm, 266, rfl⟩
abbrev main_v257 : Ref sig .tc := ⟨.hbm, 267, rfl⟩
abbrev main_v258 : Ref sig .tc := ⟨.hbm, 268, rfl⟩
abbrev main_v259 : Ref sig .tc := ⟨.hbm, 269, rfl⟩
abbrev main_v260 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_v264 : Ref sig .tc := ⟨.hbm, 274, rfl⟩
abbrev main_v265 : Ref sig .tc := ⟨.hbm, 275, rfl⟩
abbrev main_v266 : Ref sig .tc := ⟨.hbm, 276, rfl⟩
abbrev main_v267 : Ref sig .tc := ⟨.hbm, 277, rfl⟩
abbrev main_v268 : Ref sig .tc := ⟨.hbm, 278, rfl⟩
abbrev main_v269 : Ref sig .tc := ⟨.hbm, 279, rfl⟩
abbrev main_v270 : Ref sig .tc := ⟨.hbm, 280, rfl⟩
abbrev main_v271 : Ref sig .tc := ⟨.hbm, 281, rfl⟩
abbrev main_v272 : Ref sig .tc := ⟨.hbm, 282, rfl⟩
abbrev main_v273 : Ref sig .tc := ⟨.hbm, 283, rfl⟩
abbrev main_v274 : Ref sig .tc := ⟨.hbm, 284, rfl⟩
abbrev main_v275 : Ref sig .tc := ⟨.hbm, 285, rfl⟩
abbrev main_v276 : Ref sig .tc := ⟨.hbm, 286, rfl⟩
abbrev main_v277 : Ref sig .tc := ⟨.hbm, 287, rfl⟩
abbrev main_v278 : Ref sig .tc := ⟨.hbm, 288, rfl⟩
abbrev main_v279 : Ref sig .tc := ⟨.hbm, 289, rfl⟩
abbrev main_v280 : Ref sig .tc := ⟨.hbm, 290, rfl⟩
abbrev main_v281 : Ref sig .tc := ⟨.hbm, 291, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let c248_i32 : BitVec 32 := 248#32
  let c0_i32_3 : BitVec 32 := 0#32
  let arg1 : BitVec 32 := BitVec.ofNat 32 (i 1).val
  let c8_i32 : BitVec 32 := 8#32
  let v2 : BitVec 32 := Scalar.muli arg1 c8_i32
  let c0_i32 : BitVec 32 := 0#32
  let v3 : BitVec 32 := Scalar.addi v2 c0_i32
  let c4_i32 : BitVec 32 := 4#32
  let v4 : BitVec 32 := Scalar.subi v3 c4_i32
  let v5 : BitVec 32 := Scalar.maxsi c0_i32_3 v4
  let v6 : BitVec 32 := Scalar.minsi c248_i32 v5
  let c64_i32 : BitVec 32 := 64#32
  let v8 : BitVec 32 := Scalar.muli v6 c64_i32
  v8
def k0_off1 (i : grid0.Coords) (c0_i32 : BitVec 32) : Fin 2 → Nat :=
  let c248_i32 : BitVec 32 := 248#32
  let c0_i32_3 : BitVec 32 := 0#32
  let arg1 : BitVec 32 := BitVec.ofNat 32 (i 1).val
  let c8_i32 : BitVec 32 := 8#32
  let v2 : BitVec 32 := Scalar.muli arg1 c8_i32
  let v3 : BitVec 32 := Scalar.addi v2 c0_i32
  let c4_i32 : BitVec 32 := 4#32
  let v4 : BitVec 32 := Scalar.subi v3 c4_i32
  let v5 : BitVec 32 := Scalar.maxsi c0_i32_3 v4
  let v6 : BitVec 32 := Scalar.minsi c248_i32 v5
  let c64_i32 : BitVec 32 := 64#32
  let v8 : BitVec 32 := Scalar.muli v6 c64_i32
  let v9 : BitVec 32 := v8
  let v10 : Index := Scalar.indexCast v9
  let c0_4 : Index := 0#32
  ![v10.toNat, 0]
def k0_off2 (i : grid0.Coords) (c0_i32 : BitVec 32) : Fin 4 → Nat :=
  let c0_9 : Index := 0#32
  let arg1 : BitVec 32 := BitVec.ofNat 32 (i 1).val
  let c8_i32 : BitVec 32 := 8#32
  let v2 : BitVec 32 := Scalar.muli arg1 c8_i32
  let v3 : BitVec 32 := Scalar.addi v2 c0_i32
  let c248_i32 : BitVec 32 := 248#32
  let c0_i32_3 : BitVec 32 := 0#32
  let c4_i32 : BitVec 32 := 4#32
  let v4 : BitVec 32 := Scalar.subi v3 c4_i32
  let v5 : BitVec 32 := Scalar.maxsi c0_i32_3 v4
  let v6 : BitVec 32 := Scalar.minsi c248_i32 v5
  let v7 : BitVec 32 := Scalar.subi v3 v6
  let v18 : Index := Scalar.indexCast v7
  let c0_10 : Index := 0#32
  let c0_11 : Index := 0#32
  ![0, v18.toNat, 0, 0]
def k0_mult2 (i : grid0.Coords) : BitVec 32 :=
  let c248_i32_25 : BitVec 32 := 248#32
  let c0_i32_24 : BitVec 32 := 0#32
  let arg1 : BitVec 32 := BitVec.ofNat 32 (i 1).val
  let c8_i32_22 : BitVec 32 := 8#32
  let v50 : BitVec 32 := Scalar.muli arg1 c8_i32_22
  let c1_i32 : BitVec 32 := 1#32
  let v51 : BitVec 32 := Scalar.addi v50 c1_i32
  let c4_i32_23 : BitVec 32 := 4#32
  let v52 : BitVec 32 := Scalar.subi v51 c4_i32_23
  let v53 : BitVec 32 := Scalar.maxsi c0_i32_24 v52
  let v54 : BitVec 32 := Scalar.minsi c248_i32_25 v53
  let c64_i32_26 : BitVec 32 := 64#32
  let v56 : BitVec 32 := Scalar.muli v54 c64_i32_26
  v56
def k0_mult3 (i : grid0.Coords) : BitVec 32 :=
  let c248_i32_48 : BitVec 32 := 248#32
  let c0_i32_47 : BitVec 32 := 0#32
  let arg1 : BitVec 32 := BitVec.ofNat 32 (i 1).val
  let c8_i32_45 : BitVec 32 := 8#32
  let v98 : BitVec 32 := Scalar.muli arg1 c8_i32_45
  let c2_i32 : BitVec 32 := 2#32
  let v99 : BitVec 32 := Scalar.addi v98 c2_i32
  let c4_i32_46 : BitVec 32 := 4#32
  let v100 : BitVec 32 := Scalar.subi v99 c4_i32_46
  let v101 : BitVec 32 := Scalar.maxsi c0_i32_47 v100
  let v102 : BitVec 32 := Scalar.minsi c248_i32_48 v101
  let c64_i32_49 : BitVec 32 := 64#32
  let v104 : BitVec 32 := Scalar.muli v102 c64_i32_49
  v104
def k0_mult4 (i : grid0.Coords) : BitVec 32 :=
  let c248_i32_71 : BitVec 32 := 248#32
  let c0_i32_70 : BitVec 32 := 0#32
  let arg1 : BitVec 32 := BitVec.ofNat 32 (i 1).val
  let c8_i32_68 : BitVec 32 := 8#32
  let v146 : BitVec 32 := Scalar.muli arg1 c8_i32_68
  let c3_i32 : BitVec 32 := 3#32
  let v147 : BitVec 32 := Scalar.addi v146 c3_i32
  let c4_i32_69 : BitVec 32 := 4#32
  let v148 : BitVec 32 := Scalar.subi v147 c4_i32_69
  let v149 : BitVec 32 := Scalar.maxsi c0_i32_70 v148
  let v150 : BitVec 32 := Scalar.minsi c248_i32_71 v149
  let c64_i32_72 : BitVec 32 := 64#32
  let v152 : BitVec 32 := Scalar.muli v150 c64_i32_72
  v152
def k0_mult5 (i : grid0.Coords) : BitVec 32 :=
  let c248_i32_95 : BitVec 32 := 248#32
  let c0_i32_94 : BitVec 32 := 0#32
  let arg1 : BitVec 32 := BitVec.ofNat 32 (i 1).val
  let c8_i32_91 : BitVec 32 := 8#32
  let v194 : BitVec 32 := Scalar.muli arg1 c8_i32_91
  let c4_i32_92 : BitVec 32 := 4#32
  let v195 : BitVec 32 := Scalar.addi v194 c4_i32_92
  let c4_i32_93 : BitVec 32 := 4#32
  let v196 : BitVec 32 := Scalar.subi v195 c4_i32_93
  let v197 : BitVec 32 := Scalar.maxsi c0_i32_94 v196
  let v198 : BitVec 32 := Scalar.minsi c248_i32_95 v197
  let c64_i32_96 : BitVec 32 := 64#32
  let v200 : BitVec 32 := Scalar.muli v198 c64_i32_96
  v200
def k0_mult6 (i : grid0.Coords) : BitVec 32 :=
  let c248_i32_118 : BitVec 32 := 248#32
  let c0_i32_117 : BitVec 32 := 0#32
  let arg1 : BitVec 32 := BitVec.ofNat 32 (i 1).val
  let c8_i32_115 : BitVec 32 := 8#32
  let v242 : BitVec 32 := Scalar.muli arg1 c8_i32_115
  let c5_i32 : BitVec 32 := 5#32
  let v243 : BitVec 32 := Scalar.addi v242 c5_i32
  let c4_i32_116 : BitVec 32 := 4#32
  let v244 : BitVec 32 := Scalar.subi v243 c4_i32_116
  let v245 : BitVec 32 := Scalar.maxsi c0_i32_117 v244
  let v246 : BitVec 32 := Scalar.minsi c248_i32_118 v245
  let c64_i32_119 : BitVec 32 := 64#32
  let v248 : BitVec 32 := Scalar.muli v246 c64_i32_119
  v248
def k0_mult7 (i : grid0.Coords) : BitVec 32 :=
  let c248_i32_141 : BitVec 32 := 248#32
  let c0_i32_140 : BitVec 32 := 0#32
  let arg1 : BitVec 32 := BitVec.ofNat 32 (i 1).val
  let c8_i32_138 : BitVec 32 := 8#32
  let v290 : BitVec 32 := Scalar.muli arg1 c8_i32_138
  let c6_i32 : BitVec 32 := 6#32
  let v291 : BitVec 32 := Scalar.addi v290 c6_i32
  let c4_i32_139 : BitVec 32 := 4#32
  let v292 : BitVec 32 := Scalar.subi v291 c4_i32_139
  let v293 : BitVec 32 := Scalar.maxsi c0_i32_140 v292
  let v294 : BitVec 32 := Scalar.minsi c248_i32_141 v293
  let c64_i32_142 : BitVec 32 := 64#32
  let v296 : BitVec 32 := Scalar.muli v294 c64_i32_142
  v296
def k0_mult8 (i : grid0.Coords) : BitVec 32 :=
  let c248_i32_164 : BitVec 32 := 248#32
  let c0_i32_163 : BitVec 32 := 0#32
  let arg1 : BitVec 32 := BitVec.ofNat 32 (i 1).val
  let c8_i32_161 : BitVec 32 := 8#32
  let v338 : BitVec 32 := Scalar.muli arg1 c8_i32_161
  let c7_i32 : BitVec 32 := 7#32
  let v339 : BitVec 32 := Scalar.addi v338 c7_i32
  let c4_i32_162 : BitVec 32 := 4#32
  let v340 : BitVec 32 := Scalar.subi v339 c4_i32_162
  let v341 : BitVec 32 := Scalar.maxsi c0_i32_163 v340
  let v342 : BitVec 32 := Scalar.minsi c248_i32_164 v341
  let c64_i32_165 : BitVec 32 := 64#32
  let v344 : BitVec 32 := Scalar.muli v342 c64_i32_165
  v344
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x3072 : Shape := ⟨2, ![16384, 3072]⟩
abbrev S256x3072 : Shape := ⟨2, ![256, 3072]⟩
abbrev S8x15x31 : Shape := ⟨3, ![8, 15, 31]⟩
abbrev S16384x3x8x128 : Shape := ⟨4, ![16384, 3, 8, 128]⟩
abbrev S256x3x8x128 : Shape := ⟨4, ![256, 3, 8, 128]⟩
abbrev S16384x1x8x128 : Shape := ⟨4, ![16384, 1, 8, 128]⟩
abbrev S16384x8x128 : Shape := ⟨3, ![16384, 8, 128]⟩
abbrev S256x64x8x128 : Shape := ⟨4, ![256, 64, 8, 128]⟩
abbrev S256x1x8x128 : Shape := ⟨4, ![256, 1, 8, 128]⟩
abbrev S256x8x128 : Shape := ⟨3, ![256, 8, 128]⟩
abbrev S256 : Shape := ⟨1, ![256]⟩
abbrev S64 : Shape := ⟨1, ![64]⟩
abbrev S_ : Shape := ⟨0, ![]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S256x1x8x1 : Shape := ⟨4, ![256, 1, 8, 1]⟩
abbrev S1x64x1x16 : Shape := ⟨4, ![1, 64, 1, 16]⟩
abbrev S256x64x8x16 : Shape := ⟨4, ![256, 64, 8, 16]⟩
abbrev S256x64x8x16x1 : Shape := ⟨5, ![256, 64, 8, 16, 1]⟩
abbrev S256x64x8x16x2 : Shape := ⟨5, ![256, 64, 8, 16, 2]⟩
abbrev S256x64x8x16x8x128 : Shape := ⟨6, ![256, 64, 8, 16, 8, 128]⟩
abbrev S8x256x64x8x16 : Shape := ⟨5, ![8, 256, 64, 8, 16]⟩
abbrev S8x256x64x256 : Shape := ⟨4, ![8, 256, 64, 256]⟩
abbrev S8x256x64x128 : Shape := ⟨4, ![8, 256, 64, 128]⟩
abbrev S8x256x64x384 : Shape := ⟨4, ![8, 256, 64, 384]⟩
abbrev S8x256x64 : Shape := ⟨3, ![8, 256, 64]⟩
abbrev S8x256x64x1 : Shape := ⟨4, ![8, 256, 64, 1]⟩
abbrev S8x128x256x64 : Shape := ⟨4, ![8, 128, 256, 64]⟩
abbrev S16384x1024 : Shape := ⟨2, ![16384, 1024]⟩

abbrev nBuf : Space → Nat
  | .hbm => 130
  | .vmem => 0
  | .smem => 0
  | _ => 0

abbrev hbmTy0_0 (i : Nat) : BufTy := match i % 128 with
  | 0 => ⟨S16384x3072, .bf16⟩
  | 1 => ⟨S256x3072, .bf16⟩
  | 2 => ⟨S8x15x31, .f32⟩
  | 3 => ⟨S16384x3072, .f32⟩
  | 4 => ⟨S16384x3x8x128, .f32⟩
  | 5 => ⟨S256x3072, .f32⟩
  | 6 => ⟨S256x3x8x128, .f32⟩
  | 7 => ⟨S16384x1x8x128, .f32⟩
  | 8 => ⟨S16384x8x128, .f32⟩
  | 9 => ⟨S256x64x8x128, .f32⟩
  | 10 => ⟨S16384x1x8x128, .f32⟩
  | 11 => ⟨S16384x8x128, .f32⟩
  | 12 => ⟨S256x64x8x128, .f32⟩
  | 13 => ⟨S16384x1x8x128, .f32⟩
  | 14 => ⟨S16384x8x128, .f32⟩
  | 15 => ⟨S256x64x8x128, .f32⟩
  | 16 => ⟨S256x1x8x128, .f32⟩
  | 17 => ⟨S256x8x128, .f32⟩
  | 18 => ⟨S256x1x8x128, .f32⟩
  | 19 => ⟨S256x8x128, .f32⟩
  | 20 => ⟨S256, .i32⟩
  | 21 => ⟨S64, .i32⟩
  | 22 => ⟨S_, .i32⟩
  | 23 => ⟨S256, .i32⟩
  | 24 => ⟨S256, .i32⟩
  | 25 => ⟨S_, .i32⟩
  | 26 => ⟨S_, .i32⟩
  | 27 => ⟨S_, .i32⟩
  | 28 => ⟨S256, .i32⟩
  | 29 => ⟨S256, .i32⟩
  | 30 => ⟨S_, .i32⟩
  | 31 => ⟨S256, .i32⟩
  | 32 => ⟨S256, .i32⟩
  | 33 => ⟨S256x1, .i32⟩
  | 34 => ⟨S8, .i32⟩
  | 35 => ⟨S1x8, .i32⟩
  | 36 => ⟨S256x8, .i32⟩
  | 37 => ⟨S256x8, .i32⟩
  | 38 => ⟨S256x8, .i32⟩
  | 39 => ⟨S_, .i32⟩
  | 40 => ⟨S64, .i32⟩
  | 41 => ⟨S64, .i32⟩
  | 42 => ⟨S_, .i32⟩
  | 43 => ⟨S_, .i32⟩
  | 44 => ⟨S_, .i32⟩
  | 45 => ⟨S64, .i32⟩
  | 46 => ⟨S64, .i32⟩
  | 47 => ⟨S_, .i32⟩
  | 48 => ⟨S64, .i32⟩
  | 49 => ⟨S64, .i32⟩
  | 50 => ⟨S64x1, .i32⟩
  | 51 => ⟨S16, .i32⟩
  | 52 => ⟨S1x16, .i32⟩
  | 53 => ⟨S64x16, .i32⟩
  | 54 => ⟨S64x16, .i32⟩
  | 55 => ⟨S64x16, .i32⟩
  | 56 => ⟨S256x1, .i32⟩
  | 57 => ⟨S256x8, .i32⟩
  | 58 => ⟨S256x8, .i32⟩
  | 59 => ⟨S_, .i32⟩
  | 60 => ⟨S256x8, .i32⟩
  | 61 => ⟨S256x8, .i32⟩
  | 62 => ⟨S_, .i32⟩
  | 63 => ⟨S256x8, .i32⟩
  | 64 => ⟨S256x8, .i32⟩
  | 65 => ⟨S64x1, .i32⟩
  | 66 => ⟨S64x16, .i32⟩
  | 67 => ⟨S64x16, .i32⟩
  | 68 => ⟨S_, .i32⟩
  | 69 => ⟨S64x16, .i32⟩
  | 70 => ⟨S64x16, .i32⟩
  | 71 => ⟨S_, .i32⟩
  | 72 => ⟨S64x16, .i32⟩
  | 73 => ⟨S64x16, .i32⟩
  | 74 => ⟨S256x1x8x1, .i32⟩
  | 75 => ⟨S1x64x1x16, .i32⟩
  | 76 => ⟨S256x64x8x16, .i32⟩
  | 77 => ⟨S256x64x8x16, .i32⟩
  | 78 => ⟨S256x64x8x16x1, .i32⟩
  | 79 => ⟨S256x64x8x16x1, .i32⟩
  | 80 => ⟨S256x64x8x16x2, .i32⟩
  | 81 => ⟨S256x64x8x16x8x128, .f32⟩
  | 82 => ⟨S256x64x8x16, .i32⟩
  | 83 => ⟨S256x64x8x16, .i32⟩
  | 84 => ⟨S256x64x8x16x1, .i32⟩
  | 85 => ⟨S256x64x8x16x1, .i32⟩
  | 86 => ⟨S256x64x8x16x2, .i32⟩
  | 87 => ⟨S256x64x8x16x8x128, .f32⟩
  | 88 => ⟨S256x1x8x1, .i32⟩
  | 89 => ⟨S1x64x1x16, .i32⟩
  | 90 => ⟨S256x64x8x16, .i32⟩
  | 91 => ⟨S256x64x8x16, .i32⟩
  | 92 => ⟨S256x64x8x16x1, .i32⟩
  | 93 => ⟨S256x64x8x16x1, .i32⟩
  | 94 => ⟨S256x64x8x16x2, .i32⟩
  | 95 => ⟨S8x256x64x8x16, .f32⟩
  | 96 => ⟨S8x256x64x8x16, .f32⟩
  | 97 => ⟨S_, .f32⟩
  | 98 => ⟨S8x256x64x8x16, .f32⟩
  | 99 => ⟨S8x256x64x8x16, .f32⟩
  | 100 => ⟨S8x256x64x8x16, .f32⟩
  | 101 => ⟨S8x256x64x256, .f32⟩
  | 102 => ⟨S_, .f32⟩
  | 103 => ⟨S8x256x64x256, .f32⟩
  | 104 => ⟨S8x256x64x256, .f32⟩
  | 105 => ⟨S8x256x64x128, .f32⟩
  | 106 => ⟨S8x256x64x384, .f32⟩
  | 107 => ⟨S_, .f32⟩
  | 108 => ⟨S8x256x64, .f32⟩
  | 109 => ⟨S_, .f32⟩
  | 110 => ⟨S8x256x64, .f32⟩
  | 111 => ⟨S8x256x64, .f32⟩
  | 112 => ⟨S8x256x64x1, .f32⟩
  | 113 => ⟨S8x256x64x384, .f32⟩
  | 114 => ⟨S8x256x64x384, .f32⟩
  | 115 => ⟨S8x256x64x384, .f32⟩
  | 116 => ⟨S_, .f32⟩
  | 117 => ⟨S8x256x64, .f32⟩
  | 118 => ⟨S8x256x64x1, .f32⟩
  | 119 => ⟨S8x256x64x384, .f32⟩
  | 120 => ⟨S8x256x64x384, .f32⟩
  | 121 => ⟨S8x256x64x128, .f32⟩
  | 122 => ⟨S8x256x64x8x16, .f32⟩
  | 123 => ⟨S256x64x8x128, .f32⟩
  | 124 => ⟨S8x256x64x256, .f32⟩
  | 125 => ⟨S8x128x256x64, .f32⟩
  | 126 => ⟨S256x64x8x128, .f32⟩
  | 127 => ⟨S256x64x8x128, .f32⟩
  | _ => ⟨S16384x3072, .bf16⟩

abbrev hbmTy0_1 (i : Nat) : BufTy := match i % 128 with
  | 0 => ⟨S16384x1024, .f32⟩
  | 1 => ⟨S16384x1024, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_c_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_c_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_7 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_9 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_10 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_12 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x6144 : Shape := ⟨2, ![2048, 6144]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048x6144, .f32⟩
  | .hbm, ⟨4, _⟩ => ⟨S2048x6144, .bf16⟩
  | .hbm, ⟨5, _⟩ => ⟨S2048x3072, .bf16⟩
  | .hbm, ⟨6, _⟩ => ⟨S16384x3072, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16384x2048 : Shape := ⟨2, ![16384, 2048]⟩
abbrev S1x2048 : Shape := ⟨2, ![1, 2048]⟩
abbrev S2048x6144 : Shape := ⟨2, ![2048, 6144]⟩
abbrev S_ : Shape := ⟨0, ![]⟩
abbrev S2048x3072 : Shape := ⟨2, ![2048, 3072]⟩
abbrev S16384x3072 : Shape := ⟨2, ![16384, 3072]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048x6144, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S2048x3072, .f32⟩
  | .hbm, ⟨12, _⟩ => ⟨S16384x3072, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S2048x6144 : Shape := ⟨2, ![2048, 6144]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048x6144, .f32⟩
  | .hbm, ⟨4, _⟩ => ⟨S2048x6144, .bf16⟩
  | .hbm, ⟨5, _⟩ => ⟨S2048x3072, .bf16⟩
  | .hbm, ⟨6, _⟩ => ⟨S16384x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16384x2048 : Shape := ⟨2, ![16384, 2048]⟩
abbrev S1x2048 : Shape := ⟨2, ![1, 2048]⟩
abbrev S2048x6144 : Shape := ⟨2, ![2048, 6144]⟩
abbrev S_ : Shape := ⟨0, ![]⟩
abbrev S2048x3072 : Shape := ⟨2, ![2048, 3072]⟩
abbrev S16384x3072 : Shape := ⟨2, ![16384, 3072]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048x6144, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S2048x3072, .f32⟩
  | .hbm, ⟨12, _⟩ => ⟨S16384x3072, .f32⟩
  | .hbm, ⟨13, _⟩ => ⟨S16384x3072, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S16384x2048 : Shape := ⟨2, ![16384, 2048]⟩
abbrev S1x2048 : Shape := ⟨2, ![1, 2048]⟩
abbrev S2048x6176 : Shape := ⟨2, ![2048, 6176]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048x6176, .f32⟩
  | .hbm, ⟨4, _⟩ => ⟨S2048x6176, .bf16⟩
  | .hbm, ⟨5, _⟩ => ⟨S2048x2048, .bf16⟩
  | .hbm, ⟨6, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x2048 : Shape := ⟨2, ![16384, 2048]⟩
abbrev S1x2048 : Shape := ⟨2, ![1, 2048]⟩
abbrev S2048x6176 : Shape := ⟨2, ![2048, 6176]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048x6176, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S2048x2048, .f32⟩
  | .hbm, ⟨12, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S16384x2048 : Shape := ⟨2, ![16384, 2048]⟩
abbrev S1x2048 : Shape := ⟨2, ![1, 2048]⟩
abbrev S2048x6176 : Shape := ⟨2, ![2048, 6176]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048x6176, .f32⟩
  | .hbm, ⟨4, _⟩ => ⟨S2048x6176, .bf16⟩
  | .hbm, ⟨5, _⟩ => ⟨S2048x2048, .bf16⟩
  | .hbm, ⟨6, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x2048 : Shape := ⟨2, ![16384, 2048]⟩
abbrev S1x2048 : Shape := ⟨2, ![1, 2048]⟩
abbrev S2048x6176 : Shape := ⟨2, ![2048, 6176]⟩
abbrev S_ : Shape := ⟨0, ![]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048x6176, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S2048x2048, .f32⟩
  | .hbm, ⟨12, _⟩ => ⟨S16384x2048, .f32⟩
  | .hbm, ⟨13, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel6.lean ====
abbrev S16384x2048 : Shape := ⟨2, ![16384, 2048]⟩
abbrev S1x2048 : Shape := ⟨2, ![1, 2048]⟩
abbrev S2048x6176 : Shape := ⟨2, ![2048, 6176]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048x6176, .f32⟩
  | .hbm, ⟨4, _⟩ => ⟨S2048x6176, .bf16⟩
  | .hbm, ⟨5, _⟩ => ⟨S2048x2048, .bf16⟩
  | .hbm, ⟨6, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S16384x2048 : Shape := ⟨2, ![16384, 2048]⟩
abbrev S1x2048 : Shape := ⟨2, ![1, 2048]⟩
abbrev S2048x6176 : Shape := ⟨2, ![2048, 6176]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048x6176, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S2048x2048, .f32⟩
  | .hbm, ⟨12, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel7.lean ====
abbrev S16384x1024 : Shape := ⟨2, ![16384, 1024]⟩
abbrev S2048x2048 : Shape := ⟨2, ![2048, 2048]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .bf16⟩
  | .hbm, ⟨4, _⟩ => ⟨S2048x2048, .bf16⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S16384x1024 : Shape := ⟨2, ![16384, 1024]⟩
abbrev S2048x2048 : Shape := ⟨2, ![2048, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x1024, .f32⟩
  | .hbm, ⟨4, _⟩ => ⟨S16384x1024, .f32⟩
  | .hbm, ⟨5, _⟩ => ⟨S16384x2048, .f32⟩
  | .hbm, ⟨6, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048x2048, .bf16⟩
  | .hbm, ⟨3, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .bf16⟩
  | .hbm, ⟨3, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S16384x2048 : Shape := ⟨2, ![16384, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S16384x1024 : Shape := ⟨2, ![16384, 1024]⟩
abbrev S16384x2048 : Shape := ⟨2, ![16384, 2048]⟩
abbrev S16384x128 : Shape := ⟨2, ![16384, 128]⟩
abbrev S8x128x256 : Shape := ⟨3, ![8, 128, 256]⟩
abbrev S8x1x128 : Shape := ⟨3, ![8, 1, 128]⟩
abbrev S64x256x128 : Shape := ⟨3, ![64, 256, 128]⟩
abbrev S64x128x256 : Shape := ⟨3, ![64, 128, 256]⟩
abbrev S256x1024 : Shape := ⟨2, ![256, 1024]⟩
abbrev S256x2048 : Shape := ⟨2, ![256, 2048]⟩
abbrev S256x128 : Shape := ⟨2, ![256, 128]⟩
abbrev S1x128x256 : Shape := ⟨3, ![1, 128, 256]⟩
abbrev S256x256 : Shape := ⟨2, ![256, 256]⟩
abbrev S128x256 : Shape := ⟨2, ![128, 256]⟩
abbrev S256x1 : Shape := ⟨2, ![256, 1]⟩
abbrev S1x256 : Shape := ⟨2, ![1, 256]⟩
abbrev S256 : Shape := ⟨1, ![256]⟩
abbrev S1 : Shape := ⟨1, ![1]⟩
abbrev S1x1 : Shape := ⟨2, ![1, 1]⟩
abbrev S1x1x128 : Shape := ⟨3, ![1, 1, 128]⟩
abbrev S1x128 : Shape := ⟨2, ![1, 128]⟩
abbrev S128 : Shape := ⟨1, ![128]⟩

abbrev nBuf : Space → Nat
  | .hbm => 13
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S16384x128, .f32⟩
  | .hbm, ⟨4, _⟩ => ⟨S8x128x256, .f32⟩
  | .hbm, ⟨5, _⟩ => ⟨S8x1x128, .f32⟩
  | .hbm, ⟨6, _⟩ => ⟨S8x1x128, .f32⟩
  | .hbm, ⟨7, _⟩ => ⟨S64x256x128, .f32⟩
  | .hbm, ⟨8, _⟩ => ⟨S64x128x256, .f32⟩
  | .hbm, ⟨9, _⟩ => ⟨S16384x2048, .f32⟩
  | .hbm, ⟨10, _⟩ => ⟨S8x128x256, .f32⟩
  | .hbm, ⟨11, _⟩ => ⟨S8x1x128, .f32⟩
  | .hbm, ⟨12, _⟩ => ⟨S8x1x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x128, .f32⟩
  | .local _ .vmem, ⟨7, _⟩ => ⟨S256x128, .f32⟩
  | .local _ .vmem, ⟨8, _⟩ => ⟨S1x128x256, .f32⟩
  | .local _ .vmem, ⟨9, _⟩ => ⟨S1x128x256, .f32⟩
  | .local _ .vmem, ⟨10, _⟩ => ⟨S8x128x256, .f32⟩
  | .local _ .vmem, ⟨11, _⟩ => ⟨S8x1x128, .f32⟩
  | .local _ .vmem, ⟨12, _⟩ => ⟨S8x1x128, .f32⟩
  | .local _ .vmem, ⟨13, _⟩ => ⟨S256x2048, .f32⟩
  | .local _ .vmem, ⟨14, _⟩ => ⟨S256x2048, .f32⟩
  | .local _ .vmem, ⟨15, _⟩ => ⟨S8x128x256, .f32⟩
  | .local _ .vmem, ⟨16, _⟩ => ⟨S8x1x128, .f32⟩
  | .local _ .vmem, ⟨17, _⟩ => ⟨S8x1x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference10Ideal.lean ====
abbrev S16384x1024 : Shape := ⟨2, ![16384, 1024]⟩
abbrev S16384x2048 : Shape := ⟨2, ![16384, 2048]⟩
abbrev S16384x128 : Shape := ⟨2, ![16384, 128]⟩
abbrev S8x128x256 : Shape := ⟨3, ![8, 128, 256]⟩
abbrev S8x1x128 : Shape := ⟨3, ![8, 1, 128]⟩
abbrev S16384x8x128 : Shape := ⟨3, ![16384, 8, 128]⟩
abbrev S16384x8x256 : Shape := ⟨3, ![16384, 8, 256]⟩
abbrev S16384x8 : Shape := ⟨2, ![16384, 8]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16384x16384x1 : Shape := ⟨3, ![16384, 16384, 1]⟩
abbrev S16384x1x8 : Shape := ⟨3, ![16384, 1, 8]⟩
abbrev S1x16384x8 : Shape := ⟨3, ![1, 16384, 8]⟩
abbrev S16384x16384x8 : Shape := ⟨3, ![16384, 16384, 8]⟩
abbrev S8x1x1 : Shape := ⟨3, ![8, 1, 1]⟩
abbrev S8 : Shape := ⟨1, ![8]⟩
abbrev S1x8 : Shape := ⟨2, ![1, 8]⟩
abbrev S8x16384x16384 : Shape := ⟨3, ![8, 16384, 16384]⟩
abbrev S8x256x16384 : Shape := ⟨3, ![8, 256, 16384]⟩
abbrev S16384x8x1 : Shape := ⟨3, ![16384, 8, 1]⟩
abbrev S8x128 : Shape := ⟨2, ![8, 128]⟩
abbrev S8x16384 : Shape := ⟨2, ![8, 16384]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S16384x128, .f32⟩
  | .hbm, ⟨4, _⟩ => ⟨S8x128x256, .f32⟩
  | .hbm, ⟨5, _⟩ => ⟨S8x1x128, .f32⟩
  | .hbm, ⟨6, _⟩ => ⟨S8x1x128, .f32⟩
  | .hbm, ⟨7, _⟩ => ⟨S16384x1024, .f32⟩
  | .hbm, ⟨8, _⟩ => ⟨S16384x8x128, .f32⟩
  | .hbm, ⟨9, _⟩ => ⟨S16384x1024, .f32⟩
  | .hbm, ⟨10, _⟩ => ⟨S16384x8x128, .f32⟩
  | .hbm, ⟨11, _⟩ => ⟨S16384x2048, .f32⟩
  | .hbm, ⟨12, _⟩ => ⟨S16384x8x256, .f32⟩
  | .hbm, ⟨13, _⟩ => ⟨S16384x8, .f32⟩
  | .hbm, ⟨14, _⟩ => ⟨S16384x8, .f32⟩
  | .hbm, ⟨15, _⟩ => ⟨S_, .f32⟩
  | .hbm, ⟨16, _⟩ => ⟨S_, .f32⟩
  | .hbm, ⟨17, _⟩ => ⟨S16384x8, .f32⟩
  | .hbm, ⟨18, _⟩ => ⟨S16384, .i32⟩
  | .hbm, ⟨19, _⟩ => ⟨S1x16384, .i32⟩
  | .hbm, ⟨20, _⟩ => ⟨S16384, .i32⟩
  | .hbm, ⟨21, _⟩ => ⟨S16384x1, .i32⟩
  | .hbm, ⟨22, _⟩ => ⟨S16384x16384, .i32⟩
  | .hbm, ⟨23, _⟩ => ⟨S16384x16384, .i32⟩
  | .hbm, ⟨24, _⟩ => ⟨S16384x16384, .i1⟩
  | .hbm, ⟨25, _⟩ => ⟨S16384x16384x1, .i1⟩
  | .hbm, ⟨26, _⟩ => ⟨S16384x1x8, .f32⟩
  | .hbm, ⟨27, _⟩ => ⟨S1x16384x8, .f32⟩
  | .hbm, ⟨28, _⟩ => ⟨S16384x16384x8, .f32⟩
  | .hbm, ⟨29, _⟩ => ⟨S16384x16384x8, .f32⟩
  | .hbm, ⟨30, _⟩ => ⟨S16384x16384x8, .f32⟩
  | .hbm, ⟨31, _⟩ => ⟨S1x16384x8, .f32⟩
  | .hbm, ⟨32, _⟩ => ⟨S16384x16384x8, .f32⟩
  | .hbm, ⟨33, _⟩ => ⟨S16384x16384x8, .f32⟩
  | .hbm, ⟨34, _⟩ => ⟨S_, .f32⟩
  | .hbm, ⟨35, _⟩ => ⟨S_, .f32⟩
  | .hbm, ⟨36, _⟩ => ⟨S16384x16384x8, .i1⟩
  | .hbm, ⟨37, _⟩ => ⟨S16384x16384x8, .f32⟩
  | .hbm, ⟨38, _⟩ => ⟨S16384x16384x8, .f32⟩
  | .hbm, ⟨39, _⟩ => ⟨S8x1x1, .f32⟩
  | .hbm, ⟨40, _⟩ => ⟨S8, .f32⟩
  | .hbm, ⟨41, _⟩ => ⟨S1x8, .f32⟩
  | .hbm, ⟨42, _⟩ => ⟨S16384x8, .f32⟩
  | .hbm, ⟨43, _⟩ => ⟨S16384x8, .f32⟩
  | .hbm, ⟨44, _⟩ => ⟨S_, .f32⟩
  | .hbm, ⟨45, _⟩ => ⟨S16384x8, .f32⟩
  | .hbm, ⟨46, _⟩ => ⟨S16384x8, .f32⟩
  | .hbm, ⟨47, _⟩ => ⟨S8x16384x16384, .f32⟩
  | .hbm, ⟨48, _⟩ => ⟨S16384x16384x8, .f32⟩
  | .hbm, ⟨49, _⟩ => ⟨S16384x1x8, .f32⟩
  | .hbm, ⟨50, _⟩ => ⟨S16384x16384x8, .f32⟩
  | .hbm, ⟨51, _⟩ => ⟨S16384x16384x8, .f32⟩
  | .hbm, ⟨52, _⟩ => ⟨S16384x16384x8, .f32⟩
  | .hbm, ⟨53, _⟩ => ⟨S16384x16384x8, .f32⟩
  | .hbm, ⟨54, _⟩ => ⟨S16384x8, .f32⟩
  | .hbm, ⟨55, _⟩ => ⟨S16384x8, .f32⟩
  | .hbm, ⟨56, _⟩ => ⟨S8x256x16384, .f32⟩
  | .hbm, ⟨57, _⟩ => ⟨S16384x8x256, .f32⟩
  | .hbm, ⟨58, _⟩ => ⟨S8x256x16384, .f32⟩
  | .hbm, ⟨59, _⟩ => ⟨S16384x8x256, .f32⟩
  | .hbm, ⟨60, _⟩ => ⟨S16384x8x1, .f32⟩
  | .hbm, ⟨61, _⟩ => ⟨S16384x8x256, .f32⟩
  | .hbm, ⟨62, _⟩ => ⟨S16384x8x256, .f32⟩
  | .hbm, ⟨63, _⟩ => ⟨S16384x8x256, .f32⟩
  | .hbm, ⟨64, _⟩ => ⟨S_, .f32⟩
  | .hbm, ⟨65, _⟩ => ⟨S16384x8, .f32⟩
  | .hbm, ⟨66, _⟩ => ⟨S8x128, .f32⟩
  | .hbm, ⟨67, _⟩ => ⟨S8x16384, .f32⟩
  | .hbm, ⟨68, _⟩ => ⟨S16384x8, .f32⟩
  | .hbm, ⟨69, _⟩ => ⟨S16384x8, .f32⟩
  | .hbm, ⟨70, _⟩ => ⟨S16384x8, .f32⟩
  | .hbm, ⟨71, _⟩ => ⟨S16384x8, .f32⟩
  | .hbm, ⟨72, _⟩ => ⟨S16384x8, .f32⟩
  | .hbm, ⟨73, _⟩ => ⟨S16384x8, .f32⟩
  | .hbm, ⟨74, _⟩ => ⟨S16384x8, .f32⟩
  | .hbm, ⟨75, _⟩ => ⟨S16384x8x1, .f32⟩
  | .hbm, ⟨76, _⟩ => ⟨S16384x8x256, .f32⟩
  | .hbm, ⟨77, _⟩ => ⟨S16384x8x256, .f32⟩
  | .hbm, ⟨78, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_call0_cst : Ref sig .tc := ⟨.hbm, 15, rfl⟩
abbrev main_call0_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_1 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== Kernel11.lean ====
abbrev S16384x1024 : Shape := ⟨2, ![16384, 1024]⟩
abbrev S16384x2048 : Shape := ⟨2, ![16384, 2048]⟩
abbrev S16384x128 : Shape := ⟨2, ![16384, 128]⟩
abbrev S8x128x256 : Shape := ⟨3, ![8, 128, 256]⟩
abbrev S8x1x128 : Shape := ⟨3, ![8, 1, 128]⟩
abbrev S64x256x128 : Shape := ⟨3, ![64, 256, 128]⟩
abbrev S64x128x256 : Shape := ⟨3, ![64, 128, 256]⟩
abbrev S256x1024 : Shape := ⟨2, ![256, 1024]⟩
abbrev S256x2048 : Shape := ⟨2, ![256, 2048]⟩
abbrev S256x128 : Shape := ⟨2, ![256, 128]⟩
abbrev S1x128x256 : Shape := ⟨3, ![1, 128, 256]⟩
abbrev S256x256 : Shape := ⟨2, ![256, 256]⟩
abbrev S128x256 : Shape := ⟨2, ![128, 256]⟩
abbrev S256x1 : Shape := ⟨2, ![256, 1]⟩
abbrev S1x256 : Shape := ⟨2, ![1, 256]⟩
abbrev S256 : Shape := ⟨1, ![256]⟩
abbrev S1 : Shape := ⟨1, ![1]⟩
abbrev S1x1 : Shape := ⟨2, ![1, 1]⟩
abbrev S1x1x128 : Shape := ⟨3, ![1, 1, 128]⟩
abbrev S1x128 : Shape := ⟨2, ![1, 128]⟩
abbrev S128 : Shape := ⟨1, ![128]⟩

abbrev nBuf : Space → Nat
  | .hbm => 13
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S16384x128, .f32⟩
  | .hbm, ⟨4, _⟩ => ⟨S8x128x256, .f32⟩
  | .hbm, ⟨5, _⟩ => ⟨S8x1x128, .f32⟩
  | .hbm, ⟨6, _⟩ => ⟨S8x1x128, .f32⟩
  | .hbm, ⟨7, _⟩ => ⟨S64x256x128, .f32⟩
  | .hbm, ⟨8, _⟩ => ⟨S64x128x256, .f32⟩
  | .hbm, ⟨9, _⟩ => ⟨S16384x2048, .f32⟩
  | .hbm, ⟨10, _⟩ => ⟨S8x128x256, .f32⟩
  | .hbm, ⟨11, _⟩ => ⟨S8x1x128, .f32⟩
  | .hbm, ⟨12, _⟩ => ⟨S8x1x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x128, .f32⟩
  | .local _ .vmem, ⟨7, _⟩ => ⟨S256x128, .f32⟩
  | .local _ .vmem, ⟨8, _⟩ => ⟨S1x128x256, .f32⟩
  | .local _ .vmem, ⟨9, _⟩ => ⟨S1x128x256, .f32⟩
  | .local _ .vmem, ⟨10, _⟩ => ⟨S8x128x256, .f32⟩
  | .local _ .vmem, ⟨11, _⟩ => ⟨S8x1x128, .f32⟩
  | .local _ .vmem, ⟨12, _⟩ => ⟨S8x1x128, .f32⟩
  | .local _ .vmem, ⟨13, _⟩ => ⟨S256x2048, .f32⟩
  | .local _ .vmem, ⟨14, _⟩ => ⟨S256x2048, .f32⟩
  | .local _ .vmem, ⟨15, _⟩ => ⟨S8x128x256, .f32⟩
  | .local _ .vmem, ⟨16, _⟩ => ⟨S8x1x128, .f32⟩
  | .local _ .vmem, ⟨17, _⟩ => ⟨S8x1x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference11Ideal.lean ====
abbrev S16384x1024 : Shape := ⟨2, ![16384, 1024]⟩
abbrev S16384x2048 : Shape := ⟨2, ![16384, 2048]⟩
abbrev S16384x128 : Shape := ⟨2, ![16384, 128]⟩
abbrev S8x128x256 : Shape := ⟨3, ![8, 128, 256]⟩
abbrev S8x1x128 : Shape := ⟨3, ![8, 1, 128]⟩
abbrev S16384x16 : Shape := ⟨2, ![16384, 16]⟩
abbrev S16384x8x128 : Shape := ⟨3, ![16384, 8, 128]⟩
abbrev S16384x8x256 : Shape := ⟨3, ![16384, 8, 256]⟩
abbrev S16384x8 : Shape := ⟨2, ![16384, 8]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16384x16384x1 : Shape := ⟨3, ![16384, 16384, 1]⟩
abbrev S16384x1x8 : Shape := ⟨3, ![16384, 1, 8]⟩
abbrev S1x16384x8 : Shape := ⟨3, ![1, 16384, 8]⟩
abbrev S16384x16384x8 : Shape := ⟨3, ![16384, 16384, 8]⟩
abbrev S8x1x1 : Shape := ⟨3, ![8, 1, 1]⟩
abbrev S8 : Shape := ⟨1, ![8]⟩
abbrev S1x8 : Shape := ⟨2, ![1, 8]⟩
abbrev S8x16384x16384 : Shape := ⟨3, ![8, 16384, 16384]⟩
abbrev S8x256x16384 : Shape := ⟨3, ![8, 256, 16384]⟩
abbrev S16384x8x1 : Shape := ⟨3, ![16384, 8, 1]⟩
abbrev S8x128 : Shape := ⟨2, ![8, 128]⟩
abbrev S8x16384 : Shape := ⟨2, ![8, 16384]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S16384x128, .f32⟩
  | .hbm, ⟨4, _⟩ => ⟨S8x128x256, .f32⟩
  | .hbm, ⟨5, _⟩ => ⟨S8x1x128, .f32⟩
  | .hbm, ⟨6, _⟩ => ⟨S8x1x128, .f32⟩
  | .hbm, ⟨7, _⟩ => ⟨S16384x1024, .bf16⟩
  | .hbm, ⟨8, _⟩ => ⟨S16384x1024, .bf16⟩
  | .hbm, ⟨9, _⟩ => ⟨S16384x2048, .bf16⟩
  | .hbm, ⟨10, _⟩ => ⟨S16384x16, .f32⟩
  | .hbm, ⟨11, _⟩ => ⟨S16384x16, .f32⟩
  | .hbm, ⟨12, _⟩ => ⟨S16384x1024, .f32⟩
  | .hbm, ⟨13, _⟩ => ⟨S16384x8x128, .f32⟩
  | .hbm, ⟨14, _⟩ => ⟨S16384x1024, .f32⟩
  | .hbm, ⟨15, _⟩ => ⟨S16384x8x128, .f32⟩
  | .hbm, ⟨16, _⟩ => ⟨S16384x2048, .f32⟩
  | .hbm, ⟨17, _⟩ => ⟨S16384x8x256, .f32⟩
  | .hbm, ⟨18, _⟩ => ⟨S16384x8, .f32⟩
  | .hbm, ⟨19, _⟩ => ⟨S16384x8, .f32⟩
  | .hbm, ⟨20, _⟩ => ⟨S_, .f32⟩
  | .hbm, ⟨21, _⟩ => ⟨S_, .f32⟩
  | .hbm, ⟨22, _⟩ => ⟨S16384x8, .f32⟩
  | .hbm, ⟨23, _⟩ => ⟨S16384, .i32⟩
  | .hbm, ⟨24, _⟩ => ⟨S1x16384, .i32⟩
  | .hbm, ⟨25, _⟩ => ⟨S16384, .i32⟩
  | .hbm, ⟨26, _⟩ => ⟨S16384x1, .i32⟩
  | .hbm, ⟨27, _⟩ => ⟨S16384x16384, .i32⟩
  | .hbm, ⟨28, _⟩ => ⟨S16384x16384, .i32⟩
  | .hbm, ⟨29, _⟩ => ⟨S16384x16384, .i1⟩
  | .hbm, ⟨30, _⟩ => ⟨S16384x16384x1, .i1⟩
  | .hbm, ⟨31, _⟩ => ⟨S16384x1x8, .f32⟩
  | .hbm, ⟨32, _⟩ => ⟨S1x16384x8, .f32⟩
  | .hbm, ⟨33, _⟩ => ⟨S16384x16384x8, .f32⟩
  | .hbm, ⟨34, _⟩ => ⟨S16384x16384x8, .f32⟩
  | .hbm, ⟨35, _⟩ => ⟨S16384x16384x8, .f32⟩
  | .hbm, ⟨36, _⟩ => ⟨S1x16384x8, .f32⟩
  | .hbm, ⟨37, _⟩ => ⟨S16384x16384x8, .f32⟩
  | .hbm, ⟨38, _⟩ => ⟨S16384x16384x8, .f32⟩
  | .hbm, ⟨39, _⟩ => ⟨S_, .f32⟩
  | .hbm, ⟨40, _⟩ => ⟨S_, .f32⟩
  | .hbm, ⟨41, _⟩ => ⟨S16384x16384x8, .i1⟩
  | .hbm, ⟨42, _⟩ => ⟨S16384x16384x8, .f32⟩
  | .hbm, ⟨43, _⟩ => ⟨S16384x16384x8, .f32⟩
  | .hbm, ⟨44, _⟩ => ⟨S8x1x1, .f32⟩
  | .hbm, ⟨45, _⟩ => ⟨S8, .f32⟩
  | .hbm, ⟨46, _⟩ => ⟨S1x8, .f32⟩
  | .hbm, ⟨47, _⟩ => ⟨S16384x8, .f32⟩
  | .hbm, ⟨48, _⟩ => ⟨S16384x8, .f32⟩
  | .hbm, ⟨49, _⟩ => ⟨S_, .f32⟩
  | .hbm, ⟨50, _⟩ => ⟨S16384x8, .f32⟩
  | .hbm, ⟨51, _⟩ => ⟨S16384x8, .f32⟩
  | .hbm, ⟨52, _⟩ => ⟨S8x16384x16384, .f32⟩
  | .hbm, ⟨53, _⟩ => ⟨S16384x16384x8, .f32⟩
  | .hbm, ⟨54, _⟩ => ⟨S16384x1x8, .f32⟩
  | .hbm, ⟨55, _⟩ => ⟨S16384x16384x8, .f32⟩
  | .hbm, ⟨56, _⟩ => ⟨S16384x16384x8, .f32⟩
  | .hbm, ⟨57, _⟩ => ⟨S16384x16384x8, .f32⟩
  | .hbm, ⟨58, _⟩ => ⟨S16384x16384x8, .f32⟩
  | .hbm, ⟨59, _⟩ => ⟨S16384x8, .f32⟩
  | .hbm, ⟨60, _⟩ => ⟨S16384x8, .f32⟩
  | .hbm, ⟨61, _⟩ => ⟨S8x256x16384, .f32⟩
  | .hbm, ⟨62, _⟩ => ⟨S16384x8x256, .f32⟩
  | .hbm, ⟨63, _⟩ => ⟨S8x256x16384, .f32⟩
  | .hbm, ⟨64, _⟩ => ⟨S16384x8x256, .f32⟩
  | .hbm, ⟨65, _⟩ => ⟨S16384x8x1, .f32⟩
  | .hbm, ⟨66, _⟩ => ⟨S16384x8x256, .f32⟩
  | .hbm, ⟨67, _⟩ => ⟨S16384x8x256, .f32⟩
  | .hbm, ⟨68, _⟩ => ⟨S16384x8x256, .f32⟩
  | .hbm, ⟨69, _⟩ => ⟨S_, .f32⟩
  | .hbm, ⟨70, _⟩ => ⟨S16384x8, .f32⟩
  | .hbm, ⟨71, _⟩ => ⟨S8x128, .f32⟩
  | .hbm, ⟨72, _⟩ => ⟨S8x16384, .f32⟩
  | .hbm, ⟨73, _⟩ => ⟨S16384x8, .f32⟩
  | .hbm, ⟨74, _⟩ => ⟨S16384x8, .f32⟩
  | .hbm, ⟨75, _⟩ => ⟨S16384x8, .f32⟩
  | .hbm, ⟨76, _⟩ => ⟨S16384x8, .f32⟩
  | .hbm, ⟨77, _⟩ => ⟨S16384x8, .f32⟩
  | .hbm, ⟨78, _⟩ => ⟨S16384x8, .f32⟩
  | .hbm, ⟨79, _⟩ => ⟨S16384x8, .f32⟩
  | .hbm, ⟨80, _⟩ => ⟨S16384x8x1, .f32⟩
  | .hbm, ⟨81, _⟩ => ⟨S16384x8x256, .f32⟩
  | .hbm, ⟨82, _⟩ => ⟨S16384x8x256, .f32⟩
  | .hbm, ⟨83, _⟩ => ⟨S16384x2048, .f32⟩
  | .hbm, ⟨84, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_call0_cst : Ref sig .tc := ⟨.hbm, 20, rfl⟩
abbrev main_call0_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_1 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩

abbrev nD : Nat := 1
abbrev τ : Topo := Topo.v7x

variable {F : FTy → Type} [FloatOps F]
-- ==== Kernel12.lean ====
abbrev S16384x2048 : Shape := ⟨2, ![16384, 2048]⟩
abbrev S2048 : Shape := ⟨1, ![2048]⟩
abbrev S1x2048 : Shape := ⟨2, ![1, 2048]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S2048, .f32⟩
  | .hbm, ⟨4, _⟩ => ⟨S1x2048, .f32⟩
  | .hbm, ⟨5, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S16384x2048 : Shape := ⟨2, ![16384, 2048]⟩
abbrev S2048 : Shape := ⟨1, ![2048]⟩
abbrev S16384x8x256 : Shape := ⟨3, ![16384, 8, 256]⟩
abbrev S_ : Shape := ⟨0, ![]⟩
abbrev S16384x8 : Shape := ⟨2, ![16384, 8]⟩
abbrev S16384x8x1 : Shape := ⟨3, ![16384, 8, 1]⟩
abbrev S1x2048 : Shape := ⟨2, ![1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S2048, .f32⟩
  | .hbm, ⟨4, _⟩ => ⟨S16384x2048, .f32⟩
  | .hbm, ⟨5, _⟩ => ⟨S16384x8x256, .f32⟩
  | .hbm, ⟨6, _⟩ => ⟨S_, .f32⟩
  | .hbm, ⟨7, _⟩ => ⟨S16384x8, .f32⟩
  | .hbm, ⟨8, _⟩ => ⟨S16384x8x1, .f32⟩
  | .hbm, ⟨9, _⟩ => ⟨S_, .f32⟩
  | .hbm, ⟨10, _⟩ => ⟨S16384x8x1, .f32⟩
  | .hbm, ⟨11, _⟩ => ⟨S16384x8x1, .f32⟩
  | .hbm, ⟨12, _⟩ => ⟨S16384x8x256, .f32⟩
  | .hbm, ⟨13, _⟩ => ⟨S16384x8x256, .f32⟩
  | .hbm, ⟨14, _⟩ => ⟨S16384x8x256, .f32⟩
  | .hbm, ⟨15, _⟩ => ⟨S16384x8x256, .f32⟩
  | .hbm, ⟨16, _⟩ => ⟨S16384x8x256, .f32⟩
  | .hbm, ⟨17, _⟩ => ⟨S_, .f32⟩
  | .hbm, ⟨18, _⟩ => ⟨S16384x8, .f32⟩
  | .hbm, ⟨19, _⟩ => ⟨S16384x8x1, .f32⟩
  | .hbm, ⟨20, _⟩ => ⟨S_, .f32⟩
  | .hbm, ⟨21, _⟩ => ⟨S16384x8x1, .f32⟩
  | .hbm, ⟨22, _⟩ => ⟨S16384x8x1, .f32⟩
  | .hbm, ⟨23, _⟩ => ⟨S16384x8x256, .f32⟩
  | .hbm, ⟨24, _⟩ => ⟨S16384x8x256, .f32⟩
  | .hbm, ⟨25, _⟩ => ⟨S_, .f32⟩
  | .hbm, ⟨26, _⟩ => ⟨S16384x8x1, .f32⟩
  | .hbm, ⟨27, _⟩ => ⟨S16384x8x1, .f32⟩
  | .hbm, ⟨28, _⟩ => ⟨S16384x8x1, .f32⟩
  | .hbm, ⟨29, _⟩ => ⟨S16384x8x256, .f32⟩
  | .hbm, ⟨30, _⟩ => ⟨S16384x8x256, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel13.lean ====
abbrev S16384x2048 : Shape := ⟨2, ![16384, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S1x2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel14.lean ====
abbrev S16384x128 : Shape := ⟨2, ![16384, 128]⟩
abbrev S32 : Shape := ⟨1, ![32]⟩
abbrev S_ : Shape := ⟨0, ![]⟩
abbrev S128 : Shape := ⟨1, ![128]⟩
abbrev S1x128 : Shape := ⟨2, ![1, 128]⟩
abbrev S1024x128 : Shape := ⟨2, ![1024, 128]⟩

abbrev nBuf : Space → Nat
  | .hbm => 7
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S32, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S16384x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S16384x128 : Shape := ⟨2, ![16384, 128]⟩
abbrev S32 : Shape := ⟨1, ![32]⟩
abbrev S_ : Shape := ⟨0, ![]⟩
abbrev S96 : Shape := ⟨1, ![96]⟩
abbrev S128 : Shape := ⟨1, ![128]⟩
abbrev S1x128 : Shape := ⟨2, ![1, 128]⟩
abbrev S16384x8x2x8 : Shape := ⟨4, ![16384, 8, 2, 8]⟩
abbrev S16384x8x1x8 : Shape := ⟨4, ![16384, 8, 1, 8]⟩

abbrev nBuf : Space → Nat
  | .hbm => 23
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S32, .f32⟩
  | .hbm, ⟨2, _⟩ => ⟨S_, .f32⟩
  | .hbm, ⟨3, _⟩ => ⟨S96, .f32⟩
  | .hbm, ⟨4, _⟩ => ⟨S128, .f32⟩
  | .hbm, ⟨5, _⟩ => ⟨S1x128, .f32⟩
  | .hbm, ⟨6, _⟩ => ⟨S16384x128, .f32⟩
  | .hbm, ⟨7, _⟩ => ⟨S16384x128, .f32⟩
  | .hbm, ⟨8, _⟩ => ⟨S16384x8x2x8, .f32⟩
  | .hbm, ⟨9, _⟩ => ⟨S16384x8x1x8, .f32⟩
  | .hbm, ⟨10, _⟩ => ⟨S16384x8x1x8, .f32⟩
  | .hbm, ⟨11, _⟩ => ⟨S16384x8x1x8, .f32⟩
  | .hbm, ⟨12, _⟩ => ⟨S_, .f32⟩
  | .hbm, ⟨13, _⟩ => ⟨S16384x8x1x8, .f32⟩
  | .hbm, ⟨14, _⟩ => ⟨S16384x8x1x8, .f32⟩
  | .hbm, ⟨15, _⟩ => ⟨S16384x8x1x8, .f32⟩
  | .hbm, ⟨16, _⟩ => ⟨S16384x8x1x8, .f32⟩
  | .hbm, ⟨17, _⟩ => ⟨S16384x8x1x8, .f32⟩
  | .hbm, ⟨18, _⟩ => ⟨S16384x8x1x8, .f32⟩
  | .hbm, ⟨19, _⟩ => ⟨S16384x8x1x8, .f32⟩
  | .hbm, ⟨20, _⟩ => ⟨S16384x8x1x8, .f32⟩
  | .hbm, ⟨21, _⟩ => ⟨S16384x8x2x8, .f32⟩
  | .hbm, ⟨22, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel15.lean ====
abbrev S16384x2048 : Shape := ⟨2, ![16384, 2048]⟩
abbrev S2048x16384 : Shape := ⟨2, ![2048, 16384]⟩
abbrev S1x2048 : Shape := ⟨2, ![1, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048x16384, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S16384x2048 : Shape := ⟨2, ![16384, 2048]⟩
abbrev S2048x16384 : Shape := ⟨2, ![2048, 16384]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x16384, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel16.lean ====
abbrev S16384x2048 : Shape := ⟨2, ![16384, 2048]⟩
abbrev S1x2048 : Shape := ⟨2, ![1, 2048]⟩
abbrev S2048x6176 : Shape := ⟨2, ![2048, 6176]⟩
abbrev S2048x32 : Shape := ⟨2, ![2048, 32]⟩
abbrev S_ : Shape := ⟨0, ![]⟩
abbrev S2048x128 : Shape := ⟨2, ![2048, 128]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 9
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048x6176, .f32⟩
  | .hbm, ⟨4, _⟩ => ⟨S2048x32, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x128, .f32⟩
  | .local _ .vmem, ⟨5, _⟩ => ⟨S1024x128, .f32⟩
  | .local _ .vmem, ⟨6, _⟩ => ⟨S1024x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference16Ideal.lean ====
abbrev S16384x2048 : Shape := ⟨2, ![16384, 2048]⟩
abbrev S1x2048 : Shape := ⟨2, ![1, 2048]⟩
abbrev S2048x6176 : Shape := ⟨2, ![2048, 6176]⟩
abbrev S_ : Shape := ⟨0, ![]⟩
abbrev S2048x32 : Shape := ⟨2, ![2048, 32]⟩
abbrev S2048x96 : Shape := ⟨2, ![2048, 96]⟩
abbrev S2048x128 : Shape := ⟨2, ![2048, 128]⟩
abbrev S16384x128 : Shape := ⟨2, ![16384, 128]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S2048x6176, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S2048x32, .f32⟩
  | .hbm, ⟨12, _⟩ => ⟨S_, .f32⟩
  | .hbm, ⟨13, _⟩ => ⟨S2048x96, .f32⟩
  | .hbm, ⟨14, _⟩ => ⟨S2048x128, .f32⟩
  | .hbm, ⟨15, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel17.lean ====
abbrev S16384x3072 : Shape := ⟨2, ![16384, 3072]⟩
abbrev S3x3072 : Shape := ⟨2, ![3, 3072]⟩
abbrev S3072 : Shape := ⟨1, ![3072]⟩
abbrev S1x3072 : Shape := ⟨2, ![1, 3072]⟩
abbrev S16384x1024 : Shape := ⟨2, ![16384, 1024]⟩
abbrev S8x3072 : Shape := ⟨2, ![8, 3072]⟩
abbrev S256x3072 : Shape := ⟨2, ![256, 3072]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S16384x3072, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S16384x1024, .f32⟩
  | .hbm, ⟨5, _⟩ => ⟨S16384x1024, .f32⟩
  | .hbm, ⟨6, _⟩ => ⟨S16384x1024, .f32⟩
  | .local _ .vmem, ⟨0, _⟩ => ⟨S8x3072, .f32⟩
  | .local _ .vmem, ⟨1, _⟩ => ⟨S8x3072, .f32⟩
  | .local _ .vmem, ⟨2, _⟩ => ⟨S256x3072, .f32⟩
  | .local _ .vmem, ⟨3, _⟩ => ⟨S256x3072, .f32⟩
  | .local _ .vmem, ⟨4, _⟩ => ⟨S8x3072, .f32⟩
  | .local _ .vmem, ⟨5, _⟩ => ⟨S8x3072, .f32⟩
  | .local _ .vmem, ⟨6, _⟩ => ⟨S3x3072, .f32⟩
  | .local _ .vmem, ⟨7, _⟩ => ⟨S1x3072, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S16384x3072 : Shape := ⟨2, ![16384, 3072]⟩
abbrev S3x3072 : Shape := ⟨2, ![3, 3072]⟩
abbrev S3072 : Shape := ⟨1, ![3072]⟩
abbrev S_ : Shape := ⟨0, ![]⟩
abbrev S16386x3072 : Shape := ⟨2, ![16386, 3072]⟩
abbrev S1x3072 : Shape := ⟨2, ![1, 3072]⟩
abbrev S16384x1024 : Shape := ⟨2, ![16384, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S3x3072, .f32⟩
  | .hbm, ⟨2, _⟩ => ⟨S3072, .f32⟩
  | .hbm, ⟨3, _⟩ => ⟨S_, .i32⟩
  | .hbm, ⟨4, _⟩ => ⟨S_, .f32⟩
  | .hbm, ⟨5, _⟩ => ⟨S16386x3072, .f32⟩
  | .hbm, ⟨6, _⟩ => ⟨S16384x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S16384x3072, .f32⟩
  | .hbm, ⟨11, _⟩ => ⟨S16384x3072, .f32⟩
  | .hbm, ⟨12, _⟩ => ⟨S1x3072, .f32⟩
  | .hbm, ⟨13, _⟩ => ⟨S16384x3072, .f32⟩
  | .hbm, ⟨14, _⟩ => ⟨S16384x3072, .f32⟩
  | .hbm, ⟨15, _⟩ => ⟨S16384x3072, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S16384x3072, .f32⟩
  | .hbm, ⟨20, _⟩ => ⟨S16384x3072, .f32⟩
  | .hbm, ⟨21, _⟩ => ⟨S16384x3072, .f32⟩
  | .hbm, ⟨22, _⟩ => ⟨S16384x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S16384x3072, .f32⟩
  | .hbm, ⟨27, _⟩ => ⟨S16384x3072, .f32⟩
  | .hbm, ⟨28, _⟩ => ⟨S16384x3072, .f32⟩
  | .hbm, ⟨29, _⟩ => ⟨S16384x1024, .f32⟩
  | .hbm, ⟨30, _⟩ => ⟨S16384x1024, .f32⟩
  | .hbm, ⟨31, _⟩ => ⟨S16384x1024, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Kernel18.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x512 : Shape := ⟨2, ![2048, 512]⟩
abbrev S1x512 : Shape := ⟨2, ![1, 512]⟩
abbrev S8x512 : Shape := ⟨2, ![8, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference18Ideal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Softmax.lean ====
module

public import Idealize.ShloMosaic.Lib.Pointwise

@[expose] public section

noncomputable section

open Idealize.ShloMosaic

namespace Cert.Softmax

/-- The word `0xFF800000` reads as minus infinity. -/
theorem ofBits_floor : Ideal.ofBits .f32 0xFF800000#32 = ⊥ := by simp [Ideal.ofBits, Ideal.ieee]

/-- Dividing by a positive real is multiplying by a nonnegative real. -/
theorem div_coe (a : EReal) (r : ℝ) (hr : 0 < r) : Ideal.div a (r : EReal) = a * ((r⁻¹ : ℝ) : EReal) := by
  have : (r : EReal) ≠ 0 := by exact_mod_cast hr.ne'
  rw [Ideal.div, if_neg this, EReal.coe_inv]

/-- Multiplying by a nonnegative real passes through a finite sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- Multiplying by a nonnegative real passes through the sum of two. -/
theorem add_mul_coe (x y : EReal) (r : ℝ) (hr : 0 ≤ r) : (x + y) * (r : EReal) = x * (r : EReal) + y * (r : EReal) :=
  EReal.right_distrib_of_nonneg_of_ne_top (by exact_mod_cast hr) (EReal.coe_ne_top r) x y

/-- The greatest of finitely many values, minus infinity when there is none. -/
abbrev top {ι : Type} [Fintype ι] (s : ι → EReal) : EReal := Finset.fold max ⊥ s Finset.univ

/-- The greatest value is the supremum over the places. -/
theorem top_eq_sup {ι : Type} [Fintype ι] (s : ι → EReal) : top s = Finset.univ.sup s := rfl

/-- The greatest value is not changed by adding places that hold minus infinity. -/
theorem top_masked {ι κ : Type} [Fintype ι] [Fintype κ] (e : ι → κ) (s : ι → EReal) (S : κ → EReal)
    (hS : ∀ a, S (e a) = s a) (hoff : ∀ x, (∀ a, e a ≠ x) → S x = ⊥) : top S = top s := by
  rw [top_eq_sup, top_eq_sup]
  apply le_antisymm
  · refine Finset.sup_le fun x _ => ?_
    by_cases hx : ∃ a, e a = x
    · obtain ⟨a, rfl⟩ := hx
      rw [hS]; exact Finset.le_sup (Finset.mem_univ a)
    · rw [hoff x fun a h => hx ⟨a, h⟩]; exact bot_le
  · refine Finset.sup_le fun a _ => ?_
    rw [← hS]; exact Finset.le_sup (Finset.mem_univ (e a))

/-- A sum over places most of which hold zero is the sum over the others. -/
theorem sum_masked {ι κ : Type} [Fintype ι] [Fintype κ] (e : ι → κ) (he : Function.Injective e) (f : ι → EReal)
    (F : κ → EReal) (hF : ∀ a, F (e a) = f a) (hoff : ∀ x, (∀ a, e a ≠ x) → F x = 0) : ∑ x, F x = ∑ a, f a := by
  rw [← Finset.sum_congr rfl fun a _ => hF a]
  exact (Fintype.sum_of_injective e he _ _ (fun x hx => hoff x fun a h => hx ⟨a, h⟩) fun a => rfl).symm

/-- The greatest of real values, over a nonempty set of places, is real. -/
theorem top_real {ι : Type} [Fintype ι] [Nonempty ι] (s : ι → EReal) (h : ∀ a, ∃ r : ℝ, s a = r) : ∃ r : ℝ, top s = r := by
  rw [top_eq_sup]
  obtain ⟨a, _, ha⟩ := Finset.exists_mem_eq_sup Finset.univ Finset.univ_nonempty s
  rw [ha]; exact h a

/-- `exp` of a real difference is a positive real. -/
theorem exp_sub_real {x M : EReal} (hx : ∃ r : ℝ, x = r) (hM : ∃ r : ℝ, M = r) :
    ∃ r : ℝ, 0 < r ∧ Ideal.exp (x - M) = r := by
  obtain ⟨r, rfl⟩ := hx
  obtain ⟨μ, rfl⟩ := hM
  exact ⟨Real.exp (r - μ), Real.exp_pos _, by rw [← EReal.coe_sub]; rfl⟩

/-- A sum of positive reals over a nonempty set of places is a positive real. -/
theorem sum_real {ι : Type} [Fintype ι] [Nonempty ι] (f : ι → EReal) (h : ∀ a, ∃ r : ℝ, 0 < r ∧ f a = r) :
    ∃ r : ℝ, 0 < r ∧ ∑ a, f a = r := by
  choose g hg hf using h
  refine ⟨∑ a, g a, Finset.sum_pos (fun a _ => hg a) Finset.univ_nonempty, ?_⟩
  rw [Finset.sum_congr rfl fun a _ => hf a]
  exact (map_sum (⟨⟨fun r : ℝ => (r : EReal), EReal.coe_zero⟩, EReal.coe_add⟩ : ℝ →+ EReal) g Finset.univ).symm

/-- One query's attention, divided once at the end: over scores `s` with values `v` and scores `t` with values `w`. -/
def attend {ι κ : Type} [Fintype ι] [Fintype κ] (s v : ι → EReal) (t w : κ → EReal) : EReal :=
  Ideal.div (∑ x, Ideal.exp (s x - max (top s) (top t)) * v x + ∑ x, Ideal.exp (t x - max (top s) (top t)) * w x)
    (∑ x, Ideal.exp (s x - max (top s) (top t)) + ∑ x, Ideal.exp (t x - max (top s) (top t)))

/-- The same attention with each weight divided first. -/
def softened {ι κ : Type} [Fintype ι] [Fintype κ] (s v : ι → EReal) (t w : κ → EReal) : EReal :=
  ∑ x, Ideal.div (Ideal.exp (s x - max (top s) (top t)))
      (∑ x, Ideal.exp (s x - max (top s) (top t)) + ∑ x, Ideal.exp (t x - max (top s) (top t))) * v x
    + ∑ x, Ideal.div (Ideal.exp (t x - max (top s) (top t)))
      (∑ x, Ideal.exp (s x - max (top s) (top t)) + ∑ x, Ideal.exp (t x - max (top s) (top t))) * w x

/-- With real scores it does not matter when the division is done. -/
theorem attend_eq_softened {ι κ : Type} [Fintype ι] [Fintype κ] [Nonempty ι] [Nonempty κ] (s v : ι → EReal) (t w : κ → EReal)
    (hs : ∀ a, ∃ r : ℝ, s a = r) (ht : ∀ a, ∃ r : ℝ, t a = r) : attend s v t w = softened s v t w := by
  unfold attend softened
  obtain ⟨μ, hμ⟩ : ∃ r : ℝ, max (top s) (top t) = r := by
    rcases max_choice (top s) (top t) with h | h <;> rw [h]
    · exact top_real s hs
    · exact top_real t ht
  rw [hμ]
  obtain ⟨p, hp, ep⟩ := sum_real (fun x => Ideal.exp (s x - μ)) fun a => exp_sub_real (hs a) ⟨μ, rfl⟩
  obtain ⟨q, hq, eq⟩ := sum_real (fun x => Ideal.exp (t x - μ)) fun a => exp_sub_real (ht a) ⟨μ, rfl⟩
  rw [ep, eq, ← EReal.coe_add, div_coe _ _ (add_pos hp hq)]
  have hi : 0 ≤ (p + q)⁻¹ := (inv_pos.mpr (add_pos hp hq)).le
  rw [add_mul_coe _ _ _ hi, sum_mul_coe _ _ _ hi, sum_mul_coe _ _ _ hi]
  refine congrArg₂ (· + ·) (Finset.sum_congr rfl fun a _ => ?_) (Finset.sum_congr rfl fun a _ => ?_) <;>
    rw [div_coe _ _ (add_pos hp hq), mul_assoc, mul_assoc, mul_comm (_ : EReal) (((p + q)⁻¹ : ℝ) : EReal)]

/-- Places that hold minus infinity take no part in an attention. -/
theorem attend_masked {ι κ Λ : Type} [Fintype ι] [Fintype κ] [Fintype Λ] (e : ι → Λ) (he : Function.Injective e)
    (s v : ι → EReal) (t w : κ → EReal) (S V : Λ → EReal) (hS : ∀ a, S (e a) = s a) (hoff : ∀ x, (∀ a, e a ≠ x) → S x = ⊥)
    (hV : ∀ a, V (e a) = v a) : attend S V t w = attend s v t w := by
  unfold attend
  rw [top_masked e s S hS hoff]
  have hz : ∀ M : EReal, Ideal.exp (⊥ - M) = 0 := fun M => by rw [EReal.bot_sub]; rfl
  rw [sum_masked e he (fun x => Ideal.exp (s x - max (top s) (top t)) * v x) _ (fun a => by simp only [hS, hV])
      (fun x hx => by rw [hoff x hx, hz, zero_mul]),
    sum_masked e he (fun x => Ideal.exp (s x - max (top s) (top t))) _ (fun a => by simp only [hS])
      (fun x hx => by rw [hoff x hx, hz])]

end Cert.Softmax
end
-- ==== Proof.Tile.lean ====
module

public import proofs.«01_k».proof.Proof.Gen.KernelIdeal.Skeleton
public import proofs.«01_k».proof.Proof.Softmax
public import Idealize.ShloMosaic.Lib.Pointwise

@[expose] public section

set_option maxRecDepth 16384

noncomputable section

open Idealize.ShloMosaic

namespace Cert.KernelIdeal.Value

open Cert.KernelIdeal Cert.KernelIdeal.Gen

/-- One tile of the kernel is the attention of its 64 queries over the window's 512 keys and the context's 256. -/
theorem tile_apply (kc vc : Vec Ideal S256x128 .bf16) (k v : Vec Ideal S512x128 .bf16) (q : Vec Ideal S64x128 .bf16)
    (b : Vec Ideal S1x1x64x512 .f32) (i : Fin 64) (d : Fin 128) :
    k0_pay11 (F := Ideal) kc vc k v q b (ix2 i d)
      = Softmax.attend (fun x : Fin 512 => (∑ e : Fin 128, q (ix2 i e) * k (ix2 x e)) * Ideal.ofBits .f32 0x3DB504F3#32 + b (ix4 0 0 i x))
          (fun x => v (ix2 x d)) (fun x : Fin 256 => (∑ e : Fin 128, q (ix2 i e) * kc (ix2 x e)) * Ideal.ofBits .f32 0x3DB504F3#32)
          (fun x => vc (ix2 x d)) := by
  pointwise [k0_pay11]
  rw [Softmax.ofBits_floor]
  rfl

end Cert.KernelIdeal.Value
end
-- ==== Proof.Point.lean ====
module

public import proofs.«01_k».proof.Proof.Tile
public import proofs.«01_k».proof.Proof.Gen.KernelIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- A stretch of rows read out of a block. -/
theorem ld_rows {N n k : ℕ} {φ : EltTy} (K : Vec Ideal ⟨2, ![N, k]⟩ φ) (o : Fin 2 → ℕ) (ho : ∀ a, o a + (![n, k] : Fin 2 → ℕ) a ≤ (⟨2, ![N, k]⟩ : Shape).size a)
    (s : ℕ) (hs : o 0 = s) (hs1 : o 1 = 0) (hs' : s + n ≤ N) (x : Fin n) (e : Fin k) :
    View.ld K (Rect.unit (s := ⟨2, ![N, k]⟩) o ![n, k] ho) (ix2 x e) = K (ix2 ⟨s + x.val, by omega⟩ e) := by
  refine congrArg K (funext fun a => Fin.ext ?_)
  match a with
  | 0 => show o 0 + 1 * x.val = s + x.val; omega
  | 1 => show o 1 + 1 * e.val = e.val; omega

/-- One page of the biases read out of a block. -/
theorem ld_page (B : Vec Ideal S1x8x64x512 .f32) (b : Fin 4 → ℕ) (hb : ∀ a, b a + (![1, 1, 64, 512] : Fin 4 → ℕ) a ≤ S1x8x64x512.size a)
    (u : ℕ) (hb0 : b 0 = 0) (hb1 : b 1 = u) (hb2 : b 2 = 0) (hb3 : b 3 = 0) (hu : u < 8) (i : Fin 64) (x : Fin 512) :
    View.ld B (Rect.unit b ![1, 1, 64, 512] hb) (ix4 0 0 i x) = B (ix4 0 ⟨u, hu⟩ i x) := by
  refine congrArg B (funext fun a => Fin.ext ?_)
  match a with
  | 0 => show b 0 + 0 * 1 = 0; omega
  | 1 => show b 1 + 0 * 1 = u; omega
  | 2 => show b 2 + 1 * i.val = i.val; omega
  | 3 => show b 3 + 1 * x.val = x.val; omega

/-- What the kernel computes at a row, a head and a column, from its arguments and a table of biases. -/
def spread (x : FVec Ideal S16384x3072 .bf16) (y : FVec Ideal S256x3072 .bf16) (T : FVec Ideal S8x8x64x512 .f32) (R : Fin 16384)
    (h : Fin 8) (d : Fin 128) : EReal :=
  Softmax.attend (fun j : Fin 512 => (∑ e : Fin 128, x (ix2 R ⟨h.val * 128 + e.val, by omega⟩)
        * x (ix2 ⟨(min (R.val / 64 - 4) 248) * 64 + j.val, by omega⟩ ⟨1024 + h.val * 128 + e.val, by omega⟩)) * Ideal.ofBits .f32 0x3DB504F3#32
      + T (ix4 h ⟨R.val / 64 - (min (R.val / 64 - 4) 248), by omega⟩ ⟨R.val % 64, by omega⟩ j))
    (fun j => x (ix2 ⟨(min (R.val / 64 - 4) 248) * 64 + j.val, by omega⟩ ⟨2048 + h.val * 128 + d.val, by omega⟩))
    (fun j : Fin 256 => (∑ e : Fin 128, x (ix2 R ⟨h.val * 128 + e.val, by omega⟩) * y (ix2 j ⟨1024 + h.val * 128 + e.val, by omega⟩))
      * Ideal.ofBits .f32 0x3DB504F3#32)
    (fun j => y (ix2 j ⟨2048 + h.val * 128 + d.val, by omega⟩))

/-- The same as one array. -/
def whole (x : FVec Ideal S16384x3072 .bf16) (y : FVec Ideal S256x3072 .bf16) (T : FVec Ideal S8x8x64x512 .f32) : FVec Ideal S16384x1024 .bf16 := fun i =>
  spread x y T (i 0) ⟨(i 1).val / 128, by have : (i 1).val < 1024 := (i 1).isLt; omega⟩ ⟨(i 1).val % 128, Nat.mod_lt _ (by decide)⟩

variable (m : (ℓ : Loc nD τ sig) → Buf (Elt Ideal) ℓ)

/-- The block of each window at each grid point. -/
theorem idx : ∀ t : Fin cfg0.N, win0_0.index t = ![t.val % 32, t.val / 32] ∧ win0_1.index t = ![0, 8 + t.val / 32]
    ∧ win0_2.index t = ![0, 16 + t.val / 32] ∧ win0_3.index t = ![0, 8 + t.val / 32] ∧ win0_4.index t = ![0, 16 + t.val / 32]
    ∧ win0_5.index t = ![t.val / 32, 0, 0, 0] ∧ win0_6.index t = ![t.val % 32, t.val / 32] ∧ t.val / 32 < 8 :=
  (by decide +kernel : ∀ t : Fin grid0.N, _)

/-- There are 256 grid points. -/
theorem tlt (t : Fin cfg0.N) : t.val < 256 := lt_of_lt_of_eq t.isLt N_0

/-- Where a tile begins to read the keys, the values and the biases. -/
theorem offs : ∀ (t : Fin cfg0.N) (a : Fin 8), k0_off1 (grid0.coords t) (BitVec.ofNat 32 a.val) 0 = (min (t.val % 32 * 8 + a.val - 4) 248) * 64
    ∧ k0_off1 (grid0.coords t) (BitVec.ofNat 32 a.val) 1 = 0
    ∧ k0_off2 (grid0.coords t) (BitVec.ofNat 32 a.val) 0 = 0
    ∧ k0_off2 (grid0.coords t) (BitVec.ofNat 32 a.val) 1 = t.val % 32 * 8 + a.val - (min (t.val % 32 * 8 + a.val - 4) 248)
    ∧ k0_off2 (grid0.coords t) (BitVec.ofNat 32 a.val) 2 = 0 ∧ k0_off2 (grid0.coords t) (BitVec.ofNat 32 a.val) 3 = 0 :=
  (by decide +kernel : ∀ (t : Fin grid0.N) (a : Fin 8), _)

/-- A block of queries, in the argument. -/
theorem blk0 (c : Dev nD) (t : Fin cfg0.N) (i : Fin 512) (e : Fin 128) : (iblk m c 0 t : Vec Ideal S512x128 .bf16) (ix2 i e)
    = (m ((c.tc : Thread nD τ).loc main_arg0) : FVec Ideal S16384x3072 .bf16) (ix2 ⟨t.val % 32 * 512 + i.val, by omega⟩ ⟨t.val / 32 * 128 + e.val, by have := (idx t).2.2.2.2.2.2.2; have := tlt t; omega⟩) := by
  have := (idx t).2.2.2.2.2.2.2
  blk_ext [iblk, V, idx t]

/-- A block of keys, in the argument. -/
theorem blk1 (c : Dev nD) (t : Fin cfg0.N) (i : Fin 16384) (e : Fin 128) : (iblk m c 1 t : Vec Ideal S16384x128 .bf16) (ix2 i e)
    = (m ((c.tc : Thread nD τ).loc main_arg0) : FVec Ideal S16384x3072 .bf16) (ix2 i ⟨1024 + t.val / 32 * 128 + e.val, by have := (idx t).2.2.2.2.2.2.2; have := tlt t; omega⟩) := by
  have := (idx t).2.2.2.2.2.2.2
  blk_ext [iblk, V, idx t]

/-- A block of values, in the argument. -/
theorem blk2 (c : Dev nD) (t : Fin cfg0.N) (i : Fin 16384) (e : Fin 128) : (iblk m c 2 t : Vec Ideal S16384x128 .bf16) (ix2 i e)
    = (m ((c.tc : Thread nD τ).loc main_arg0) : FVec Ideal S16384x3072 .bf16) (ix2 i ⟨2048 + t.val / 32 * 128 + e.val, by have := (idx t).2.2.2.2.2.2.2; have := tlt t; omega⟩) := by
  have := (idx t).2.2.2.2.2.2.2
  blk_ext [iblk, V, idx t]

/-- A block of the context's keys, in the argument. -/
theorem blk3 (c : Dev nD) (t : Fin cfg0.N) (i : Fin 256) (e : Fin 128) : (iblk m c 3 t : Vec Ideal S256x128 .bf16) (ix2 i e)
    = (m ((c.tc : Thread nD τ).loc main_arg1) : FVec Ideal S256x3072 .bf16) (ix2 i ⟨1024 + t.val / 32 * 128 + e.val, by have := (idx t).2.2.2.2.2.2.2; have := tlt t; omega⟩) := by
  have := (idx t).2.2.2.2.2.2.2
  blk_ext [iblk, V, idx t]

/-- A block of the context's values, in the argument. -/
theorem blk4 (c : Dev nD) (t : Fin cfg0.N) (i : Fin 256) (e : Fin 128) : (iblk m c 4 t : Vec Ideal S256x128 .bf16) (ix2 i e)
    = (m ((c.tc : Thread nD τ).loc main_arg1) : FVec Ideal S256x3072 .bf16) (ix2 i ⟨2048 + t.val / 32 * 128 + e.val, by have := (idx t).2.2.2.2.2.2.2; have := tlt t; omega⟩) := by
  have := (idx t).2.2.2.2.2.2.2
  blk_ext [iblk, V, idx t]

/-- A block of biases, in the table. -/
theorem blk5 (c : Dev nD) (t : Fin cfg0.N) (u : Fin 8) (i : Fin 64) (j : Fin 512) : (iblk m c 5 t : Vec Ideal S1x8x64x512 .f32) (ix4 0 u i j)
    = (V m c main_v280 : FVec Ideal S8x8x64x512 .f32) (ix4 ⟨t.val / 32, (idx t).2.2.2.2.2.2.2⟩ u i j) := by
  blk_ext [iblk, idx t]

/-- One tile at a grid point, at an index of the array. -/
theorem piece (c : Dev nD) (t : Fin cfg0.N) (a : Fin 8) (p : Fin 2 → ℕ) (hp : ∀ b, p b + (![64, 128] : Fin 2 → ℕ) b ≤ S512x128.size b)
    (hp0 : p 0 = a.val * 64) (hp1 : p 1 = 0) (ho hb) (i : Fin 64) (d : Fin 128) :
    k0_pay11 (F := Ideal) (iblk m c 3 t) (iblk m c 4 t)
        (View.ld (iblk m c 1 t : Vec Ideal S16384x128 .bf16) (Rect.unit (s := S16384x128) (k0_off1 (grid0.coords t) (BitVec.ofNat 32 a.val)) ![512, 128] ho))
        (View.ld (iblk m c 2 t : Vec Ideal S16384x128 .bf16) (Rect.unit (s := S16384x128) (k0_off1 (grid0.coords t) (BitVec.ofNat 32 a.val)) ![512, 128] ho))
        (View.ld (iblk m c 0 t : Vec Ideal S512x128 .bf16) (Rect.unit (s := S512x128) p ![64, 128] hp))
        (View.ld (iblk m c 5 t : Vec Ideal S1x8x64x512 .f32) (Rect.unit (s := S1x8x64x512) (k0_off2 (grid0.coords t) (BitVec.ofNat 32 a.val)) ![1, 1, 64, 512] hb)) (ix2 i d)
      = spread (m ((c.tc : Thread nD τ).loc main_arg0)) (m ((c.tc : Thread nD τ).loc main_arg1)) (V m c main_v280)
          ⟨t.val % 32 * 512 + a.val * 64 + i.val, by have := tlt t; omega⟩ ⟨t.val / 32, (idx t).2.2.2.2.2.2.2⟩ d := by
  obtain ⟨o0, o1, b0, b1, b2, b3⟩ := offs t a
  have ht := tlt t
  rw [tile_apply]
  have hr : (t.val % 32 * 512 + a.val * 64 + i.val) / 64 = t.val % 32 * 8 + a.val := by omega
  have hq : (t.val % 32 * 512 + a.val * 64 + i.val) % 64 = i.val := by omega
  have e1 : ∀ x e, View.ld (iblk m c 1 t : Vec Ideal S16384x128 .bf16) (Rect.unit (s := S16384x128) (k0_off1 (grid0.coords t) (BitVec.ofNat 32 a.val)) ![512, 128] ho) (ix2 x e) = _ :=
    fun x e => (ld_rows (N := 16384) (n := 512) (k := 128) _ _ ho _ o0 o1 (by omega) x e).trans (blk1 m c t _ _)
  have e2 : ∀ x e, View.ld (iblk m c 2 t : Vec Ideal S16384x128 .bf16) (Rect.unit (s := S16384x128) (k0_off1 (grid0.coords t) (BitVec.ofNat 32 a.val)) ![512, 128] ho) (ix2 x e) = _ :=
    fun x e => (ld_rows (N := 16384) (n := 512) (k := 128) _ _ ho _ o0 o1 (by omega) x e).trans (blk2 m c t _ _)
  have e0 : ∀ x e, View.ld (iblk m c 0 t : Vec Ideal S512x128 .bf16) (Rect.unit (s := S512x128) p ![64, 128] hp) (ix2 x e) = _ :=
    fun x e => (ld_rows (N := 512) (n := 64) (k := 128) _ p hp _ hp0 hp1 (by omega) x e).trans (blk0 m c t _ _)
  have e5 : ∀ j x, View.ld (iblk m c 5 t : Vec Ideal S1x8x64x512 .f32) (Rect.unit (s := S1x8x64x512) (k0_off2 (grid0.coords t) (BitVec.ofNat 32 a.val)) ![1, 1, 64, 512] hb) (ix4 0 0 j x) = _ :=
    fun j x => (ld_page _ _ hb _ b0 b1 b2 b3 (by omega) j x).trans (blk5 m c t _ _ _)
  unfold spread
  simp only [hr, hq, e0, e1, e2, e5, blk3, blk4, Fin.eta, ← Nat.add_assoc]

end Cert.KernelIdeal.Value
end
-- ==== Proof.Whole.lean ====
module

public import proofs.«01_k».proof.Proof.Point

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The whole result, element by element. -/
theorem final (c : Dev nD) : (dats m 0 c).arrAt 6 cfg0.N = whole (m ((c.tc : Thread nD τ).loc main_arg0)) (m ((c.tc : Thread nD τ).loc main_arg1))
    (V m c main_v280) := by
  unfold whole
  refine (dats m 0 c).arrAt_eq_of_covers 6 _ (by decide +kernel) fun t hf y => ?_
  have w0 : win0_6.index t 0 = t.val % 32 := (idx t).2.2.2.2.2.2.1 ▸ rfl
  have w1 : win0_6.index t 1 = t.val / 32 := (idx t).2.2.2.2.2.2.1 ▸ rfl
  blk_simp
  rw [after0_6]
  unfold outsAt0
  frame_out
  canon_tiles x h
  · refine (congrArg _ (ix2_eta x).symm).trans ((piece m c t 7 ![448, 0] _ rfl rfl _ _ (x 0) (x 1)).trans ?_)
    refine congr (congr (congrArg (spread _ _ _) (Fin.ext ?_)) (Fin.ext ?_)) (Fin.ext ?_)
    · show t.val % 32 * 512 + 7 * 64 + (x 0).val = win0_6.index t 0 * 512 + 1 * (y 0).val; omega
    · show t.val / 32 = (win0_6.index t 1 * 128 + (y 1).val) / 128; omega
    · show (x 1).val = (win0_6.index t 1 * 128 + (y 1).val) % 128; omega
  · refine (congrArg _ (ix2_eta x).symm).trans ((piece m c t 6 ![384, 0] _ rfl rfl _ _ (x 0) (x 1)).trans ?_)
    refine congr (congr (congrArg (spread _ _ _) (Fin.ext ?_)) (Fin.ext ?_)) (Fin.ext ?_)
    · show t.val % 32 * 512 + 6 * 64 + (x 0).val = win0_6.index t 0 * 512 + 1 * (y 0).val; omega
    · show t.val / 32 = (win0_6.index t 1 * 128 + (y 1).val) / 128; omega
    · show (x 1).val = (win0_6.index t 1 * 128 + (y 1).val) % 128; omega
  · refine (congrArg _ (ix2_eta x).symm).trans ((piece m c t 5 ![320, 0] _ rfl rfl _ _ (x 0) (x 1)).trans ?_)
    refine congr (congr (congrArg (spread _ _ _) (Fin.ext ?_)) (Fin.ext ?_)) (Fin.ext ?_)
    · show t.val % 32 * 512 + 5 * 64 + (x 0).val = win0_6.index t 0 * 512 + 1 * (y 0).val; omega
    · show t.val / 32 = (win0_6.index t 1 * 128 + (y 1).val) / 128; omega
    · show (x 1).val = (win0_6.index t 1 * 128 + (y 1).val) % 128; omega
  · refine (congrArg _ (ix2_eta x).symm).trans ((piece m c t 4 ![256, 0] _ rfl rfl _ _ (x 0) (x 1)).trans ?_)
    refine congr (congr (congrArg (spread _ _ _) (Fin.ext ?_)) (Fin.ext ?_)) (Fin.ext ?_)
    · show t.val % 32 * 512 + 4 * 64 + (x 0).val = win0_6.index t 0 * 512 + 1 * (y 0).val; omega
    · show t.val / 32 = (win0_6.index t 1 * 128 + (y 1).val) / 128; omega
    · show (x 1).val = (win0_6.index t 1 * 128 + (y 1).val) % 128; omega
  · refine (congrArg _ (ix2_eta x).symm).trans ((piece m c t 3 ![192, 0] _ rfl rfl _ _ (x 0) (x 1)).trans ?_)
    refine congr (congr (congrArg (spread _ _ _) (Fin.ext ?_)) (Fin.ext ?_)) (Fin.ext ?_)
    · show t.val % 32 * 512 + 3 * 64 + (x 0).val = win0_6.index t 0 * 512 + 1 * (y 0).val; omega
    · show t.val / 32 = (win0_6.index t 1 * 128 + (y 1).val) / 128; omega
    · show (x 1).val = (win0_6.index t 1 * 128 + (y 1).val) % 128; omega
  · refine (congrArg _ (ix2_eta x).symm).trans ((piece m c t 2 ![128, 0] _ rfl rfl _ _ (x 0) (x 1)).trans ?_)
    refine congr (congr (congrArg (spread _ _ _) (Fin.ext ?_)) (Fin.ext ?_)) (Fin.ext ?_)
    · show t.val % 32 * 512 + 2 * 64 + (x 0).val = win0_6.index t 0 * 512 + 1 * (y 0).val; omega
    · show t.val / 32 = (win0_6.index t 1 * 128 + (y 1).val) / 128; omega
    · show (x 1).val = (win0_6.index t 1 * 128 + (y 1).val) % 128; omega
  · refine (congrArg _ (ix2_eta x).symm).trans ((piece m c t 1 ![64, 0] _ rfl rfl _ _ (x 0) (x 1)).trans ?_)
    refine congr (congr (congrArg (spread _ _ _) (Fin.ext ?_)) (Fin.ext ?_)) (Fin.ext ?_)
    · show t.val % 32 * 512 + 1 * 64 + (x 0).val = win0_6.index t 0 * 512 + 1 * (y 0).val; omega
    · show t.val / 32 = (win0_6.index t 1 * 128 + (y 1).val) / 128; omega
    · show (x 1).val = (win0_6.index t 1 * 128 + (y 1).val) % 128; omega
  · refine (congrArg _ (ix2_eta x).symm).trans ((piece m c t 0 ![0, 0] _ rfl rfl _ _ (x 0) (x 1)).trans ?_)
    refine congr (congr (congrArg (spread _ _ _) (Fin.ext ?_)) (Fin.ext ?_)) (Fin.ext ?_)
    · show t.val % 32 * 512 + 0 * 64 + (x 0).val = win0_6.index t 0 * 512 + 1 * (y 0).val; omega
    · show t.val / 32 = (win0_6.index t 1 * 128 + (y 1).val) / 128; omega
    · show (x 1).val = (win0_6.index t 1 * 128 + (y 1).val) % 128; omega

end Cert.KernelIdeal.Value
end
-- ==== Proof.BiasRows.lean ====
module

public import proofs.«01_k».proof.Proof.Gen.KernelIdeal.Launch
public import Idealize.ShloMosaic.Lib.Pointwise
public import Idealize.ShloMosaic.Lib.Claim
public import Idealize.ShloMosaic.Lib.Pipeline.ValueKit
public import Idealize.ShloMosaic.Lib.StableHlo.RunRead
public import Idealize.ShloMosaic.Lib.StableHlo.ReadAt
public import Idealize.ShloMosaic.Lib.Pipeline.Value

@[expose] public section

set_option maxRecDepth 16384
set_option maxHeartbeats 4000000

noncomputable section

open Idealize.ShloMosaic Idealize.ShloMosaic.TcCoe Idealize.SL.Sem

namespace Cert.KernelIdeal.Value

open Cert.KernelIdeal Cert.KernelIdeal.Gen

/-- One row of the window: the biases of one row offset. -/
def band (o : ℕ) (hs : S8x15x64x64.Slices ![0, o, 0, 0] S8x1x64x64) (x : FVec Ideal S8x15x64x64 .f32) : FVec Ideal S8x64x64 .f32 :=
  shapeCast _ (extractStridedSlice S8x1x64x64 ![0, o, 0, 0] x hs) shapeCasts_S8x1x64x64_S8x64x64

/-- A band read at an index. -/
theorem band_apply (o : ℕ) (ho : o ≤ 14) (hs : S8x15x64x64.Slices ![0, o, 0, 0] S8x1x64x64) (x : FVec Ideal S8x15x64x64 .f32)
    (h : Fin 8) (q k : Fin 64) : band o hs x (ix3 h q k) = x (ix4 h ⟨o, by omega⟩ q k) := by
  pointwise [band]

/-- Every band lies inside the biases. -/
theorem band_fits : ∀ o : Fin 15, S8x15x64x64.Slices ![0, o.val, 0, 0] S8x1x64x64 := by decide

/-- The window's eight rows side by side, for a query `d` rows below the first. -/
def bands (d : Fin 8) (x : FVec Ideal S8x15x64x64 .f32) : FVec Ideal S8x64x512 .f32 :=
  concatenate S8x64x512 2 (List.ofFn fun i : Fin 8 => ⟨S8x64x64, band (⟨i.val + 7 - d.val, by omega⟩ : Fin 15).val (band_fits _) x⟩)
    concatenates_S8x64x64_S8x64x64_S8x64x64_S8x64x64_S8x64x64_S8x64x64_S8x64x64_S8x64x64_S8x64x512_d2

/-- Eight bands side by side, read at an index. -/
theorem bands_apply (d : Fin 8) (x : FVec Ideal S8x15x64x64 .f32) (h : Fin 8) (q : Fin 64) (j : Fin 512) :
    bands d x (ix3 h q j) = x (ix4 h ⟨j.val / 64 + 7 - d.val, by omega⟩ q ⟨j.val % 64, by omega⟩) := by
  refine (concatenate_ofFn_apply (t := S8x64x512) (s₁ := S8x64x64) (2 : Fin 3) (fun i : Fin 8 => band (⟨i.val + 7 - d.val, by omega⟩ : Fin 15).val (band_fits _) x) _ rfl 64 rfl
    (ix3 h q j) ⟨j.val / 64, by omega⟩ rfl (ix3 h q ⟨j.val % 64, by omega⟩) rfl ?_).trans (band_apply _ (by dsimp only; omega) _ x h q _)
  intro b hb
  match b with
  | 0 => rfl
  | 1 => rfl
  | 2 => exact absurd rfl hb

/-- One query row's page of the table. -/
def sheet (d : Fin 8) (x : FVec Ideal S8x15x64x64 .f32) : FVec Ideal S8x1x64x512 .f32 :=
  broadcastInDim S8x1x64x512 ![0, 2, 3] bcast_S8x64x512_S8x1x64x512_0_2_3 (bands d x)

/-- A page read at an index. -/
theorem sheet_apply (d : Fin 8) (x : FVec Ideal S8x15x64x64 .f32) (h : Fin 8) (u : Fin 1) (q : Fin 64) (j : Fin 512) :
    sheet d x (ix4 h u q j) = bands d x (ix3 h q j) := by
  pointwise [sheet]

/-- The whole table, by head and by the query's row within the window. -/
def table (x : FVec Ideal S8x15x64x64 .f32) : FVec Ideal S8x8x64x512 .f32 :=
  concatenate S8x8x64x512 1 (List.ofFn fun d : Fin 8 => ⟨S8x1x64x512, sheet d x⟩) concatenates_S8x1x64x512_S8x1x64x512_S8x1x64x512_S8x1x64x512_S8x1x64x512_S8x1x64x512_S8x1x64x512_S8x1x64x512_S8x8x64x512_d1

/-- The table read at an index. -/
theorem table_apply (x : FVec Ideal S8x15x64x64 .f32) (h d : Fin 8) (q : Fin 64) (j : Fin 512) :
    table x (ix4 h d q j) = x (ix4 h ⟨j.val / 64 + 7 - d.val, by omega⟩ q ⟨j.val % 64, by omega⟩) := by
  refine (concatenate_ofFn_apply (t := S8x8x64x512) (s₁ := S8x1x64x512) (1 : Fin 4) (fun d : Fin 8 => sheet d x) _ rfl 1 rfl (ix4 h d q j) d (Nat.div_one _)
    (ix4 h 0 q j) (Nat.mod_one _).symm ?_).trans ((sheet_apply d x h 0 q j).trans (bands_apply d x h q j))
  intro b hb
  match b with
  | 0 => rfl
  | 1 => exact absurd rfl hb
  | 2 => rfl
  | 3 => rfl

/-- What the last stretch leaves: the table. -/
theorem part4 (V : Valuation τ sig (Elt Ideal)) :
    (StableHlo.after (hostOps0_4 (F := Ideal)) V main_v280 : FVec Ideal S8x8x64x512 .f32) = table (V main_v135) := by
  after_reads_simp
  rfl

end Cert.KernelIdeal.Value
end
-- ==== Proof.BiasColumns.lean ====
module

public import proofs.«01_k».proof.Proof.Gen.KernelIdeal.Launch
public import Idealize.ShloMosaic.Lib.Pointwise
public import Idealize.ShloMosaic.Lib.Claim
public import Idealize.ShloMosaic.Lib.Pipeline.ValueKit
public import Idealize.ShloMosaic.Lib.StableHlo.RunRead
public import Idealize.ShloMosaic.Lib.StableHlo.ReadAt
public import Idealize.ShloMosaic.Lib.Pipeline.Value

@[expose] public section

set_option maxRecDepth 16384
set_option maxHeartbeats 4000000

noncomputable section

open Idealize.ShloMosaic Idealize.ShloMosaic.TcCoe Idealize.SL.Sem

namespace Cert.KernelIdeal.Value

open Cert.KernelIdeal Cert.KernelIdeal.Gen

/-- One query column's row of biases: the padded table read from a column on. -/
def strip (o : ℕ) (hs : S8x15x158.Slices ![0, 0, o] S8x15x64) (x : FVec Ideal S8x15x158 .f32) : FVec Ideal S8x15x1x64 .f32 :=
  broadcastInDim S8x15x1x64 ![0, 1, 3] bcast_S8x15x64_S8x15x1x64_0_1_3 (extractStridedSlice S8x15x64 ![0, 0, o] x hs)

/-- A strip read at an index. -/
theorem strip_apply (o : ℕ) (ho : o ≤ 94) (hs : S8x15x158.Slices ![0, 0, o] S8x15x64) (x : FVec Ideal S8x15x158 .f32)
    (h : Fin 8) (i : Fin 15) (u : Fin 1) (k : Fin 64) : strip o hs x (ix4 h i u k) = x (ix3 h i ⟨o + k.val, by omega⟩) := by
  pointwise [strip]

/-- Every strip lies inside the padded biases. -/
theorem strip_fits : ∀ q : Fin 64, S8x15x158.Slices ![0, 0, 78 - q.val] S8x15x64 := by decide

/-- Sixteen query columns' rows, of four such groups. -/
def stack (g : Fin 4) (x : FVec Ideal S8x15x158 .f32) : FVec Ideal S8x15x16x64 .f32 :=
  concatenate S8x15x16x64 2 (List.ofFn fun n : Fin 16 => ⟨S8x15x1x64, strip (78 - (⟨16 * g.val + n.val, by omega⟩ : Fin 64).val) (strip_fits _) x⟩)
    concatenates_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x1x64_S8x15x16x64_d2

/-- A stack of sixteen strips read at an index. -/
theorem stack_apply (g : Fin 4) (x : FVec Ideal S8x15x158 .f32) (h : Fin 8) (i : Fin 15) (q : Fin 16) (k : Fin 64) :
    stack g x (ix4 h i q k) = x (ix3 h i ⟨78 - (16 * g.val + q.val) + k.val, by omega⟩) := by
  refine (concatenate_ofFn_apply (t := S8x15x16x64) (s₁ := S8x15x1x64) (2 : Fin 4) (fun n : Fin 16 => strip (78 - (⟨16 * g.val + n.val, by omega⟩ : Fin 64).val) (strip_fits _) x)
    _ rfl 1 rfl (ix4 h i q k) q (Nat.div_one _) (ix4 h i 0 k) (Nat.mod_one _).symm ?_).trans (strip_apply _ (by dsimp only; omega) _ x h i 0 k)
  intro b hb
  match b with
  | 0 => rfl
  | 1 => rfl
  | 2 => exact absurd rfl hb
  | 3 => rfl

/-- Every query column's rows. -/
def piles (x : FVec Ideal S8x15x158 .f32) : FVec Ideal S8x15x64x64 .f32 :=
  concatenate S8x15x64x64 2 (List.ofFn fun g : Fin 4 => ⟨S8x15x16x64, stack g x⟩) concatenates_S8x15x16x64_S8x15x16x64_S8x15x16x64_S8x15x16x64_S8x15x64x64_d2

/-- The four stacks read at an index: the padded biases, shifted by the query column. -/
theorem piles_apply (x : FVec Ideal S8x15x158 .f32) (h : Fin 8) (i : Fin 15) (q k : Fin 64) :
    piles x (ix4 h i q k) = x (ix3 h i ⟨78 - q.val + k.val, by omega⟩) := by
  refine (concatenate_ofFn_apply (t := S8x15x64x64) (s₁ := S8x15x16x64) (2 : Fin 4) (fun g : Fin 4 => stack g x) _ rfl 16 rfl (ix4 h i q k) ⟨q.val / 16, by omega⟩ rfl
    (ix4 h i ⟨q.val % 16, by omega⟩ k) rfl ?_).trans ((stack_apply _ x h i _ k).trans
      (congrArg (fun a => x (ix3 h i a)) (Fin.ext (by dsimp only; omega))))
  intro b hb
  match b with
  | 0 => rfl
  | 1 => rfl
  | 2 => exact absurd rfl hb
  | 3 => rfl

/-- What the third stretch leaves: the shifted biases. -/
theorem part2 (V : Valuation τ sig (Elt Ideal)) :
    (StableHlo.after (hostOps0_2 (F := Ideal)) V main_v134 : FVec Ideal S8x15x64x64 .f32) = piles (V main_v1) := by
  after_reads_simp
  rfl

end Cert.KernelIdeal.Value
end
-- ==== Proof.BiasMask.lean ====
module

public import proofs.«01_k».proof.Proof.Gen.KernelIdeal.Launch
public import Idealize.ShloMosaic.Lib.Pointwise
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384
set_option maxHeartbeats 4000000

noncomputable section

open Idealize.ShloMosaic Idealize.ShloMosaic.TcCoe Idealize.SL.Sem

namespace Cert.KernelIdeal.Value

open Cert.KernelIdeal Cert.KernelIdeal.Gen

/-- What the first stretch leaves: the mask of the window columns, from the literal. -/
theorem part0 (V : Valuation τ sig (Elt Ideal)) (q k : Fin 64) :
    (StableHlo.after (hostOps0 (F := Ideal)) V main_v0 : IVec S1x1x64x64 1) (ix4 0 0 q k)
      = lit0 (S64x64.rowMajor (ix2 q k)) := by
  after_reads_at

/-- What the second stretch leaves, inside the padding: the biases. -/
theorem part1 (V : Valuation τ sig (Elt Ideal)) (h : Fin 8) (o : Fin 15) (j : Fin 158) (hj : 63 ≤ j.val) (hj' : j.val < 94) :
    (StableHlo.after (hostOps0_1 (F := Ideal)) V main_v1 : FVec Ideal S8x15x158 .f32) (ix3 h o j)
      = (V main_arg2 : FVec Ideal S8x15x31 .f32) (ix3 h o ⟨j.val - 63, by omega⟩) := by
  after_reads_at
  exact dif_pos ⟨hj, by omega⟩

/-- What the fourth stretch leaves: the shifted biases under the mask, the fill outside. -/
theorem part3 (V : Valuation τ sig (Elt Ideal)) (h : Fin 8) (o : Fin 15) (q k : Fin 64) :
    (StableHlo.after (hostOps0_3 (F := Ideal)) V main_v135 : FVec Ideal S8x15x64x64 .f32) (ix4 h o q k)
      = Scalar.select ((V main_v0 : IVec S1x1x64x64 1) (ix4 0 0 q k)) ((V main_v134 : FVec Ideal S8x15x64x64 .f32) (ix4 h o q k))
        ((V main_cst : FVec Ideal S_ .f32) ix0) := by
  after_reads_at
  rfl

/-- The literal mask marks the sixteen columns of each clamped window. -/
theorem mask : ∀ q k : Fin 64, lit0 (S64x64.rowMajor (ix2 q k)) = if min (q.val - 8) 48 ≤ k.val ∧ k.val < min (q.val - 8) 48 + 16 then 1#1 else 0#1 := by
  decide +kernel

end Cert.KernelIdeal.Value
end
-- ==== Proof.BiasTable.lean ====
module

public import proofs.«01_k».proof.Proof.BiasRows
public import proofs.«01_k».proof.Proof.BiasColumns
public import proofs.«01_k».proof.Proof.BiasMask
public import proofs.«01_k».proof.Proof.Softmax
public import proofs.«01_k».proof.Proof.Gen.KernelIdeal.Value

@[expose] public section

set_option maxRecDepth 16384
set_option maxHeartbeats 4000000

noncomputable section

open Idealize.ShloMosaic Idealize.ShloMosaic.TcCoe Idealize.SL.Sem

namespace Cert.KernelIdeal.Value

open Cert.KernelIdeal Cert.KernelIdeal.Gen

/-- The first stretch leaves the bias argument as it was. -/
theorem keep0 (V : Valuation τ sig (Elt Ideal)) : StableHlo.after (hostOps0 (F := Ideal)) V main_arg2 = V main_arg2 := by
  after_reads_simp

/-- The second stretch leaves the mask as it was. -/
theorem keep1 (V : Valuation τ sig (Elt Ideal)) : StableHlo.after (hostOps0_1 (F := Ideal)) V main_v0 = V main_v0 := by
  after_reads_simp

/-- The third stretch leaves the mask as it was. -/
theorem keep2 (V : Valuation τ sig (Elt Ideal)) : StableHlo.after (hostOps0_2 (F := Ideal)) V main_v0 = V main_v0 := by
  after_reads_simp

/-- The third stretch writes minus infinity down. -/
theorem floor2 (V : Valuation τ sig (Elt Ideal)) : (StableHlo.after (hostOps0_2 (F := Ideal)) V main_cst : FVec Ideal S_ .f32) ix0 = (⊥ : EReal) := by
  refine Eq.trans ?_ Softmax.ofBits_floor
  after_reads_simp
  rfl

/-- A table of biases laid out for the kernel: a bias inside the window, minus infinity outside. -/
def Laid (b : FVec Ideal S8x15x31 .f32) (T : FVec Ideal S8x8x64x512 .f32) : Prop :=
  ∀ (h d : Fin 8) (q : Fin 64) (j : Fin 512), T (ix4 h d q j)
    = if hk : min (q.val - 8) 48 ≤ j.val % 64 ∧ j.val % 64 < min (q.val - 8) 48 + 16 then
        (b (ix3 h ⟨j.val / 64 + 7 - d.val, by omega⟩ ⟨j.val % 64 + 15 - q.val, by omega⟩) : EReal) else (⊥ : EReal)

variable (m : (ℓ : Loc nD τ sig) → Buf (Elt Ideal) ℓ)

/-- The table of biases the kernel is called with: a bias inside the window, minus infinity outside. -/
theorem biases (c : Dev nD) : Laid (m ((c.tc : Thread nD τ).loc main_arg2)) (V m c main_v280) := by
  intro h d q j
  have e : V m c main_v280 = StableHlo.after hostOps0_4 (StableHlo.after hostOps0_3 (StableHlo.after hostOps0_2
      (StableHlo.after hostOps0_1 (StableHlo.after hostOps0 (fun b => m (c, b)))))) main_v280 := by
    show StableHlo.after (hostOps0 ++ (hostOps0_1 ++ (hostOps0_2 ++ (hostOps0_3 ++ (hostOps0_4 ++ []))))) _ _ = _
    rw [StableHlo.after_append, StableHlo.after_append, StableHlo.after_append, StableHlo.after_append, List.append_nil]
  rw [e, part4, table_apply, part3, keep2, keep1, part0, mask, part2, floor2, piles_apply]
  by_cases hk : min (q.val - 8) 48 ≤ j.val % 64 ∧ j.val % 64 < min (q.val - 8) 48 + 16
  · rw [dif_pos hk, if_pos hk]
    rw [part1 _ _ _ _ (by dsimp only; omega) (by dsimp only; omega), keep0]
    refine (if_pos rfl).trans (congrArg (fun a => (m ((c.tc : Thread nD τ).loc main_arg2) : FVec Ideal S8x15x31 .f32) (ix3 h _ a)) (Fin.ext ?_))
    dsimp only; omega
  · rw [dif_neg hk, if_neg hk]
    exact if_neg (by decide)

end Cert.KernelIdeal.Value
end
-- ==== Proof.Gather.lean ====
module

public import proofs.«01_k».proof.Proof.Gen.ReferenceIdeal
public import Idealize.ShloMosaic.Lib.Pointwise

@[expose] public section

set_option maxRecDepth 16384

noncomputable section

open Idealize.ShloMosaic

namespace Cert.ReferenceIdeal.Value

open Cert.ReferenceIdeal Cert.ReferenceIdeal.Gen

variable {α : Type}

/-- The gather of neighbour cells read at an index: the cell whose row and column the index array holds,
    each read signed and kept inside the grid; head and head position pass through. -/
theorem gather_cells (g : S256x64x8x128.Idx → α) (idx : IVec S256x64x8x16x2 32)
    (r : Fin 256) (q : Fin 64) (i : Fin 8) (k : Fin 16) (h : Fin 8) (d : Fin 128) :
    Host.gather gather_S256x64x8x128_S256x64x8x16x2_S256x64x8x16x8x128_45_01_n_n_01_4_118128 g idx (ix6 r q i k h d)
      = g (ix4 ⟨min (idx (ix5 r q i k 0)).toInt.toNat 255, by omega⟩ ⟨min (idx (ix5 r q i k 1)).toInt.toNat 63, by omega⟩ h d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have e0 : GatherDims.siIdx gather_S256x64x8x128_S256x64x8x16x2_S256x64x8x16x8x128_45_01_n_n_01_4_118128 (ix6 r q i k h d) ⟨0, by decide⟩
      = ix5 r q i k 0 := by
    funext b; refine Fin.ext ?_
    match b with
    | ⟨0, _⟩ => rfl
    | ⟨1, _⟩ => rfl
    | ⟨2, _⟩ => rfl
    | ⟨3, _⟩ => rfl
    | ⟨4, _⟩ => rfl
  have e1 : GatherDims.siIdx gather_S256x64x8x128_S256x64x8x16x2_S256x64x8x16x8x128_45_01_n_n_01_4_118128 (ix6 r q i k h d) ⟨1, by decide⟩
      = ix5 r q i k 1 := by
    funext b; refine Fin.ext ?_
    match b with
    | ⟨0, _⟩ => rfl
    | ⟨1, _⟩ => rfl
    | ⟨2, _⟩ => rfl
    | ⟨3, _⟩ => rfl
    | ⟨4, _⟩ => rfl
  match a with
  | ⟨0, _⟩ =>
    show min (idx (GatherDims.siIdx _ _ ⟨0, _⟩)).toInt.toNat 255 + 0 + 0 = _
    rw [e0]; rfl
  | ⟨1, _⟩ =>
    show min (idx (GatherDims.siIdx _ _ ⟨1, _⟩)).toInt.toNat 63 + 0 + 0 = _
    rw [e1]; rfl
  | ⟨2, _⟩ => show 0 + 0 + h.val = _; exact Nat.zero_add _
  | ⟨3, _⟩ => show 0 + 0 + d.val = _; exact Nat.zero_add _

/-- The gather of position biases read at an index: the bias at the row and column offsets the index array
    holds, each read signed and kept inside the table; the head passes through. -/
theorem gather_bias (g : S8x15x31.Idx → α) (idx : IVec S256x64x8x16x2 32)
    (h : Fin 8) (r : Fin 256) (q : Fin 64) (i : Fin 8) (k : Fin 16) :
    Host.gather gather_S8x15x31_S256x64x8x16x2_S8x256x64x8x16_0_12_n_n_12_4_811 g idx (ix5 h r q i k)
      = g (ix3 h ⟨min (idx (ix5 r q i k 0)).toInt.toNat 14, by omega⟩ ⟨min (idx (ix5 r q i k 1)).toInt.toNat 30, by omega⟩) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have e0 : GatherDims.siIdx gather_S8x15x31_S256x64x8x16x2_S8x256x64x8x16_0_12_n_n_12_4_811 (ix5 h r q i k) ⟨0, by decide⟩
      = ix5 r q i k 0 := by
    funext b; refine Fin.ext ?_
    match b with
    | ⟨0, _⟩ => rfl
    | ⟨1, _⟩ => rfl
    | ⟨2, _⟩ => rfl
    | ⟨3, _⟩ => rfl
    | ⟨4, _⟩ => rfl
  have e1 : GatherDims.siIdx gather_S8x15x31_S256x64x8x16x2_S8x256x64x8x16_0_12_n_n_12_4_811 (ix5 h r q i k) ⟨1, by decide⟩
      = ix5 r q i k 1 := by
    funext b; refine Fin.ext ?_
    match b with
    | ⟨0, _⟩ => rfl
    | ⟨1, _⟩ => rfl
    | ⟨2, _⟩ => rfl
    | ⟨3, _⟩ => rfl
    | ⟨4, _⟩ => rfl
  match a with
  | ⟨0, _⟩ => show 0 + 0 + h.val = _; exact Nat.zero_add _
  | ⟨1, _⟩ =>
    show min (idx (GatherDims.siIdx _ _ ⟨0, _⟩)).toInt.toNat 14 + 0 + 0 = _
    rw [e0]; rfl
  | ⟨2, _⟩ =>
    show min (idx (GatherDims.siIdx _ _ ⟨1, _⟩)).toInt.toNat 30 + 0 + 0 = _
    rw [e1]; rfl

end Cert.ReferenceIdeal.Value
end
-- ==== Proof.RefTerm.lean ====
module

public import proofs.«01_k».proof.Proof.Gen.ReferenceIdeal.Run
public import proofs.«01_k».proof.Proof.Gather
public import proofs.«01_k».proof.Proof.Softmax

@[expose] public section

set_option maxRecDepth 16384

noncomputable section

open Idealize.ShloMosaic Idealize.ShloMosaic.TcCoe

namespace Cert.ReferenceIdeal.Value

open Cert.ReferenceIdeal Cert.ReferenceIdeal.Gen

/-! The reference's composed term, cut into named stages. -/

/-- Grid columns of each query column's neighbours. -/
def colIdx : IVec S64x16 32 := addi (broadcastInDim S64x16 ![0, 1] bcast_S64x1_S64x16_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))))) (broadcastInDim S64x16 ![0, 1] bcast_S1x16_S64x16_0_1 (broadcastInDim S1x16 ![1] bcast_S16_S1x16_1 (iotaInDim S16 32 0)))

/-- Grid rows of each query row's neighbours. -/
def rowIdx : IVec S256x8 32 := addi (broadcastInDim S256x8 ![0, 1] bcast_S256x1_S256x8_0_1 (broadcastInDim S256x1 ![0] bcast_S256_S256x1_0 (minsi (broadcastInDim S256 ![] bcast_S_S256 (id (constantI S_ 32 248#32))) (maxsi (broadcastInDim S256 ![] bcast_S_S256 (id (constantI S_ 32 0#32))) (subi (iotaInDim S256 32 0) (broadcastInDim S256 ![] bcast_S_S256 (constantI S_ 32 4#32))))))) (broadcastInDim S256x8 ![0, 1] bcast_S1x8_S256x8_0_1 (broadcastInDim S1x8 ![1] bcast_S8_S1x8_1 (iotaInDim S8 32 0)))

/-- A neighbour row's and a neighbour column's offset into the bias table. -/
def rowOff : IVec S256x8 32 := subi (addi (subi rowIdx (broadcastInDim S256x8 ![0, 1] bcast_S256x1_S256x8_0_1 (broadcastInDim S256x1 ![0] bcast_S256_S256x1_0 (iotaInDim S256 32 0)))) (broadcastInDim S256x8 ![] bcast_S_S256x8 (constantI S_ 32 8#32))) (broadcastInDim S256x8 ![] bcast_S_S256x8 (constantI S_ 32 1#32))

/-- The places of the window columns among the biases. -/
def colOff : IVec S64x16 32 := subi (addi (subi colIdx (broadcastInDim S64x16 ![0, 1] bcast_S64x1_S64x16_0_1 (broadcastInDim S64x1 ![0] bcast_S64_S64x1_0 (iotaInDim S64 32 0)))) (broadcastInDim S64x16 ![] bcast_S_S64x16 (constantI S_ 32 16#32))) (broadcastInDim S64x16 ![] bcast_S_S64x16 (constantI S_ 32 1#32))

/-- The pairs (row, column) of a table of rows and a table of columns, over the whole grid. -/
def pairs (r : IVec S256x8 32) (k : IVec S64x16 32) : IVec S256x64x8x16x2 32 :=
  concatenate S256x64x8x16x2 4 [⟨S256x64x8x16x1, (broadcastInDim S256x64x8x16x1 ![0, 1, 2, 3] bcast_S256x64x8x16_S256x64x8x16x1_0_1_2_3 (broadcastInDim S256x64x8x16 ![0, 1, 2, 3] bcast_S256x1x8x1_S256x64x8x16_0_1_2_3 (broadcastInDim S256x1x8x1 ![0, 2] bcast_S256x8_S256x1x8x1_0_2 r)))⟩, ⟨S256x64x8x16x1, (broadcastInDim S256x64x8x16x1 ![0, 1, 2, 3] bcast_S256x64x8x16_S256x64x8x16x1_0_1_2_3 (broadcastInDim S256x64x8x16 ![0, 1, 2, 3] bcast_S1x64x1x16_S256x64x8x16_0_1_2_3 (broadcastInDim S1x64x1x16 ![1, 3] bcast_S64x16_S1x64x1x16_1_3 k)))⟩] concatenates_S256x64x8x16x1_S256x64x8x16x1_S256x64x8x16x2_d4

/-- The queries on the grid. -/
def queries (x : FVec Ideal S16384x3072 .bf16) : FVec Ideal S256x64x8x128 .f32 :=
  shapeCast _ (shapeCast _ (extractStridedSlice S16384x1x8x128 ![0, 0, 0, 0] (shapeCast _ (extf .f32 x bitsLt_bf16_f32) shapeCasts_S16384x3072_S16384x3x8x128) slices_S16384x3x8x128_S16384x1x8x128_0_0_0_0) shapeCasts_S16384x1x8x128_S16384x8x128) shapeCasts_S16384x8x128_S256x64x8x128

/-- The keys on the grid. -/
def keys (x : FVec Ideal S16384x3072 .bf16) : FVec Ideal S256x64x8x128 .f32 :=
  shapeCast _ (shapeCast _ (extractStridedSlice S16384x1x8x128 ![0, 1, 0, 0] (shapeCast _ (extf .f32 x bitsLt_bf16_f32) shapeCasts_S16384x3072_S16384x3x8x128) slices_S16384x3x8x128_S16384x1x8x128_0_1_0_0) shapeCasts_S16384x1x8x128_S16384x8x128) shapeCasts_S16384x8x128_S256x64x8x128

/-- The values on the grid. -/
def values (x : FVec Ideal S16384x3072 .bf16) : FVec Ideal S256x64x8x128 .f32 :=
  shapeCast _ (shapeCast _ (extractStridedSlice S16384x1x8x128 ![0, 2, 0, 0] (shapeCast _ (extf .f32 x bitsLt_bf16_f32) shapeCasts_S16384x3072_S16384x3x8x128) slices_S16384x3x8x128_S16384x1x8x128_0_2_0_0) shapeCasts_S16384x1x8x128_S16384x8x128) shapeCasts_S16384x8x128_S256x64x8x128

/-- Each query's neighbours among the cells of the grid. -/
def near (g : FVec Ideal S256x64x8x128 .f32) : FVec Ideal S256x64x8x16x8x128 .f32 :=
  Host.gather gather_S256x64x8x128_S256x64x8x16x2_S256x64x8x16x8x128_45_01_n_n_01_4_118128 g (pairs rowIdx colIdx)

/-- Each query's position biases. -/
def nearBias (b : FVec Ideal S8x15x31 .f32) : FVec Ideal S8x256x64x8x16 .f32 :=
  Host.gather gather_S8x15x31_S256x64x8x16x2_S8x256x64x8x16_0_12_n_n_12_4_811 b (pairs rowOff colOff)

/-- The context's keys, by head. -/
def keysC (y : FVec Ideal S256x3072 .bf16) : FVec Ideal S256x8x128 .f32 :=
  shapeCast _ (extractStridedSlice S256x1x8x128 ![0, 1, 0, 0] (shapeCast _ (extf .f32 y bitsLt_bf16_f32) shapeCasts_S256x3072_S256x3x8x128) slices_S256x3x8x128_S256x1x8x128_0_1_0_0) shapeCasts_S256x1x8x128_S256x8x128

/-- The context's values, by head. -/
def valuesC (y : FVec Ideal S256x3072 .bf16) : FVec Ideal S256x8x128 .f32 :=
  shapeCast _ (extractStridedSlice S256x1x8x128 ![0, 2, 0, 0] (shapeCast _ (extf .f32 y bitsLt_bf16_f32) shapeCasts_S256x3072_S256x3x8x128) slices_S256x3x8x128_S256x1x8x128_0_2_0_0) shapeCasts_S256x1x8x128_S256x8x128

/-- The scores against the neighbours. -/
def scoresL (x : FVec Ideal S16384x3072 .bf16) (b : FVec Ideal S8x15x31 .f32) : FVec Ideal S8x256x64x8x16 .f32 :=
  addf (mulf (Host.dotGeneral dot_S256x64x8x128_S256x64x8x16x8x128_S8x256x64x8x16_3_5_n_23_201_401 none (queries x) (near (keys x))) (broadcastInDim S8x256x64x8x16 ![] bcast_S_S8x256x64x8x16 (constant S_ .f32 0x3DB504F3#32))) (nearBias b)

/-- The scores against the context. -/
def scoresC (x : FVec Ideal S16384x3072 .bf16) (y : FVec Ideal S256x3072 .bf16) : FVec Ideal S8x256x64x256 .f32 :=
  mulf (Host.dotGeneral dot_S256x64x8x128_S256x8x128_S8x256x64x256_3_2_01_0_2_1 none (queries x) (keysC y)) (broadcastInDim S8x256x64x256 ![] bcast_S_S8x256x64x256 (constant S_ .f32 0x3DB504F3#32))

/-- All of a query's scores in one row. -/
def scores (l : FVec Ideal S8x256x64x8x16 .f32) (k : FVec Ideal S8x256x64x256 .f32) : FVec Ideal S8x256x64x384 .f32 :=
  concatenate S8x256x64x384 3 [⟨S8x256x64x128, (shapeCast _ l shapeCasts_S8x256x64x8x16_S8x256x64x128)⟩, ⟨S8x256x64x256, k⟩] concatenates_S8x256x64x128_S8x256x64x256_S8x256x64x384_d3

/-- Each row's greatest score. -/
def highest (s : FVec Ideal S8x256x64x384 .f32) : FVec Ideal S8x256x64 .f32 :=
  maximumf (broadcastInDim S8x256x64 ![] bcast_S_S8x256x64 (constant S_ .f32 0xFF800000#32)) (Host.reduce FloatOps.maximumf s (constant S_ .f32 0xFF800000#32) reducesTo_S8x256x64x384_S8x256x64_d3 h_S_)

/-- A row's exponentials, from its greatest score. -/
def expd (s : FVec Ideal S8x256x64x384 .f32) : FVec Ideal S8x256x64x384 .f32 :=
  Host.exp (subf s (broadcastInDim S8x256x64x384 ![0, 1, 2, 3] bcast_S8x256x64x1_S8x256x64x384_0_1_2_3 (broadcastInDim S8x256x64x1 ![0, 1, 2] bcast_S8x256x64_S8x256x64x1_0_1_2 (highest s))))

/-- A row's weights. -/
def weights (e : FVec Ideal S8x256x64x384 .f32) : FVec Ideal S8x256x64x384 .f32 :=
  Host.divf e (broadcastInDim S8x256x64x384 ![0, 1, 2, 3] bcast_S8x256x64x1_S8x256x64x384_0_1_2_3 (broadcastInDim S8x256x64x1 ![0, 1, 2] bcast_S8x256x64_S8x256x64x1_0_1_2 (Host.reduceAdd e (constant S_ .f32 0x00000000#32) reducesTo_S8x256x64x384_S8x256x64_d3 h_S_)))

/-- The weighted values, summed over neighbours and context. -/
def mixed (p : FVec Ideal S8x256x64x384 .f32) (v : FVec Ideal S256x64x8x16x8x128 .f32) (w : FVec Ideal S256x8x128 .f32) :
    FVec Ideal S256x64x8x128 .f32 :=
  addf (Host.dotGeneral dot_S8x256x64x8x16_S256x64x8x16x8x128_S256x64x8x128_34_23_n_5_120_014 none (shapeCast _ (extractStridedSlice S8x256x64x128 ![0, 0, 0, 0] p slices_S8x256x64x384_S8x256x64x128_0_0_0_0) shapeCasts_S8x256x64x128_S8x256x64x8x16) v) (transpose S256x64x8x128 [2, 3, 0, 1] (Host.dotGeneral dot_S256x8x128_S8x256x64x256_S8x128x256x64_0_3_2_12_1_0 none w (extractStridedSlice S8x256x64x256 ![0, 0, 0, 128] p slices_S8x256x64x384_S8x256x64x256_0_0_0_128)) transposes_S8x128x256x64_S256x64x8x128_2_3_0_1)

/-- The reference as one function of its arguments. -/
def attention (x : FVec Ideal S16384x3072 .bf16) (y : FVec Ideal S256x3072 .bf16) (b : FVec Ideal S8x15x31 .f32) :
    FVec Ideal S16384x1024 .bf16 :=
  truncf .bf16 (shapeCast _ (mixed (weights (expd (scores (scoresL x b) (scoresC x y)))) (near (values x)) (valuesC y)) shapeCasts_S256x64x8x128_S16384x1024) bitsLt_bf16_f32

/-- What the reference's run leaves is that function of the arguments. -/
theorem res_eq (m : (ℓ : Loc nD τ sig) → Buf (Elt Ideal) ℓ) (c : Dev nD) :
    res_main_v101 m c = attention (m ((c.tc : Thread nD τ).loc main_arg0)) (m ((c.tc : Thread nD τ).loc main_arg1))
      (m ((c.tc : Thread nD τ).loc main_arg2)) := rfl

end Cert.ReferenceIdeal.Value
end
-- ==== Proof.RefAt.lean ====
module

public import proofs.«01_k».proof.Proof.RefTerm

@[expose] public section

set_option maxRecDepth 16384

noncomputable section

open Idealize.ShloMosaic Idealize.ShloMosaic.TcCoe

namespace Cert.ReferenceIdeal.Value

open Cert.ReferenceIdeal Cert.ReferenceIdeal.Gen

/-- The rows of a window begin four above, clamped to the grid. -/
theorem rowIdx_apply (r : Fin 256) (i : Fin 8) : (rowIdx (ix2 r i)).toInt.toNat = min (r.val - 4) 248 + i.val := by
  pointwise [rowIdx]
  revert r i
  exact (by decide +kernel : ∀ (r : Fin 256) (i : Fin 8), (IntOp.addi (IntOp.minsi 248#32 (IntOp.maxsi 0#32
    (IntOp.subi (BitVec.ofNat 32 r.val) 4#32))) (BitVec.ofNat 32 i.val)).toInt.toNat = min (r.val - 4) 248 + i.val)

/-- The columns of a window begin eight to the left, clamped to the grid. -/
theorem colIdx_apply (q : Fin 64) (k : Fin 16) : (colIdx (ix2 q k)).toInt.toNat = min (q.val - 8) 48 + k.val := by
  pointwise [colIdx]
  revert q k
  exact (by decide +kernel : ∀ (q : Fin 64) (k : Fin 16), (IntOp.addi (IntOp.minsi 48#32 (IntOp.maxsi 0#32
    (IntOp.subi (BitVec.ofNat 32 q.val) 8#32))) (BitVec.ofNat 32 k.val)).toInt.toNat = min (q.val - 8) 48 + k.val)

/-- A window row's place among the biases. -/
theorem rowOff_apply (r : Fin 256) (i : Fin 8) : (rowOff (ix2 r i)).toInt.toNat = min (r.val - 4) 248 + i.val + 7 - r.val := by
  pointwise [rowOff, rowIdx]
  revert r i
  exact (by decide +kernel : ∀ (r : Fin 256) (i : Fin 8), (IntOp.subi (IntOp.addi (IntOp.subi (IntOp.addi (IntOp.minsi 248#32 (IntOp.maxsi 0#32
    (IntOp.subi (BitVec.ofNat 32 r.val) 4#32))) (BitVec.ofNat 32 i.val)) (BitVec.ofNat 32 r.val)) 8#32) 1#32).toInt.toNat = min (r.val - 4) 248 + i.val + 7 - r.val)

/-- A window column's place among the biases. -/
theorem colOff_apply (q : Fin 64) (k : Fin 16) : (colOff (ix2 q k)).toInt.toNat = min (q.val - 8) 48 + k.val + 15 - q.val := by
  pointwise [colOff, colIdx]
  revert q k
  exact (by decide +kernel : ∀ (q : Fin 64) (k : Fin 16), (IntOp.subi (IntOp.addi (IntOp.subi (IntOp.addi (IntOp.minsi 48#32 (IntOp.maxsi 0#32
    (IntOp.subi (BitVec.ofNat 32 q.val) 8#32))) (BitVec.ofNat 32 k.val)) (BitVec.ofNat 32 q.val)) 16#32) 1#32).toInt.toNat = min (q.val - 8) 48 + k.val + 15 - q.val)

/-- The first of an index pair is the row. -/
theorem pairs0 (a : IVec S256x8 32) (b : IVec S64x16 32) (r : Fin 256) (q : Fin 64) (i : Fin 8) (k : Fin 16) :
    pairs a b (ix5 r q i k 0) = a (ix2 r i) := by
  pointwise [pairs]

/-- The second of an index pair is the column. -/
theorem pairs1 (a : IVec S256x8 32) (b : IVec S64x16 32) (r : Fin 256) (q : Fin 64) (i : Fin 8) (k : Fin 16) :
    pairs a b (ix5 r q i k 1) = b (ix2 q k) := by
  pointwise [pairs]

/-- The queries in the argument. -/
theorem queries_apply (x : FVec Ideal S16384x3072 .bf16) (r : Fin 256) (q : Fin 64) (h : Fin 8) (d : Fin 128) :
    queries x (ix4 r q h d) = x (ix2 ⟨r.val * 64 + q.val, by omega⟩ ⟨h.val * 128 + d.val, by omega⟩) := by
  pointwise [queries]

/-- The keys in the argument. -/
theorem keys_apply (x : FVec Ideal S16384x3072 .bf16) (r : Fin 256) (q : Fin 64) (h : Fin 8) (d : Fin 128) :
    keys x (ix4 r q h d) = x (ix2 ⟨r.val * 64 + q.val, by omega⟩ ⟨1024 + h.val * 128 + d.val, by omega⟩) := by
  pointwise [keys]

/-- The values in the argument. -/
theorem values_apply (x : FVec Ideal S16384x3072 .bf16) (r : Fin 256) (q : Fin 64) (h : Fin 8) (d : Fin 128) :
    values x (ix4 r q h d) = x (ix2 ⟨r.val * 64 + q.val, by omega⟩ ⟨2048 + h.val * 128 + d.val, by omega⟩) := by
  pointwise [values]

/-- The context's keys in the argument. -/
theorem keysC_apply (y : FVec Ideal S256x3072 .bf16) (c : Fin 256) (h : Fin 8) (d : Fin 128) :
    keysC y (ix3 c h d) = y (ix2 c ⟨1024 + h.val * 128 + d.val, by omega⟩) := by
  pointwise [keysC]

/-- The context's values in the argument. -/
theorem valuesC_apply (y : FVec Ideal S256x3072 .bf16) (c : Fin 256) (h : Fin 8) (d : Fin 128) :
    valuesC y (ix3 c h d) = y (ix2 c ⟨2048 + h.val * 128 + d.val, by omega⟩) := by
  pointwise [valuesC]

/-- A row of scores: the neighbours' first, the context's after. -/
theorem scores_apply (l : FVec Ideal S8x256x64x8x16 .f32) (k : FVec Ideal S8x256x64x256 .f32) (h : Fin 8) (r : Fin 256) (q : Fin 64) (j : Fin 384) :
    scores l k (ix4 h r q j) = if h_1 : j.val < 128 then l (ix5 h r q ⟨j.val / 16, by omega⟩ ⟨j.val % 16, by omega⟩)
      else k (ix4 h r q ⟨j.val - 128, by omega⟩) := by
  pointwise [scores]

/-- An exponential of a row. -/
theorem expd_apply (s : FVec Ideal S8x256x64x384 .f32) (h : Fin 8) (r : Fin 256) (q : Fin 64) (j : Fin 384) :
    expd s (ix4 h r q j) = Ideal.exp (s (ix4 h r q j) - highest s (ix3 h r q)) := by
  pointwise [expd]

/-- A weight of a row. -/
theorem weights_apply (s : FVec Ideal S8x256x64x384 .f32) (h : Fin 8) (r : Fin 256) (q : Fin 64) (j : Fin 384) :
    weights s (ix4 h r q j) = Ideal.div (s (ix4 h r q j)) (∑ j, s (ix4 h r q j)) := by
  pointwise [weights]

/-- The weighted values at an index. -/
theorem mixed_apply (p : FVec Ideal S8x256x64x384 .f32) (v : FVec Ideal S256x64x8x16x8x128 .f32) (w : FVec Ideal S256x8x128 .f32)
    (r : Fin 256) (q : Fin 64) (h : Fin 8) (d : Fin 128) :
    mixed p v w (ix4 r q h d) = ∑ x : Fin 8, ∑ x_1 : Fin 16, p (ix4 h r q ⟨x.val * 16 + x_1.val, by omega⟩) * v (ix6 r q x x_1 h d)
      + ∑ x : Fin 256, w (ix3 x h d) * p (ix4 h r q ⟨128 + x.val, by omega⟩) := by
  pointwise [mixed]

/-- A neighbour's score: scaled product plus bias. -/
theorem scoresL_apply (x : FVec Ideal S16384x3072 .bf16) (b : FVec Ideal S8x15x31 .f32) (h : Fin 8) (r : Fin 256) (q : Fin 64)
    (i : Fin 8) (k : Fin 16) : scoresL x b (ix5 h r q i k)
      = (∑ d : Fin 128, queries x (ix4 r q h d) * near (keys x) (ix6 r q i k h d)) * Ideal.ofBits .f32 0x3DB504F3#32
        + nearBias b (ix5 h r q i k) := by
  pointwise [scoresL]

/-- A context token's score: scaled product. -/
theorem scoresC_apply (x : FVec Ideal S16384x3072 .bf16) (y : FVec Ideal S256x3072 .bf16) (h : Fin 8) (r : Fin 256) (q : Fin 64)
    (k : Fin 256) : scoresC x y (ix4 h r q k)
      = (∑ d : Fin 128, queries x (ix4 r q h d) * keysC y (ix3 k h d)) * Ideal.ofBits .f32 0x3DB504F3#32 := by
  pointwise [scoresC]

/-- The neighbours gathered, at an index. -/
theorem near_apply (g : FVec Ideal S256x64x8x128 .f32) (r : Fin 256) (q : Fin 64) (i : Fin 8) (k : Fin 16) (h : Fin 8) (d : Fin 128) :
    near g (ix6 r q i k h d) = g (ix4 ⟨min (r.val - 4) 248 + i.val, by omega⟩ ⟨min (q.val - 8) 48 + k.val, by omega⟩ h d) := by
  unfold near
  rw [gather_cells]
  refine congrArg g ?_
  refine congrArg₂ (fun a b => ix4 a b h d) (Fin.ext ?_) (Fin.ext ?_)
  · show min _ _ = min (r.val - 4) 248 + i.val
    rw [pairs0, rowIdx_apply]; omega
  · show min _ _ = min (q.val - 8) 48 + k.val
    rw [pairs1, colIdx_apply]; omega

/-- The biases gathered, at an index. -/
theorem nearBias_apply (b : FVec Ideal S8x15x31 .f32) (r : Fin 256) (q : Fin 64) (i : Fin 8) (k : Fin 16) (h : Fin 8) :
    nearBias b (ix5 h r q i k) = b (ix3 h ⟨min (r.val - 4) 248 + i.val + 7 - r.val, by omega⟩ ⟨min (q.val - 8) 48 + k.val + 15 - q.val, by omega⟩) := by
  unfold nearBias
  rw [gather_bias]
  refine congrArg₂ (fun a c => b (ix3 h a c)) (Fin.ext ?_) (Fin.ext ?_)
  · show min _ _ = min (r.val - 4) 248 + i.val + 7 - r.val
    rw [pairs0, rowOff_apply]; omega
  · show min _ _ = min (q.val - 8) 48 + k.val + 15 - q.val
    rw [pairs1, colOff_apply]; omega

end Cert.ReferenceIdeal.Value
end
-- ==== Proof.RefTop.lean ====
module

public import proofs.«01_k».proof.Proof.RefTerm

@[expose] public section

set_option maxRecDepth 16384

noncomputable section

open Idealize.ShloMosaic Idealize.ShloMosaic.TcCoe

namespace Cert.ReferenceIdeal.Value

open Cert.ReferenceIdeal Cert.ReferenceIdeal.Gen

/-- A host maximum along the last of four axes, floored by a constant, at any extents. -/
theorem max_last {a b c n : ℕ} (hr : (⟨4, ![a, b, c, n]⟩ : Shape).ReducesTo [3] ⟨3, ![a, b, c]⟩) (hu : 0 < S_.numel)
    (hb : S_.BroadcastsInDim ⟨3, ![a, b, c]⟩ (![] : Fin 0 → Fin 3))
    (v : FVec Ideal ⟨4, ![a, b, c, n]⟩ .f32) (i : Fin a) (j : Fin b) (k : Fin c) :
    (maximumf (broadcastInDim ⟨3, ![a, b, c]⟩ ![] hb (constant S_ .f32 0xFF800000#32))
      (Host.reduce FloatOps.maximumf v (constant S_ .f32 0xFF800000#32) hr hu) : FVec Ideal ⟨3, ![a, b, c]⟩ .f32) (ix3 i j k)
      = Softmax.top (fun x => v (ix4 i j k x)) := by
  pointwise
  rw [Softmax.ofBits_floor]
  exact max_eq_right bot_le

/-- A row's greatest score, as a supremum. -/
theorem highest_apply (s : FVec Ideal S8x256x64x384 .f32) (h : Fin 8) (r : Fin 256) (q : Fin 64) :
    highest s (ix3 h r q) = Softmax.top fun j => s (ix4 h r q j) :=
  max_last reducesTo_S8x256x64x384_S8x256x64_d3 h_S_ bcast_S_S8x256x64 s h r q

end Cert.ReferenceIdeal.Value
end
-- ==== Proof.RefValue.lean ====
module

public import proofs.«01_k».proof.Proof.RefAt
public import proofs.«01_k».proof.Proof.RefTop

@[expose] public section

set_option maxRecDepth 16384

noncomputable section

open Idealize.ShloMosaic Idealize.ShloMosaic.TcCoe

namespace Cert.ReferenceIdeal.Value

open Cert.ReferenceIdeal Cert.ReferenceIdeal.Gen

/-- The places of a row of 384: 8 by 16 neighbours, then 256 of the context. -/
def places : (Fin 8 × Fin 16) ⊕ Fin 256 ≃ Fin 384 :=
  (Equiv.sumCongr finProdFinEquiv (Equiv.refl (Fin 256))).trans (finSumFinEquiv (m := 8 * 16) (n := 256))

/-- A neighbour's place in its row. -/
theorem places_inl (a : Fin 8 × Fin 16) : places (.inl a) = ⟨a.1.val * 16 + a.2.val, by omega⟩ := by
  refine Fin.ext ?_
  show a.2.val + 16 * a.1.val = _
  dsimp only; omega

/-- A context token's place in its row. -/
theorem places_inr (a : Fin 256) : places (.inr a) = ⟨128 + a.val, by omega⟩ := rfl

/-- The greatest of a row is the greater of its two parts' greatest. -/
theorem top_row (f : Fin 384 → EReal) : Softmax.top f
    = max (Softmax.top fun a : Fin 8 × Fin 16 => f ⟨a.1.val * 16 + a.2.val, by omega⟩) (Softmax.top fun c : Fin 256 => f ⟨128 + c.val, by omega⟩) := by
  simp only [Softmax.top_eq_sup, Finset.sup_univ_eq_iSup]
  rw [← places.iSup_comp, iSup_sum]
  simp only [places_inl, places_inr]

/-- The sum of a row is the sum of its two parts' sums. -/
theorem sum_row (f : Fin 384 → EReal) : ∑ j, f j
    = ∑ a : Fin 8 × Fin 16, f ⟨a.1.val * 16 + a.2.val, by omega⟩ + ∑ c : Fin 256, f ⟨128 + c.val, by omega⟩ := by
  rw [← places.sum_comp, Fintype.sum_sum_type]
  simp only [places_inl, places_inr]

/-- A neighbour's score. -/
def nearScore (x : FVec Ideal S16384x3072 .bf16) (b : FVec Ideal S8x15x31 .f32) (r : Fin 256) (q : Fin 64) (h : Fin 8) (a : Fin 8 × Fin 16) : EReal :=
  (∑ d : Fin 128, x (ix2 ⟨r.val * 64 + q.val, by omega⟩ ⟨h.val * 128 + d.val, by omega⟩)
      * x (ix2 ⟨(min (r.val - 4) 248 + a.1.val) * 64 + (min (q.val - 8) 48 + a.2.val), by omega⟩ ⟨1024 + h.val * 128 + d.val, by omega⟩))
      * Ideal.ofBits .f32 0x3DB504F3#32
    + b (ix3 h ⟨min (r.val - 4) 248 + a.1.val + 7 - r.val, by omega⟩ ⟨min (q.val - 8) 48 + a.2.val + 15 - q.val, by omega⟩)

/-- A neighbour's value. -/
def nearValue (x : FVec Ideal S16384x3072 .bf16) (r : Fin 256) (q : Fin 64) (h : Fin 8) (d : Fin 128) (a : Fin 8 × Fin 16) : EReal :=
  x (ix2 ⟨(min (r.val - 4) 248 + a.1.val) * 64 + (min (q.val - 8) 48 + a.2.val), by omega⟩ ⟨2048 + h.val * 128 + d.val, by omega⟩)

/-- A context token's score. -/
def farScore (x : FVec Ideal S16384x3072 .bf16) (y : FVec Ideal S256x3072 .bf16) (r : Fin 256) (q : Fin 64) (h : Fin 8) (k : Fin 256) : EReal :=
  (∑ d : Fin 128, x (ix2 ⟨r.val * 64 + q.val, by omega⟩ ⟨h.val * 128 + d.val, by omega⟩) * y (ix2 k ⟨1024 + h.val * 128 + d.val, by omega⟩))
      * Ideal.ofBits .f32 0x3DB504F3#32

/-- A context token's value. -/
def farValue (y : FVec Ideal S256x3072 .bf16) (h : Fin 8) (d : Fin 128) (k : Fin 256) : EReal :=
  y (ix2 k ⟨2048 + h.val * 128 + d.val, by omega⟩)

/-- The row's score at a neighbour's place. -/
theorem scores_near (x : FVec Ideal S16384x3072 .bf16) (y : FVec Ideal S256x3072 .bf16) (b : FVec Ideal S8x15x31 .f32) (r : Fin 256) (q : Fin 64) (h : Fin 8)
    (a : Fin 8 × Fin 16) : scores (scoresL x b) (scoresC x y) (ix4 h r q ⟨a.1.val * 16 + a.2.val, by omega⟩) = nearScore x b r q h a := by
  have e1 : (⟨(a.1.val * 16 + a.2.val) / 16, by omega⟩ : Fin 8) = a.1 := Fin.ext (by dsimp only; omega)
  have e2 : (⟨(a.1.val * 16 + a.2.val) % 16, by omega⟩ : Fin 16) = a.2 := Fin.ext (by dsimp only; omega)
  rw [scores_apply, dif_pos (by dsimp only; omega), e1, e2, scoresL_apply, nearBias_apply]
  simp only [queries_apply, near_apply, keys_apply]
  rfl

/-- The row's score at a context token's place. -/
theorem scores_far (x : FVec Ideal S16384x3072 .bf16) (y : FVec Ideal S256x3072 .bf16) (b : FVec Ideal S8x15x31 .f32) (r : Fin 256) (q : Fin 64) (h : Fin 8)
    (k : Fin 256) : scores (scoresL x b) (scoresC x y) (ix4 h r q ⟨128 + k.val, by omega⟩) = farScore x y r q h k := by
  have e1 : (⟨128 + k.val - 128, by omega⟩ : Fin 256) = k := Fin.ext (by dsimp only; omega)
  rw [scores_apply, dif_neg (by dsimp only; omega), e1, scoresC_apply]
  simp only [queries_apply, keysC_apply]
  rfl

/-- The reference's element, by grid row, grid column, head and channel. -/
theorem attention_split (x : FVec Ideal S16384x3072 .bf16) (y : FVec Ideal S256x3072 .bf16) (b : FVec Ideal S8x15x31 .f32) (r : Fin 256) (q : Fin 64) (h : Fin 8)
    (d : Fin 128) : attention x y b (ix2 ⟨r.val * 64 + q.val, by omega⟩ ⟨h.val * 128 + d.val, by omega⟩)
      = mixed (weights (expd (scores (scoresL x b) (scoresC x y)))) (near (values x)) (valuesC y) (ix4 r q h d) := by
  pointwise [attention]

/-- The reference at an element: the softened attention of its neighbours and its context. -/
theorem attention_apply (x : FVec Ideal S16384x3072 .bf16) (y : FVec Ideal S256x3072 .bf16) (b : FVec Ideal S8x15x31 .f32) (r : Fin 256) (q : Fin 64) (h : Fin 8)
    (d : Fin 128) : attention x y b (ix2 ⟨r.val * 64 + q.val, by omega⟩ ⟨h.val * 128 + d.val, by omega⟩)
      = Softmax.softened (nearScore x b r q h) (nearValue x r q h d) (farScore x y r q h) (farValue y h d) := by
  rw [attention_split, mixed_apply]
  simp only [weights_apply, expd_apply, highest_apply, top_row, sum_row, scores_near, scores_far, near_apply, values_apply, valuesC_apply]
  unfold Softmax.softened
  refine congrArg₂ (· + ·) ((Fintype.sum_prod_type _).trans ?_).symm (Finset.sum_congr rfl fun k _ => mul_comm _ _)
  refine Finset.sum_congr rfl fun i _ => Finset.sum_congr rfl fun k _ => ?_
  have := scores_near x y b r q h (i, k)
  dsimp only at this
  rw [this]
  rfl

end Cert.ReferenceIdeal.Value
end
-- ==== Proof.Real.lean ====
module

public import proofs.«01_k».proof.Defs
public import Idealize.ShloMosaic.Lib.ReduceAll
public import Idealize.ShloMosaic.Lib.Pointwise

@[expose] public section

set_option maxRecDepth 16384

noncomputable section

open Idealize.ShloMosaic

namespace Cert.Pre_scores_finite

/-- The witness of the precondition's side conditions. -/
theorem facts : Facts :=
  ⟨by decide, by decide, by decide, by decide, by decide, by decide, by decide, by decide, by decide, by decide⟩

attribute [local instance] facts

/-- A value whose magnitude lies below infinity is real. -/
theorem real_of_cmp (a : EReal) (h : FloatOps.cmpf (F := Ideal) (φ := .f32) .olt (FloatOps.absf (F := Ideal) (φ := .f32) a) (Ideal.ofBits .f32 0x7F800000#32) = 1#1) :
    ∃ r : ℝ, a = r := by
  have ht : Ideal.ofBits .f32 0x7F800000#32 = (⊤ : EReal) := by simp [Ideal.ofBits, Ideal.ieee]
  rw [ht, Ideal.cmpf_def, Ideal.absf_def] at h
  induction a with
  | bot => simp [Ideal.cmp] at h
  | top => simp [Ideal.cmp] at h
  | coe r => exact ⟨r, rfl⟩

/-- The queries and the keys are real. -/
def RealRows (x : FVec Ideal S16384x3072 .bf16) : Prop :=
  ∀ (i : Fin 16384) (j : Fin 2048), ∃ r : ℝ, x (ix2 i ⟨j.val, by omega⟩) = r

/-- The context's keys are real. -/
def RealContext (y : FVec Ideal S256x3072 .bf16) : Prop :=
  ∀ (i : Fin 256) (j : Fin 1024), ∃ r : ℝ, y (ix2 i ⟨1024 + j.val, by omega⟩) = r

/-- The biases are real. -/
def RealBias (b : FVec Ideal S8x15x31 .f32) : Prop :=
  ∀ (h : Fin 8) (i : Fin 15) (j : Fin 31), ∃ r : ℝ, b (ix3 h i j) = r

/-- The precondition says that the queries, the keys, the context's keys and the biases are real. -/
theorem reals (x : FVec Ideal S16384x3072 .bf16) (y : FVec Ideal S256x3072 .bf16) (b : FVec Ideal S8x15x31 .f32)
    (hp : fn (F := Ideal) x y b = fun _ => 1#1) : RealRows x ∧ RealContext y ∧ RealBias b := by
  have e : fn (F := Ideal) x y b ix0 = 1#1 := congrFun hp ix0
  unfold fn at e
  dsimp only at e
  have e1 := IntOp.andi_eq_one.1 e
  have e2 := IntOp.andi_eq_one.1 e1.1
  refine ⟨fun i j => ?_, fun i j => ?_, fun h i j => ?_⟩
  · have := real_of_cmp _ (Host.reduce_andi_all _ _ _ _ _ e2.1 (ix2 i j))
    pointwise at this
    exact this
  · have := real_of_cmp _ (Host.reduce_andi_all _ _ _ _ _ e2.2 (ix2 i j))
    pointwise at this
    exact this
  · exact real_of_cmp _ (Host.reduce_andi_all _ _ _ _ _ e1.2 (ix3 h i j))

end Cert.Pre_scores_finite
end
-- ==== Proof.Meet.lean ====
module

public import proofs.«01_k».proof.Proof.Whole
public import proofs.«01_k».proof.Proof.BiasTable
public import proofs.«01_k».proof.Proof.RefValue
public import proofs.«01_k».proof.Proof.Real

@[expose] public section

set_option maxRecDepth 16384

noncomputable section

open Idealize.ShloMosaic Idealize.ShloMosaic.TcCoe Idealize.SL.Sem

namespace Cert.Meet

open Cert.ReferenceIdeal.Value Cert.KernelIdeal.Value Cert.Pre_scores_finite

/-- A sum of real values is real. -/
theorem real_sum {ι : Type} [Fintype ι] (f : ι → EReal) (h : ∀ a, ∃ r : ℝ, f a = r) : ∃ r : ℝ, ∑ a, f a = r := by
  choose g hg using h
  refine ⟨∑ a, g a, ?_⟩
  rw [Finset.sum_congr rfl fun a _ => hg a]
  exact (map_sum (⟨⟨fun r : ℝ => (r : EReal), EReal.coe_zero⟩, EReal.coe_add⟩ : ℝ →+ EReal) g Finset.univ).symm

/-- A product of real values is real. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- A sum of two real values is real. -/
theorem real_add {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

/-- The scale of the scores is real. -/
theorem real_scale : ∃ r : ℝ, Ideal.ofBits .f32 0x3DB504F3#32 = r := by
  simp [Ideal.ofBits, Ideal.ieee]
  exact ⟨_, (EReal.coe_mul _ _).symm⟩

/-- Where a neighbour lies among the rows the kernel reads. -/
def place (q : Fin 64) (a : Fin 8 × Fin 16) : Fin 512 := ⟨a.1.val * 64 + (min (q.val - 8) 48 + a.2.val), by omega⟩

/-- Different neighbours lie in different places. -/
theorem place_inj (q : Fin 64) : Function.Injective (place q) := by
  rintro ⟨a, b⟩ ⟨a', b'⟩ h
  have := congrArg Fin.val h
  dsimp only [place] at this
  exact Prod.ext (Fin.ext (by dsimp only; omega)) (Fin.ext (by dsimp only; omega))

/-- A neighbour's score is real. -/
theorem real_near {x : FVec Ideal Cert.KernelIdeal.S16384x3072 .bf16} {b : FVec Ideal Cert.KernelIdeal.S8x15x31 .f32} (hx : RealRows x) (hb : RealBias b) (r : Fin 256) (q : Fin 64) (h : Fin 8)
    (a : Fin 8 × Fin 16) : ∃ v : ℝ, nearScore x b r q h a = v :=
  real_add (real_mul (real_sum _ fun d => real_mul (hx _ ⟨h.val * 128 + d.val, by omega⟩)
    (hx _ ⟨1024 + h.val * 128 + d.val, by omega⟩)) real_scale) (hb _ _ _)

/-- A context token's score is real. -/
theorem real_far {x : FVec Ideal Cert.KernelIdeal.S16384x3072 .bf16} {y : FVec Ideal Cert.KernelIdeal.S256x3072 .bf16} (hx : RealRows x) (hy : RealContext y) (r : Fin 256) (q : Fin 64) (h : Fin 8)
    (k : Fin 256) : ∃ v : ℝ, farScore x y r q h k = v := by
  refine real_mul (real_sum _ fun d => real_mul (hx _ ⟨h.val * 128 + d.val, by omega⟩) ?_) real_scale
  have := hy k ⟨h.val * 128 + d.val, by omega⟩
  simp only [← Nat.add_assoc] at this
  exact this

/-- With the table of biases it is called with, and real scores, the kernel computes the reference. -/
theorem spread_eq {x : FVec Ideal Cert.KernelIdeal.S16384x3072 .bf16} {y : FVec Ideal Cert.KernelIdeal.S256x3072 .bf16} {b : FVec Ideal Cert.KernelIdeal.S8x15x31 .f32} (hx : RealRows x) (hy : RealContext y) (hb : RealBias b)
    {T : FVec Ideal Cert.KernelIdeal.S8x8x64x512 .f32} (hT : Laid b T) (r : Fin 256) (q : Fin 64) (h : Fin 8) (d : Fin 128) :
    spread x y T ⟨r.val * 64 + q.val, by omega⟩ h d = attention x y b (ix2 ⟨r.val * 64 + q.val, by omega⟩ ⟨h.val * 128 + d.val, by omega⟩) := by
  rw [attention_apply, ← Softmax.attend_eq_softened _ _ _ _ (fun a => real_near hx hb r q h a) (fun k => real_far hx hy r q h k)]
  have hr : (r.val * 64 + q.val) / 64 = r.val := by omega
  have hq : (r.val * 64 + q.val) % 64 = q.val := by omega
  unfold spread
  simp only [hr, hq, Fin.eta]
  refine (Softmax.attend_masked (place q) (place_inj q) (nearScore x b r q h) (nearValue x r q h d) _ _ _ _ (fun a => ?_) (fun j hj => ?_) fun a => ?_)
  · have hk : min (q.val - 8) 48 ≤ (place q a).val % 64 ∧ (place q a).val % 64 < min (q.val - 8) 48 + 16 := by
      dsimp only [place]; omega
    rw [hT, dif_pos hk]
    unfold nearScore
    refine congrArg₂ (fun s t : EReal => s * Ideal.ofBits .f32 0x3DB504F3#32 + t) (Finset.sum_congr rfl fun e _ => congrArg₂ (fun s t : EReal => s * t) rfl (congrArg x ?_)) (congrArg b ?_)
    · refine congrArg₂ ix2 (Fin.ext ?_) rfl
      dsimp only [place]; omega
    · refine congrArg₂ (ix3 h) (Fin.ext ?_) (Fin.ext ?_) <;> dsimp only [place] <;> omega
  · have hk : ¬(min (q.val - 8) 48 ≤ j.val % 64 ∧ j.val % 64 < min (q.val - 8) 48 + 16) := fun hk =>
      hj (⟨j.val / 64, by omega⟩, ⟨j.val % 64 - min (q.val - 8) 48, by omega⟩) (Fin.ext (by dsimp only [place]; omega))
    rw [hT, dif_neg hk]
    exact EReal.add_bot _
  · unfold nearValue
    refine congrArg x (congrArg₂ ix2 (Fin.ext ?_) rfl)
    dsimp only [place]; omega

/-- The whole result of the kernel is the reference of the same arguments. -/
theorem result_eq {x : FVec Ideal Cert.KernelIdeal.S16384x3072 .bf16} {y : FVec Ideal Cert.KernelIdeal.S256x3072 .bf16} {b : FVec Ideal Cert.KernelIdeal.S8x15x31 .f32} (hx : RealRows x) (hy : RealContext y) (hb : RealBias b)
    {T : FVec Ideal Cert.KernelIdeal.S8x8x64x512 .f32} (hT : Laid b T) : whole x y T = attention x y b := by
  funext i
  rw [← ix2_eta i]
  have h0 : (i 0).val < 16384 := (i 0).isLt
  have h1 : (i 1).val < 1024 := (i 1).isLt
  have := spread_eq hx hy hb hT ⟨(i 0).val / 64, by omega⟩ ⟨(i 0).val % 64, by omega⟩ ⟨(i 1).val / 128, by omega⟩ ⟨(i 1).val % 128, by omega⟩
  have e0 : (⟨(i 0).val / 64 * 64 + (i 0).val % 64, by omega⟩ : Fin 16384) = i 0 := Fin.ext (by dsimp only; omega)
  have e1 : (⟨(i 1).val / 128 * 128 + (i 1).val % 128, by omega⟩ : Fin 1024) = i 1 := Fin.ext (by dsimp only; omega)
  dsimp only at this
  rw [e0, e1] at this
  exact this

end Cert.Meet
end
-- ==== Proof.Row.lean ====
module

public import Idealize.ShloMosaic.Lib.Pointwise

@[expose] public section

noncomputable section

open Idealize.ShloMosaic

namespace Cert.Row

/-- A row times a column. -/
def times {K : ℕ} (a b : Fin K → EReal) : EReal := ∑ k, a k * b k

/-- An element of a row, scaled by one plus a modulation and shifted. -/
def modulated (a s h : EReal) : EReal := a * (1 + s) + h

/-- Modulated rows times the columns from a given one on. -/
def projected {M K C N : ℕ} (o : ℕ) (fits : o + N ≤ C) (x : Fin M → Fin K → EReal) (s h : Fin K → EReal) (w : Fin K → Fin C → EReal)
    (i : Fin M) (j : Fin N) : EReal :=
  times (fun k => modulated (x i k) (s k) (h k)) (fun k => w k ⟨o + j.val, by omega⟩)

/-- A block's element is the whole product's, once its row, modulation and column are. -/
theorem projected_of_block {M K C N o : ℕ} {fits : o + N ≤ C} {x : Fin M → Fin K → EReal} {s h : Fin K → EReal} {w : Fin K → Fin C → EReal}
    {i : Fin M} {j : Fin N} {a s' h' b : Fin K → EReal} (ha : ∀ k, a k = x i k) (hs : ∀ k, s' k = s k) (hh : ∀ k, h' k = h k)
    (hb : ∀ k, b k = w k ⟨o + j.val, by omega⟩) : times (fun k => modulated (a k) (s' k) (h' k)) b = projected o fits x s h w i j := by
  rw [funext ha, funext hs, funext hh, funext hb]
  rfl

/-- Rows times columns. -/
def product {M K N : ℕ} (x : Fin M → Fin K → EReal) (w : Fin K → Fin N → EReal) (i : Fin M) (j : Fin N) : EReal :=
  times (x i) (fun k => w k j)

/-- A block's element is the whole product's, once its row and column are. -/
theorem product_of_block {M K N : ℕ} {x : Fin M → Fin K → EReal} {w : Fin K → Fin N → EReal} {i : Fin M} {j : Fin N} {a b : Fin K → EReal}
    (ha : ∀ k, a k = x i k) (hb : ∀ k, b k = w k j) : times a b = product x w i j := by
  rw [funext ha, funext hb]
  rfl

end Cert.Row
end
-- ==== Proof.HyProj.lean ====
module

public import proofs.«01_k».proof.Proof.Row
public import proofs.«01_k».proof.Proof.Gen.Kernel2Ideal.Value
public import proofs.«01_k».proof.Proof.Gen.Reference2Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

/-- The projection, element by element. -/
def whole (x : FVec Ideal S16384x2048 .f32) (s h : FVec Ideal S1x2048 .f32) (w : FVec Ideal S2048x6144 .f32) : FVec Ideal S16384x3072 .f32 :=
  fun i => Row.projected (N := 3072) 0 (by decide) (fun i k => x (ix2 i k)) (fun k => s (ix2 0 k)) (fun k => h (ix2 0 k)) (fun k j => w (ix2 k j)) (i 0) (i 1)

/-- One block of the projection. -/
theorem block_apply (a : Vec Ideal S1024x2048 .f32) (s h : Vec Ideal S1x2048 .f32) (b : Vec Ideal S2048x1024 .bf16) (i : Fin 1024) (j : Fin 1024) :
    k0_pay1 (F := Ideal) a s h b (ix2 i j)
      = Row.times (fun k : Fin 2048 => Row.modulated (a (ix2 i k)) (s (ix2 0 k)) (h (ix2 0 k))) (fun k => b (ix2 k j)) := by
  pointwise [k0_pay1]
  rfl

/-- The columns the kernel is called with. -/
theorem columns (V : Valuation τ sig (Elt Ideal)) (k : Fin 2048) (j : Fin 3072) :
    (StableHlo.after (hostOps0 (F := Ideal)) V main_v1 : FVec Ideal S2048x3072 .bf16) (ix2 k j)
      = (V main_arg3 : FVec Ideal S2048x6144 .f32) (ix2 k ⟨0 + j.val, by omega⟩) := by
  after_reads_at

variable (m : (ℓ : Loc nD τ sig) → Buf (Elt Ideal) ℓ)

/-- The block of each window at each grid point. -/
theorem idx : ∀ t : Fin cfg0.N, win0_0.index t = ![t.val / 3, 0] ∧ win0_1.index t = ![0, 0] ∧ win0_2.index t = ![0, 0]
    ∧ win0_3.index t = ![0, t.val % 3] ∧ win0_4.index t = ![t.val / 3, t.val % 3] ∧ t.val / 3 < 16 :=
  (by decide +kernel : ∀ t : Fin grid0.N, _)

/-- The grid has 48 points. -/
theorem points (t : Fin cfg0.N) : t.val < 48 := lt_of_lt_of_eq t.isLt N_0

/-- A block of rows, in the argument. -/
theorem rows_block (c : Dev nD) (t : Fin cfg0.N) (i : Fin 1024) (k : Fin 2048) : (iblk m c 0 t : Vec Ideal S1024x2048 .f32) (ix2 i k)
    = (m ((c.tc : Thread nD τ).loc main_arg0) : FVec Ideal S16384x2048 .f32) (ix2 ⟨t.val / 3 * 1024 + i.val, by have := points t; omega⟩ k) := by
  blk_ext [iblk, V, idx t]

/-- The scales, whole at every point. -/
theorem scale_block (c : Dev nD) (t : Fin cfg0.N) (k : Fin 2048) : (iblk m c 1 t : Vec Ideal S1x2048 .f32) (ix2 0 k)
    = (m ((c.tc : Thread nD τ).loc main_arg1) : FVec Ideal S1x2048 .f32) (ix2 0 k) := by
  blk_ext [iblk, V, idx t]

/-- The shifts, whole at every point. -/
theorem shift_block (c : Dev nD) (t : Fin cfg0.N) (k : Fin 2048) : (iblk m c 2 t : Vec Ideal S1x2048 .f32) (ix2 0 k)
    = (m ((c.tc : Thread nD τ).loc main_arg2) : FVec Ideal S1x2048 .f32) (ix2 0 k) := by
  blk_ext [iblk, V, idx t]

/-- A block of columns, in the argument. -/
theorem columns_block (c : Dev nD) (t : Fin cfg0.N) (k : Fin 2048) (j : Fin 1024) : (iblk m c 3 t : Vec Ideal S2048x1024 .bf16) (ix2 k j)
    = (m ((c.tc : Thread nD τ).loc main_arg3) : FVec Ideal S2048x6144 .f32) (ix2 k ⟨0 + (t.val % 3 * 1024 + j.val), by omega⟩) := by
  refine Eq.trans (b := (V m c main_v1 : FVec Ideal S2048x3072 .bf16) (ix2 k ⟨t.val % 3 * 1024 + j.val, by omega⟩)) ?_ (columns _ k _)
  blk_ext [iblk, idx t]

/-- The kernel's array. -/
theorem final (c : Dev nD) : (dats m 0 c).arrAt 4 cfg0.N = whole (m ((c.tc : Thread nD τ).loc main_arg0)) (m ((c.tc : Thread nD τ).loc main_arg1))
    (m ((c.tc : Thread nD τ).loc main_arg2)) (m ((c.tc : Thread nD τ).loc main_arg3)) := by
  unfold whole
  refine (dats m 0 c).arrAt_eq_of_covers 4 _ (by decide +kernel) fun t hf y => ?_
  have w0 : win0_4.index t 0 = t.val / 3 := (idx t).2.2.2.2.1 ▸ rfl
  have w1 : win0_4.index t 1 = t.val % 3 := (idx t).2.2.2.2.1 ▸ rfl
  blk_simp
  rw [after0_4]
  frame_out
  refine (congrArg _ (ix2_eta y).symm).trans ((block_apply _ _ _ _ (y 0) (y 1)).trans ?_)
  refine Row.projected_of_block (fun k => (rows_block m c t (y 0) k).trans ?_) (scale_block m c t) (shift_block m c t)
    fun k => (columns_block m c t k (y 1)).trans ?_
  · refine congrArg (fun i => (m ((c.tc : Thread nD τ).loc main_arg0) : FVec Ideal S16384x2048 .f32) (ix2 i k)) (Fin.ext ?_)
    show t.val / 3 * 1024 + (y 0).val = win0_4.index t 0 * 1024 + 1 * (y 0).val
    omega
  · refine congrArg (fun j => (m ((c.tc : Thread nD τ).loc main_arg3) : FVec Ideal S2048x6144 .f32) (ix2 k j)) (Fin.ext ?_)
    show 0 + (t.val % 3 * 1024 + (y 1).val) = 0 + (win0_4.index t 1 * 1024 + 1 * (y 1).val)
    omega

end Cert.Kernel2Ideal.Value

namespace Cert.Reference2Ideal.Value

open Cert.Reference2Ideal Cert.Reference2Ideal.Gen

/-- The reference's array is the projection. -/
theorem product (x : FVec Ideal S16384x2048 .f32) (s h : FVec Ideal S1x2048 .f32) (w : FVec Ideal S2048x6144 .f32) :
    (Host.dotGeneral dot_S16384x2048_S2048x3072_S16384x3072_1_0_0_1_n_n none
      (addf (mulf x (broadcastInDim S16384x2048 ![0, 1] bcast_S1x2048_S16384x2048_0_1 (addf (broadcastInDim S1x2048 ![] bcast_S_S1x2048 (constant S_ .f32 0x3F800000#32)) s)))
        (broadcastInDim S16384x2048 ![0, 1] bcast_S1x2048_S16384x2048_0_1 h))
      (extractStridedSlice S2048x3072 ![0, 0] w slices_S2048x6144_S2048x3072_0_0) : FVec Ideal S16384x3072 .f32)
      = Cert.Kernel2Ideal.Value.whole x s h w := by
  funext i
  rw [← ix2_eta i]
  pointwise [Cert.Kernel2Ideal.Value.whole, Row.projected]
  rfl

end Cert.Reference2Ideal.Value
end
-- ==== Proof.NaProj.lean ====
module

public import proofs.«01_k».proof.Proof.Row
public import proofs.«01_k».proof.Proof.Gen.Kernel3Ideal.Value
public import proofs.«01_k».proof.Proof.Gen.Reference3Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

/-- The projection, element by element. -/
def whole (x : FVec Ideal S16384x2048 .f32) (s h : FVec Ideal S1x2048 .f32) (w : FVec Ideal S2048x6144 .f32) : FVec Ideal S16384x3072 .bf16 :=
  fun i => Row.projected (N := 3072) 3072 (by decide) (fun i k => x (ix2 i k)) (fun k => s (ix2 0 k)) (fun k => h (ix2 0 k)) (fun k j => w (ix2 k j)) (i 0) (i 1)

/-- One block of the projection. -/
theorem block_apply (a : Vec Ideal S1024x2048 .f32) (s h : Vec Ideal S1x2048 .f32) (b : Vec Ideal S2048x1024 .bf16) (i : Fin 1024) (j : Fin 1024) :
    k0_pay1 (F := Ideal) a s h b (ix2 i j)
      = Row.times (fun k : Fin 2048 => Row.modulated (a (ix2 i k)) (s (ix2 0 k)) (h (ix2 0 k))) (fun k => b (ix2 k j)) := by
  pointwise [k0_pay1]
  rfl

/-- The columns the kernel is called with. -/
theorem columns (V : Valuation τ sig (Elt Ideal)) (k : Fin 2048) (j : Fin 3072) :
    (StableHlo.after (hostOps0 (F := Ideal)) V main_v1 : FVec Ideal S2048x3072 .bf16) (ix2 k j)
      = (V main_arg3 : FVec Ideal S2048x6144 .f32) (ix2 k ⟨3072 + j.val, by omega⟩) := by
  after_reads_at

variable (m : (ℓ : Loc nD τ sig) → Buf (Elt Ideal) ℓ)

/-- The block of each window at each grid point. -/
theorem idx : ∀ t : Fin cfg0.N, win0_0.index t = ![t.val / 3, 0] ∧ win0_1.index t = ![0, 0] ∧ win0_2.index t = ![0, 0]
    ∧ win0_3.index t = ![0, t.val % 3] ∧ win0_4.index t = ![t.val / 3, t.val % 3] ∧ t.val / 3 < 16 :=
  (by decide +kernel : ∀ t : Fin grid0.N, _)

/-- The grid has 48 points. -/
theorem points (t : Fin cfg0.N) : t.val < 48 := lt_of_lt_of_eq t.isLt N_0

/-- A block of rows, in the argument. -/
theorem rows_block (c : Dev nD) (t : Fin cfg0.N) (i : Fin 1024) (k : Fin 2048) : (iblk m c 0 t : Vec Ideal S1024x2048 .f32) (ix2 i k)
    = (m ((c.tc : Thread nD τ).loc main_arg0) : FVec Ideal S16384x2048 .f32) (ix2 ⟨t.val / 3 * 1024 + i.val, by have := points t; omega⟩ k) := by
  blk_ext [iblk, V, idx t]

/-- The scales, whole at every point. -/
theorem scale_block (c : Dev nD) (t : Fin cfg0.N) (k : Fin 2048) : (iblk m c 1 t : Vec Ideal S1x2048 .f32) (ix2 0 k)
    = (m ((c.tc : Thread nD τ).loc main_arg1) : FVec Ideal S1x2048 .f32) (ix2 0 k) := by
  blk_ext [iblk, V, idx t]

/-- The shifts, whole at every point. -/
theorem shift_block (c : Dev nD) (t : Fin cfg0.N) (k : Fin 2048) : (iblk m c 2 t : Vec Ideal S1x2048 .f32) (ix2 0 k)
    = (m ((c.tc : Thread nD τ).loc main_arg2) : FVec Ideal S1x2048 .f32) (ix2 0 k) := by
  blk_ext [iblk, V, idx t]

/-- A block of columns, in the argument. -/
theorem columns_block (c : Dev nD) (t : Fin cfg0.N) (k : Fin 2048) (j : Fin 1024) : (iblk m c 3 t : Vec Ideal S2048x1024 .bf16) (ix2 k j)
    = (m ((c.tc : Thread nD τ).loc main_arg3) : FVec Ideal S2048x6144 .f32) (ix2 k ⟨3072 + (t.val % 3 * 1024 + j.val), by omega⟩) := by
  refine Eq.trans (b := (V m c main_v1 : FVec Ideal S2048x3072 .bf16) (ix2 k ⟨t.val % 3 * 1024 + j.val, by omega⟩)) ?_ (columns _ k _)
  blk_ext [iblk, idx t]

/-- The kernel's array. -/
theorem final (c : Dev nD) : (dats m 0 c).arrAt 4 cfg0.N = whole (m ((c.tc : Thread nD τ).loc main_arg0)) (m ((c.tc : Thread nD τ).loc main_arg1))
    (m ((c.tc : Thread nD τ).loc main_arg2)) (m ((c.tc : Thread nD τ).loc main_arg3)) := by
  unfold whole
  refine (dats m 0 c).arrAt_eq_of_covers 4 _ (by decide +kernel) fun t hf y => ?_
  have w0 : win0_4.index t 0 = t.val / 3 := (idx t).2.2.2.2.1 ▸ rfl
  have w1 : win0_4.index t 1 = t.val % 3 := (idx t).2.2.2.2.1 ▸ rfl
  blk_simp
  rw [after0_4]
  frame_out
  refine (congrArg _ (ix2_eta y).symm).trans ((block_apply _ _ _ _ (y 0) (y 1)).trans ?_)
  refine Row.projected_of_block (fun k => (rows_block m c t (y 0) k).trans ?_) (scale_block m c t) (shift_block m c t)
    fun k => (columns_block m c t k (y 1)).trans ?_
  · refine congrArg (fun i => (m ((c.tc : Thread nD τ).loc main_arg0) : FVec Ideal S16384x2048 .f32) (ix2 i k)) (Fin.ext ?_)
    show t.val / 3 * 1024 + (y 0).val = win0_4.index t 0 * 1024 + 1 * (y 0).val
    omega
  · refine congrArg (fun j => (m ((c.tc : Thread nD τ).loc main_arg3) : FVec Ideal S2048x6144 .f32) (ix2 k j)) (Fin.ext ?_)
    show 3072 + (t.val % 3 * 1024 + (y 1).val) = 3072 + (win0_4.index t 1 * 1024 + 1 * (y 1).val)
    omega

end Cert.Kernel3Ideal.Value

namespace Cert.Reference3Ideal.Value

open Cert.Reference3Ideal Cert.Reference3Ideal.Gen

/-- The reference's array is the projection. -/
theorem product (x : FVec Ideal S16384x2048 .f32) (s h : FVec Ideal S1x2048 .f32) (w : FVec Ideal S2048x6144 .f32) :
    (truncf .bf16 (Host.dotGeneral dot_S16384x2048_S2048x3072_S16384x3072_1_0_0_1_n_n none
      (addf (mulf x (broadcastInDim S16384x2048 ![0, 1] bcast_S1x2048_S16384x2048_0_1 (addf (broadcastInDim S1x2048 ![] bcast_S_S1x2048 (constant S_ .f32 0x3F800000#32)) s)))
        (broadcastInDim S16384x2048 ![0, 1] bcast_S1x2048_S16384x2048_0_1 h))
      (extractStridedSlice S2048x3072 ![0, 3072] w slices_S2048x6144_S2048x3072_0_3072)) bitsLt_bf16_f32 : FVec Ideal S16384x3072 .bf16)
      = Cert.Kernel3Ideal.Value.whole x s h w := by
  funext i
  rw [← ix2_eta i]
  pointwise [Cert.Kernel3Ideal.Value.whole, Row.projected]
  rfl

end Cert.Reference3Ideal.Value
end
-- ==== Proof.MlQk.lean ====
module

public import proofs.«01_k».proof.Proof.Row
public import proofs.«01_k».proof.Proof.Gen.Kernel4Ideal.Value
public import proofs.«01_k».proof.Proof.Gen.Reference4Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

/-- The projection, element by element. -/
def whole (x : FVec Ideal S16384x2048 .f32) (s h : FVec Ideal S1x2048 .f32) (w : FVec Ideal S2048x6176 .f32) : FVec Ideal S16384x2048 .f32 :=
  fun i => Row.projected (N := 2048) 0 (by decide) (fun i k => x (ix2 i k)) (fun k => s (ix2 0 k)) (fun k => h (ix2 0 k)) (fun k j => w (ix2 k j)) (i 0) (i 1)

/-- One block of the projection. -/
theorem block_apply (a : Vec Ideal S1024x2048 .f32) (s h : Vec Ideal S1x2048 .f32) (b : Vec Ideal S2048x1024 .bf16) (i : Fin 1024) (j : Fin 1024) :
    k0_pay1 (F := Ideal) a s h b (ix2 i j)
      = Row.times (fun k : Fin 2048 => Row.modulated (a (ix2 i k)) (s (ix2 0 k)) (h (ix2 0 k))) (fun k => b (ix2 k j)) := by
  pointwise [k0_pay1]
  rfl

/-- The columns the kernel is called with. -/
theorem columns (V : Valuation τ sig (Elt Ideal)) (k : Fin 2048) (j : Fin 2048) :
    (StableHlo.after (hostOps0 (F := Ideal)) V main_v1 : FVec Ideal S2048x2048 .bf16) (ix2 k j)
      = (V main_arg3 : FVec Ideal S2048x6176 .f32) (ix2 k ⟨0 + j.val, by omega⟩) := by
  after_reads_at

variable (m : (ℓ : Loc nD τ sig) → Buf (Elt Ideal) ℓ)

/-- The block of each window at each grid point. -/
theorem idx : ∀ t : Fin cfg0.N, win0_0.index t = ![t.val / 2, 0] ∧ win0_1.index t = ![0, 0] ∧ win0_2.index t = ![0, 0]
    ∧ win0_3.index t = ![0, t.val % 2] ∧ win0_4.index t = ![t.val / 2, t.val % 2] ∧ t.val / 2 < 16 :=
  (by decide +kernel : ∀ t : Fin grid0.N, _)

/-- The grid has 32 points. -/
theorem points (t : Fin cfg0.N) : t.val < 32 := lt_of_lt_of_eq t.isLt N_0

/-- A block of rows, in the argument. -/
theorem rows_block (c : Dev nD) (t : Fin cfg0.N) (i : Fin 1024) (k : Fin 2048) : (iblk m c 0 t : Vec Ideal S1024x2048 .f32) (ix2 i k)
    = (m ((c.tc : Thread nD τ).loc main_arg0) : FVec Ideal S16384x2048 .f32) (ix2 ⟨t.val / 2 * 1024 + i.val, by have := points t; omega⟩ k) := by
  blk_ext [iblk, V, idx t]

/-- The scales, whole at every point. -/
theorem scale_block (c : Dev nD) (t : Fin cfg0.N) (k : Fin 2048) : (iblk m c 1 t : Vec Ideal S1x2048 .f32) (ix2 0 k)
    = (m ((c.tc : Thread nD τ).loc main_arg1) : FVec Ideal S1x2048 .f32) (ix2 0 k) := by
  blk_ext [iblk, V, idx t]

/-- The shifts, whole at every point. -/
theorem shift_block (c : Dev nD) (t : Fin cfg0.N) (k : Fin 2048) : (iblk m c 2 t : Vec Ideal S1x2048 .f32) (ix2 0 k)
    = (m ((c.tc : Thread nD τ).loc main_arg2) : FVec Ideal S1x2048 .f32) (ix2 0 k) := by
  blk_ext [iblk, V, idx t]

/-- A block of columns, in the argument. -/
theorem columns_block (c : Dev nD) (t : Fin cfg0.N) (k : Fin 2048) (j : Fin 1024) : (iblk m c 3 t : Vec Ideal S2048x1024 .bf16) (ix2 k j)
    = (m ((c.tc : Thread nD τ).loc main_arg3) : FVec Ideal S2048x6176 .f32) (ix2 k ⟨0 + (t.val % 2 * 1024 + j.val), by omega⟩) := by
  refine Eq.trans (b := (V m c main_v1 : FVec Ideal S2048x2048 .bf16) (ix2 k ⟨t.val % 2 * 1024 + j.val, by omega⟩)) ?_ (columns _ k _)
  blk_ext [iblk, idx t]

/-- The kernel's array. -/
theorem final (c : Dev nD) : (dats m 0 c).arrAt 4 cfg0.N = whole (m ((c.tc : Thread nD τ).loc main_arg0)) (m ((c.tc : Thread nD τ).loc main_arg1))
    (m ((c.tc : Thread nD τ).loc main_arg2)) (m ((c.tc : Thread nD τ).loc main_arg3)) := by
  unfold whole
  refine (dats m 0 c).arrAt_eq_of_covers 4 _ (by decide +kernel) fun t hf y => ?_
  have w0 : win0_4.index t 0 = t.val / 2 := (idx t).2.2.2.2.1 ▸ rfl
  have w1 : win0_4.index t 1 = t.val % 2 := (idx t).2.2.2.2.1 ▸ rfl
  blk_simp
  rw [after0_4]
  frame_out
  refine (congrArg _ (ix2_eta y).symm).trans ((block_apply _ _ _ _ (y 0) (y 1)).trans ?_)
  refine Row.projected_of_block (fun k => (rows_block m c t (y 0) k).trans ?_) (scale_block m c t) (shift_block m c t)
    fun k => (columns_block m c t k (y 1)).trans ?_
  · refine congrArg (fun i => (m ((c.tc : Thread nD τ).loc main_arg0) : FVec Ideal S16384x2048 .f32) (ix2 i k)) (Fin.ext ?_)
    show t.val / 2 * 1024 + (y 0).val = win0_4.index t 0 * 1024 + 1 * (y 0).val
    omega
  · refine congrArg (fun j => (m ((c.tc : Thread nD τ).loc main_arg3) : FVec Ideal S2048x6176 .f32) (ix2 k j)) (Fin.ext ?_)
    show 0 + (t.val % 2 * 1024 + (y 1).val) = 0 + (win0_4.index t 1 * 1024 + 1 * (y 1).val)
    omega

end Cert.Kernel4Ideal.Value

namespace Cert.Reference4Ideal.Value

open Cert.Reference4Ideal Cert.Reference4Ideal.Gen

/-- The reference's array is the projection. -/
theorem product (x : FVec Ideal S16384x2048 .f32) (s h : FVec Ideal S1x2048 .f32) (w : FVec Ideal S2048x6176 .f32) :
    (Host.dotGeneral dot_S16384x2048_S2048x2048_S16384x2048_1_0_0_1_n_n none
      (addf (mulf x (broadcastInDim S16384x2048 ![0, 1] bcast_S1x2048_S16384x2048_0_1 (addf (broadcastInDim S1x2048 ![] bcast_S_S1x2048 (constant S_ .f32 0x3F800000#32)) s)))
        (broadcastInDim S16384x2048 ![0, 1] bcast_S1x2048_S16384x2048_0_1 h))
      (extractStridedSlice S2048x2048 ![0, 0] w slices_S2048x6176_S2048x2048_0_0) : FVec Ideal S16384x2048 .f32)
      = Cert.Kernel4Ideal.Value.whole x s h w := by
  funext i
  rw [← ix2_eta i]
  pointwise [Cert.Kernel4Ideal.Value.whole, Row.projected]
  rfl

end Cert.Reference4Ideal.Value
end
-- ==== Proof.MlV.lean ====
module

public import proofs.«01_k».proof.Proof.Row
public import proofs.«01_k».proof.Proof.Gen.Kernel5Ideal.Value
public import proofs.«01_k».proof.Proof.Gen.Reference5Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen

/-- The projection, element by element. -/
def whole (x : FVec Ideal S16384x2048 .f32) (s h : FVec Ideal S1x2048 .f32) (w : FVec Ideal S2048x6176 .f32) : FVec Ideal S16384x2048 .bf16 :=
  fun i => Row.projected (N := 2048) 2048 (by decide) (fun i k => x (ix2 i k)) (fun k => s (ix2 0 k)) (fun k => h (ix2 0 k)) (fun k j => w (ix2 k j)) (i 0) (i 1)

/-- One block of the projection. -/
theorem block_apply (a : Vec Ideal S1024x2048 .f32) (s h : Vec Ideal S1x2048 .f32) (b : Vec Ideal S2048x1024 .bf16) (i : Fin 1024) (j : Fin 1024) :
    k0_pay1 (F := Ideal) a s h b (ix2 i j)
      = Row.times (fun k : Fin 2048 => Row.modulated (a (ix2 i k)) (s (ix2 0 k)) (h (ix2 0 k))) (fun k => b (ix2 k j)) := by
  pointwise [k0_pay1]
  rfl

/-- The columns the kernel is called with. -/
theorem columns (V : Valuation τ sig (Elt Ideal)) (k : Fin 2048) (j : Fin 2048) :
    (StableHlo.after (hostOps0 (F := Ideal)) V main_v1 : FVec Ideal S2048x2048 .bf16) (ix2 k j)
      = (V main_arg3 : FVec Ideal S2048x6176 .f32) (ix2 k ⟨2048 + j.val, by omega⟩) := by
  after_reads_at

variable (m : (ℓ : Loc nD τ sig) → Buf (Elt Ideal) ℓ)

/-- The block of each window at each grid point. -/
theorem idx : ∀ t : Fin cfg0.N, win0_0.index t = ![t.val / 2, 0] ∧ win0_1.index t = ![0, 0] ∧ win0_2.index t = ![0, 0]
    ∧ win0_3.index t = ![0, t.val % 2] ∧ win0_4.index t = ![t.val / 2, t.val % 2] ∧ t.val / 2 < 16 :=
  (by decide +kernel : ∀ t : Fin grid0.N, _)

/-- The grid has 32 points. -/
theorem points (t : Fin cfg0.N) : t.val < 32 := lt_of_lt_of_eq t.isLt N_0

/-- A block of rows, in the argument. -/
theorem rows_block (c : Dev nD) (t : Fin cfg0.N) (i : Fin 1024) (k : Fin 2048) : (iblk m c 0 t : Vec Ideal S1024x2048 .f32) (ix2 i k)
    = (m ((c.tc : Thread nD τ).loc main_arg0) : FVec Ideal S16384x2048 .f32) (ix2 ⟨t.val / 2 * 1024 + i.val, by have := points t; omega⟩ k) := by
  blk_ext [iblk, V, idx t]

/-- The scales, whole at every point. -/
theorem scale_block (c : Dev nD) (t : Fin cfg0.N) (k : Fin 2048) : (iblk m c 1 t : Vec Ideal S1x2048 .f32) (ix2 0 k)
    = (m ((c.tc : Thread nD τ).loc main_arg1) : FVec Ideal S1x2048 .f32) (ix2 0 k) := by
  blk_ext [iblk, V, idx t]

/-- The shifts, whole at every point. -/
theorem shift_block (c : Dev nD) (t : Fin cfg0.N) (k : Fin 2048) : (iblk m c 2 t : Vec Ideal S1x2048 .f32) (ix2 0 k)
    = (m ((c.tc : Thread nD τ).loc main_arg2) : FVec Ideal S1x2048 .f32) (ix2 0 k) := by
  blk_ext [iblk, V, idx t]

/-- A block of columns, in the argument. -/
theorem columns_block (c : Dev nD) (t : Fin cfg0.N) (k : Fin 2048) (j : Fin 1024) : (iblk m c 3 t : Vec Ideal S2048x1024 .bf16) (ix2 k j)
    = (m ((c.tc : Thread nD τ).loc main_arg3) : FVec Ideal S2048x6176 .f32) (ix2 k ⟨2048 + (t.val % 2 * 1024 + j.val), by omega⟩) := by
  refine Eq.trans (b := (V m c main_v1 : FVec Ideal S2048x2048 .bf16) (ix2 k ⟨t.val % 2 * 1024 + j.val, by omega⟩)) ?_ (columns _ k _)
  blk_ext [iblk, idx t]

/-- The kernel's array. -/
theorem final (c : Dev nD) : (dats m 0 c).arrAt 4 cfg0.N = whole (m ((c.tc : Thread nD τ).loc main_arg0)) (m ((c.tc : Thread nD τ).loc main_arg1))
    (m ((c.tc : Thread nD τ).loc main_arg2)) (m ((c.tc : Thread nD τ).loc main_arg3)) := by
  unfold whole
  refine (dats m 0 c).arrAt_eq_of_covers 4 _ (by decide +kernel) fun t hf y => ?_
  have w0 : win0_4.index t 0 = t.val / 2 := (idx t).2.2.2.2.1 ▸ rfl
  have w1 : win0_4.index t 1 = t.val % 2 := (idx t).2.2.2.2.1 ▸ rfl
  blk_simp
  rw [after0_4]
  frame_out
  refine (congrArg _ (ix2_eta y).symm).trans ((block_apply _ _ _ _ (y 0) (y 1)).trans ?_)
  refine Row.projected_of_block (fun k => (rows_block m c t (y 0) k).trans ?_) (scale_block m c t) (shift_block m c t)
    fun k => (columns_block m c t k (y 1)).trans ?_
  · refine congrArg (fun i => (m ((c.tc : Thread nD τ).loc main_arg0) : FVec Ideal S16384x2048 .f32) (ix2 i k)) (Fin.ext ?_)
    show t.val / 2 * 1024 + (y 0).val = win0_4.index t 0 * 1024 + 1 * (y 0).val
    omega
  · refine congrArg (fun j => (m ((c.tc : Thread nD τ).loc main_arg3) : FVec Ideal S2048x6176 .f32) (ix2 k j)) (Fin.ext ?_)
    show 2048 + (t.val % 2 * 1024 + (y 1).val) = 2048 + (win0_4.index t 1 * 1024 + 1 * (y 1).val)
    omega

end Cert.Kernel5Ideal.Value

namespace Cert.Reference5Ideal.Value

open Cert.Reference5Ideal Cert.Reference5Ideal.Gen

/-- The reference's array is the projection. -/
theorem product (x : FVec Ideal S16384x2048 .f32) (s h : FVec Ideal S1x2048 .f32) (w : FVec Ideal S2048x6176 .f32) :
    (truncf .bf16 (Host.dotGeneral dot_S16384x2048_S2048x2048_S16384x2048_1_0_0_1_n_n none
      (addf (mulf x (broadcastInDim S16384x2048 ![0, 1] bcast_S1x2048_S16384x2048_0_1 (addf (broadcastInDim S1x2048 ![] bcast_S_S1x2048 (constant S_ .f32 0x3F800000#32)) s)))
        (broadcastInDim S16384x2048 ![0, 1] bcast_S1x2048_S16384x2048_0_1 h))
      (extractStridedSlice S2048x2048 ![0, 2048] w slices_S2048x6176_S2048x2048_0_2048)) bitsLt_bf16_f32 : FVec Ideal S16384x2048 .bf16)
      = Cert.Kernel5Ideal.Value.whole x s h w := by
  funext i
  rw [← ix2_eta i]
  pointwise [Cert.Kernel5Ideal.Value.whole, Row.projected]
  rfl

end Cert.Reference5Ideal.Value
end
-- ==== Proof.MlO.lean ====
module

public import proofs.«01_k».proof.Proof.Row
public import proofs.«01_k».proof.Proof.Gen.Kernel6Ideal.Value
public import proofs.«01_k».proof.Proof.Gen.Reference6Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen

/-- The projection, element by element. -/
def whole (x : FVec Ideal S16384x2048 .f32) (s h : FVec Ideal S1x2048 .f32) (w : FVec Ideal S2048x6176 .f32) : FVec Ideal S16384x2048 .f32 :=
  fun i => Row.projected (N := 2048) 4096 (by decide) (fun i k => x (ix2 i k)) (fun k => s (ix2 0 k)) (fun k => h (ix2 0 k)) (fun k j => w (ix2 k j)) (i 0) (i 1)

/-- One block of the projection. -/
theorem block_apply (a : Vec Ideal S1024x2048 .f32) (s h : Vec Ideal S1x2048 .f32) (b : Vec Ideal S2048x1024 .bf16) (i : Fin 1024) (j : Fin 1024) :
    k0_pay1 (F := Ideal) a s h b (ix2 i j)
      = Row.times (fun k : Fin 2048 => Row.modulated (a (ix2 i k)) (s (ix2 0 k)) (h (ix2 0 k))) (fun k => b (ix2 k j)) := by
  pointwise [k0_pay1]
  rfl

/-- The columns the kernel is called with. -/
theorem columns (V : Valuation τ sig (Elt Ideal)) (k : Fin 2048) (j : Fin 2048) :
    (StableHlo.after (hostOps0 (F := Ideal)) V main_v1 : FVec Ideal S2048x2048 .bf16) (ix2 k j)
      = (V main_arg3 : FVec Ideal S2048x6176 .f32) (ix2 k ⟨4096 + j.val, by omega⟩) := by
  after_reads_at

variable (m : (ℓ : Loc nD τ sig) → Buf (Elt Ideal) ℓ)

/-- The block of each window at each grid point. -/
theorem idx : ∀ t : Fin cfg0.N, win0_0.index t = ![t.val / 2, 0] ∧ win0_1.index t = ![0, 0] ∧ win0_2.index t = ![0, 0]
    ∧ win0_3.index t = ![0, t.val % 2] ∧ win0_4.index t = ![t.val / 2, t.val % 2] ∧ t.val / 2 < 16 :=
  (by decide +kernel : ∀ t : Fin grid0.N, _)

/-- The grid has 32 points. -/
theorem points (t : Fin cfg0.N) : t.val < 32 := lt_of_lt_of_eq t.isLt N_0

/-- A block of rows, in the argument. -/
theorem rows_block (c : Dev nD) (t : Fin cfg0.N) (i : Fin 1024) (k : Fin 2048) : (iblk m c 0 t : Vec Ideal S1024x2048 .f32) (ix2 i k)
    = (m ((c.tc : Thread nD τ).loc main_arg0) : FVec Ideal S16384x2048 .f32) (ix2 ⟨t.val / 2 * 1024 + i.val, by have := points t; omega⟩ k) := by
  blk_ext [iblk, V, idx t]

/-- The scales, whole at every point. -/
theorem scale_block (c : Dev nD) (t : Fin cfg0.N) (k : Fin 2048) : (iblk m c 1 t : Vec Ideal S1x2048 .f32) (ix2 0 k)
    = (m ((c.tc : Thread nD τ).loc main_arg1) : FVec Ideal S1x2048 .f32) (ix2 0 k) := by
  blk_ext [iblk, V, idx t]

/-- The shifts, whole at every point. -/
theorem shift_block (c : Dev nD) (t : Fin cfg0.N) (k : Fin 2048) : (iblk m c 2 t : Vec Ideal S1x2048 .f32) (ix2 0 k)
    = (m ((c.tc : Thread nD τ).loc main_arg2) : FVec Ideal S1x2048 .f32) (ix2 0 k) := by
  blk_ext [iblk, V, idx t]

/-- A block of columns, in the argument. -/
theorem columns_block (c : Dev nD) (t : Fin cfg0.N) (k : Fin 2048) (j : Fin 1024) : (iblk m c 3 t : Vec Ideal S2048x1024 .bf16) (ix2 k j)
    = (m ((c.tc : Thread nD τ).loc main_arg3) : FVec Ideal S2048x6176 .f32) (ix2 k ⟨4096 + (t.val % 2 * 1024 + j.val), by omega⟩) := by
  refine Eq.trans (b := (V m c main_v1 : FVec Ideal S2048x2048 .bf16) (ix2 k ⟨t.val % 2 * 1024 + j.val, by omega⟩)) ?_ (columns _ k _)
  blk_ext [iblk, idx t]

/-- The kernel's array. -/
theorem final (c : Dev nD) : (dats m 0 c).arrAt 4 cfg0.N = whole (m ((c.tc : Thread nD τ).loc main_arg0)) (m ((c.tc : Thread nD τ).loc main_arg1))
    (m ((c.tc : Thread nD τ).loc main_arg2)) (m ((c.tc : Thread nD τ).loc main_arg3)) := by
  unfold whole
  refine (dats m 0 c).arrAt_eq_of_covers 4 _ (by decide +kernel) fun t hf y => ?_
  have w0 : win0_4.index t 0 = t.val / 2 := (idx t).2.2.2.2.1 ▸ rfl
  have w1 : win0_4.index t 1 = t.val % 2 := (idx t).2.2.2.2.1 ▸ rfl
  blk_simp
  rw [after0_4]
  frame_out
  refine (congrArg _ (ix2_eta y).symm).trans ((block_apply _ _ _ _ (y 0) (y 1)).trans ?_)
  refine Row.projected_of_block (fun k => (rows_block m c t (y 0) k).trans ?_) (scale_block m c t) (shift_block m c t)
    fun k => (columns_block m c t k (y 1)).trans ?_
  · refine congrArg (fun i => (m ((c.tc : Thread nD τ).loc main_arg0) : FVec Ideal S16384x2048 .f32) (ix2 i k)) (Fin.ext ?_)
    show t.val / 2 * 1024 + (y 0).val = win0_4.index t 0 * 1024 + 1 * (y 0).val
    omega
  · refine congrArg (fun j => (m ((c.tc : Thread nD τ).loc main_arg3) : FVec Ideal S2048x6176 .f32) (ix2 k j)) (Fin.ext ?_)
    show 4096 + (t.val % 2 * 1024 + (y 1).val) = 4096 + (win0_4.index t 1 * 1024 + 1 * (y 1).val)
    omega

end Cert.Kernel6Ideal.Value

namespace Cert.Reference6Ideal.Value

open Cert.Reference6Ideal Cert.Reference6Ideal.Gen

/-- The reference's array is the projection. -/
theorem product (x : FVec Ideal S16384x2048 .f32) (s h : FVec Ideal S1x2048 .f32) (w : FVec Ideal S2048x6176 .f32) :
    (Host.dotGeneral dot_S16384x2048_S2048x2048_S16384x2048_1_0_0_1_n_n none
      (addf (mulf x (broadcastInDim S16384x2048 ![0, 1] bcast_S1x2048_S16384x2048_0_1 (addf (broadcastInDim S1x2048 ![] bcast_S_S1x2048 (constant S_ .f32 0x3F800000#32)) s)))
        (broadcastInDim S16384x2048 ![0, 1] bcast_S1x2048_S16384x2048_0_1 h))
      (extractStridedSlice S2048x2048 ![0, 4096] w slices_S2048x6176_S2048x2048_0_4096) : FVec Ideal S16384x2048 .f32)
      = Cert.Kernel6Ideal.Value.whole x s h w := by
  funext i
  rw [← ix2_eta i]
  pointwise [Cert.Kernel6Ideal.Value.whole, Row.projected]
  rfl

end Cert.Reference6Ideal.Value
end
-- ==== Proof.AbOut.lean ====
module

public import proofs.«01_k».proof.Proof.Row
public import proofs.«01_k».proof.Proof.Gen.Kernel7Ideal.Value
public import proofs.«01_k».proof.Proof.Gen.Reference7Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen

/-- An element of two arrays side by side. -/
def beside (x y : FVec Ideal S16384x1024 .bf16) (i : Fin 16384) (k : Fin 2048) : EReal :=
  if low : k.val < 1024 then x (ix2 i ⟨k.val, low⟩) else y (ix2 i ⟨k.val - 1024, by omega⟩)

/-- The product, element by element. -/
def whole (x y : FVec Ideal S16384x1024 .bf16) (w : FVec Ideal S2048x2048 .f32) : FVec Ideal S16384x2048 .f32 :=
  fun i => Row.product (fun i k => beside x y i k) (fun k j => w (ix2 k j)) (i 0) (i 1)

/-- One block of the product. -/
theorem block_apply (a : Vec Ideal S1024x2048 .bf16) (b : Vec Ideal S2048x1024 .bf16) (i : Fin 1024) (j : Fin 1024) :
    k0_pay1 (F := Ideal) a b (ix2 i j) = Row.times (fun k : Fin 2048 => a (ix2 i k)) (fun k => b (ix2 k j)) := by
  pointwise [k0_pay1]
  rfl

/-- The rows the kernel is called with. -/
theorem rows (V : Valuation τ sig (Elt Ideal)) (i : Fin 16384) (k : Fin 2048) :
    (StableHlo.after (hostOps0 (F := Ideal)) V main_v0 : FVec Ideal S16384x2048 .bf16) (ix2 i k)
      = beside (V main_arg0) (V main_arg1) i k := by
  unfold beside
  after_reads_at

/-- The columns the kernel is called with. -/
theorem columns (V : Valuation τ sig (Elt Ideal)) (k j : Fin 2048) :
    (StableHlo.after (hostOps0 (F := Ideal)) V main_v1 : FVec Ideal S2048x2048 .bf16) (ix2 k j)
      = (V main_arg2 : FVec Ideal S2048x2048 .f32) (ix2 k j) := by
  after_reads_at

variable (m : (ℓ : Loc nD τ sig) → Buf (Elt Ideal) ℓ)

/-- The block of each window at each grid point. -/
theorem idx : ∀ t : Fin cfg0.N, win0_0.index t = ![t.val / 2, 0] ∧ win0_1.index t = ![0, t.val % 2]
    ∧ win0_2.index t = ![t.val / 2, t.val % 2] ∧ t.val / 2 < 16 :=
  (by decide +kernel : ∀ t : Fin grid0.N, _)

/-- A block of rows, in the argument. -/
theorem rows_block (c : Dev nD) (t : Fin cfg0.N) (i : Fin 1024) (k : Fin 2048) : (iblk m c 0 t : Vec Ideal S1024x2048 .bf16) (ix2 i k)
    = beside (m ((c.tc : Thread nD τ).loc main_arg0)) (m ((c.tc : Thread nD τ).loc main_arg1)) ⟨t.val / 2 * 1024 + i.val, by have := idx t; omega⟩ k := by
  refine Eq.trans (b := (V m c main_v0 : FVec Ideal S16384x2048 .bf16) (ix2 ⟨t.val / 2 * 1024 + i.val, by have := idx t; omega⟩ k)) ?_ (rows _ _ k)
  blk_ext [iblk, idx t]

/-- A block of columns, in the argument. -/
theorem columns_block (c : Dev nD) (t : Fin cfg0.N) (k : Fin 2048) (j : Fin 1024) : (iblk m c 1 t : Vec Ideal S2048x1024 .bf16) (ix2 k j)
    = (m ((c.tc : Thread nD τ).loc main_arg2) : FVec Ideal S2048x2048 .f32) (ix2 k ⟨t.val % 2 * 1024 + j.val, by omega⟩) := by
  refine Eq.trans (b := (V m c main_v1 : FVec Ideal S2048x2048 .bf16) (ix2 k ⟨t.val % 2 * 1024 + j.val, by omega⟩)) ?_ (columns _ k _)
  blk_ext [iblk, idx t]

/-- The kernel's array. -/
theorem final (c : Dev nD) : (dats m 0 c).arrAt 2 cfg0.N = whole (m ((c.tc : Thread nD τ).loc main_arg0)) (m ((c.tc : Thread nD τ).loc main_arg1)) (m ((c.tc : Thread nD τ).loc main_arg2)) := by
  unfold whole
  refine (dats m 0 c).arrAt_eq_of_covers 2 _ (by decide +kernel) fun t hf y => ?_
  have w0 : win0_2.index t 0 = t.val / 2 := (idx t).2.2.1 ▸ rfl
  have w1 : win0_2.index t 1 = t.val % 2 := (idx t).2.2.1 ▸ rfl
  blk_simp
  rw [after0_2]
  frame_out
  refine (congrArg _ (ix2_eta y).symm).trans ((block_apply _ _ (y 0) (y 1)).trans ?_)
  refine Row.product_of_block (fun k => (rows_block m c t (y 0) k).trans ?_) fun k => (columns_block m c t k (y 1)).trans ?_
  · refine congrArg (fun i => beside (m ((c.tc : Thread nD τ).loc main_arg0)) (m ((c.tc : Thread nD τ).loc main_arg1)) i k) (Fin.ext ?_)
    show t.val / 2 * 1024 + (y 0).val = win0_2.index t 0 * 1024 + 1 * (y 0).val
    omega
  · refine congrArg (fun j => (m ((c.tc : Thread nD τ).loc main_arg2) : FVec Ideal S2048x2048 .f32) (ix2 k j)) (Fin.ext ?_)
    show t.val % 2 * 1024 + (y 1).val = win0_2.index t 1 * 1024 + 1 * (y 1).val
    omega

end Cert.Kernel7Ideal.Value

namespace Cert.Reference7Ideal.Value

open Cert.Reference7Ideal Cert.Reference7Ideal.Gen

/-- The reference's array is the product. -/
theorem product (x y : FVec Ideal S16384x1024 .bf16) (w : FVec Ideal S2048x2048 .f32) :
    (Host.dotGeneral dot_S16384x2048_S2048x2048_S16384x2048_1_0_0_1_n_n none (concatenate S16384x2048 1 [⟨S16384x1024, (extf .f32 x bitsLt_bf16_f32)⟩, ⟨S16384x1024, (extf .f32 y bitsLt_bf16_f32)⟩] concatenates_S16384x1024_S16384x1024_S16384x2048_d1) w : FVec Ideal S16384x2048 .f32)
      = Cert.Kernel7Ideal.Value.whole x y w := by
  funext i
  rw [← ix2_eta i]
  pointwise [Cert.Kernel7Ideal.Value.whole, Row.product]
  refine Eq.symm ((Fin.sum_univ_add (a := 1024) (b := 1024) _).trans (congrArg₂ (· + ·) (Finset.sum_congr rfl fun k _ => ?_) (Finset.sum_congr rfl fun k _ => ?_)))
  · exact congrArg (· * _) (dif_pos k.isLt)
  · refine congrArg (· * _) ((dif_neg (by show ¬ 1024 + k.val < 1024; omega)).trans ?_)
    exact congrArg (fun q => y (ix2 (i 0) q)) (Fin.ext (Nat.add_sub_cancel_left 1024 k.val))

end Cert.Reference7Ideal.Value
end
-- ==== Proof.MlOut.lean ====
module

public import proofs.«01_k».proof.Proof.Row
public import proofs.«01_k».proof.Proof.Gen.Kernel8Ideal.Value
public import proofs.«01_k».proof.Proof.Gen.Reference8Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen

/-- The product, element by element. -/
def whole (x : FVec Ideal S16384x2048 .bf16) (w : FVec Ideal S2048x2048 .f32) : FVec Ideal S16384x2048 .f32 :=
  fun i => Row.product (fun i k => x (ix2 i k)) (fun k j => w (ix2 k j)) (i 0) (i 1)

/-- One block of the product. -/
theorem block_apply (a : Vec Ideal S1024x2048 .bf16) (b : Vec Ideal S2048x1024 .bf16) (i : Fin 1024) (j : Fin 1024) :
    k0_pay1 (F := Ideal) a b (ix2 i j) = Row.times (fun k : Fin 2048 => a (ix2 i k)) (fun k => b (ix2 k j)) := by
  pointwise [k0_pay1]
  rfl

/-- The columns the kernel is called with. -/
theorem columns (V : Valuation τ sig (Elt Ideal)) (k j : Fin 2048) :
    (StableHlo.after (hostOps0 (F := Ideal)) V main_v0 : FVec Ideal S2048x2048 .bf16) (ix2 k j)
      = (V main_arg1 : FVec Ideal S2048x2048 .f32) (ix2 k j) := by
  after_reads_at

variable (m : (ℓ : Loc nD τ sig) → Buf (Elt Ideal) ℓ)

/-- The block of each window at each grid point. -/
theorem idx : ∀ t : Fin cfg0.N, win0_0.index t = ![t.val / 2, 0] ∧ win0_1.index t = ![0, t.val % 2]
    ∧ win0_2.index t = ![t.val / 2, t.val % 2] ∧ t.val / 2 < 16 :=
  (by decide +kernel : ∀ t : Fin grid0.N, _)

/-- A block of rows, in the argument. -/
theorem rows_block (c : Dev nD) (t : Fin cfg0.N) (i : Fin 1024) (k : Fin 2048) : (iblk m c 0 t : Vec Ideal S1024x2048 .bf16) (ix2 i k)
    = (m ((c.tc : Thread nD τ).loc main_arg0) : FVec Ideal S16384x2048 .bf16) (ix2 ⟨t.val / 2 * 1024 + i.val, by have := idx t; omega⟩ k) := by
  blk_ext [iblk, V, idx t]

/-- A block of columns, in the argument. -/
theorem columns_block (c : Dev nD) (t : Fin cfg0.N) (k : Fin 2048) (j : Fin 1024) : (iblk m c 1 t : Vec Ideal S2048x1024 .bf16) (ix2 k j)
    = (m ((c.tc : Thread nD τ).loc main_arg1) : FVec Ideal S2048x2048 .f32) (ix2 k ⟨t.val % 2 * 1024 + j.val, by omega⟩) := by
  refine Eq.trans (b := (V m c main_v0 : FVec Ideal S2048x2048 .bf16) (ix2 k ⟨t.val % 2 * 1024 + j.val, by omega⟩)) ?_ (columns _ k _)
  blk_ext [iblk, idx t]

/-- The kernel's array. -/
theorem final (c : Dev nD) : (dats m 0 c).arrAt 2 cfg0.N = whole (m ((c.tc : Thread nD τ).loc main_arg0)) (m ((c.tc : Thread nD τ).loc main_arg1)) := by
  unfold whole
  refine (dats m 0 c).arrAt_eq_of_covers 2 _ (by decide +kernel) fun t hf y => ?_
  have w0 : win0_2.index t 0 = t.val / 2 := (idx t).2.2.1 ▸ rfl
  have w1 : win0_2.index t 1 = t.val % 2 := (idx t).2.2.1 ▸ rfl
  blk_simp
  rw [after0_2]
  frame_out
  refine (congrArg _ (ix2_eta y).symm).trans ((block_apply _ _ (y 0) (y 1)).trans ?_)
  refine Row.product_of_block (fun k => (rows_block m c t (y 0) k).trans ?_) fun k => (columns_block m c t k (y 1)).trans ?_
  · refine congrArg (fun i => (m ((c.tc : Thread nD τ).loc main_arg0) : FVec Ideal S16384x2048 .bf16) (ix2 i k)) (Fin.ext ?_)
    show t.val / 2 * 1024 + (y 0).val = win0_2.index t 0 * 1024 + 1 * (y 0).val
    omega
  · refine congrArg (fun j => (m ((c.tc : Thread nD τ).loc main_arg1) : FVec Ideal S2048x2048 .f32) (ix2 k j)) (Fin.ext ?_)
    show t.val % 2 * 1024 + (y 1).val = win0_2.index t 1 * 1024 + 1 * (y 1).val
    omega

end Cert.Kernel8Ideal.Value

namespace Cert.Reference8Ideal.Value

open Cert.Reference8Ideal Cert.Reference8Ideal.Gen

/-- The reference's array is the product. -/
theorem product (x : FVec Ideal S16384x2048 .bf16) (w : FVec Ideal S2048x2048 .f32) :
    (Host.dotGeneral dot_S16384x2048_S2048x2048_S16384x2048_1_0_0_1_n_n none (extf .f32 x bitsLt_bf16_f32) w : FVec Ideal S16384x2048 .f32)
      = Cert.Kernel8Ideal.Value.whole x w := by
  funext i
  rw [← ix2_eta i]
  pointwise [Cert.Kernel8Ideal.Value.whole, Row.product]
  rfl

end Cert.Reference8Ideal.Value
end
-- ==== Proof.PeerQ.lean ====
module

public import proofs.«01_k».proof.Proof.Row
public import proofs.«01_k».proof.Proof.Gen.Kernel9Ideal.Value
public import proofs.«01_k».proof.Proof.Gen.Reference9Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen

/-- The product, element by element. -/
def whole (x : FVec Ideal S16384x2048 .f32) (w : FVec Ideal S2048x2048 .f32) : FVec Ideal S16384x2048 .f32 :=
  fun i => Row.product (fun i k => x (ix2 i k)) (fun k j => w (ix2 k j)) (i 0) (i 1)

/-- One block of the product. -/
theorem block_apply (a : Vec Ideal S1024x2048 .f32) (b : Vec Ideal S2048x1024 .bf16) (i : Fin 1024) (j : Fin 1024) :
    k0_pay1 (F := Ideal) a b (ix2 i j) = Row.times (fun k : Fin 2048 => a (ix2 i k)) (fun k => b (ix2 k j)) := by
  pointwise [k0_pay1]
  rfl

/-- The columns the kernel is called with. -/
theorem columns (V : Valuation τ sig (Elt Ideal)) (k j : Fin 2048) :
    (StableHlo.after (hostOps0 (F := Ideal)) V main_v0 : FVec Ideal S2048x2048 .bf16) (ix2 k j)
      = (V main_arg1 : FVec Ideal S2048x2048 .f32) (ix2 k j) := by
  after_reads_at

variable (m : (ℓ : Loc nD τ sig) → Buf (Elt Ideal) ℓ)

/-- The block of each window at each grid point. -/
theorem idx : ∀ t : Fin cfg0.N, win0_0.index t = ![t.val / 2, 0] ∧ win0_1.index t = ![0, t.val % 2]
    ∧ win0_2.index t = ![t.val / 2, t.val % 2] ∧ t.val / 2 < 16 :=
  (by decide +kernel : ∀ t : Fin grid0.N, _)

/-- A block of rows, in the argument. -/
theorem rows_block (c : Dev nD) (t : Fin cfg0.N) (i : Fin 1024) (k : Fin 2048) : (iblk m c 0 t : Vec Ideal S1024x2048 .f32) (ix2 i k)
    = (m ((c.tc : Thread nD τ).loc main_arg0) : FVec Ideal S16384x2048 .f32) (ix2 ⟨t.val / 2 * 1024 + i.val, by have := idx t; omega⟩ k) := by
  blk_ext [iblk, V, idx t]

/-- A block of columns, in the argument. -/
theorem columns_block (c : Dev nD) (t : Fin cfg0.N) (k : Fin 2048) (j : Fin 1024) : (iblk m c 1 t : Vec Ideal S2048x1024 .bf16) (ix2 k j)
    = (m ((c.tc : Thread nD τ).loc main_arg1) : FVec Ideal S2048x2048 .f32) (ix2 k ⟨t.val % 2 * 1024 + j.val, by omega⟩) := by
  refine Eq.trans (b := (V m c main_v0 : FVec Ideal S2048x2048 .bf16) (ix2 k ⟨t.val % 2 * 1024 + j.val, by omega⟩)) ?_ (columns _ k _)
  blk_ext [iblk, idx t]

/-- The kernel's array. -/
theorem final (c : Dev nD) : (dats m 0 c).arrAt 2 cfg0.N = whole (m ((c.tc : Thread nD τ).loc main_arg0)) (m ((c.tc : Thread nD τ).loc main_arg1)) := by
  unfold whole
  refine (dats m 0 c).arrAt_eq_of_covers 2 _ (by decide +kernel) fun t hf y => ?_
  have w0 : win0_2.index t 0 = t.val / 2 := (idx t).2.2.1 ▸ rfl
  have w1 : win0_2.index t 1 = t.val % 2 := (idx t).2.2.1 ▸ rfl
  blk_simp
  rw [after0_2]
  frame_out
  refine (congrArg _ (ix2_eta y).symm).trans ((block_apply _ _ (y 0) (y 1)).trans ?_)
  refine Row.product_of_block (fun k => (rows_block m c t (y 0) k).trans ?_) fun k => (columns_block m c t k (y 1)).trans ?_
  · refine congrArg (fun i => (m ((c.tc : Thread nD τ).loc main_arg0) : FVec Ideal S16384x2048 .f32) (ix2 i k)) (Fin.ext ?_)
    show t.val / 2 * 1024 + (y 0).val = win0_2.index t 0 * 1024 + 1 * (y 0).val
    omega
  · refine congrArg (fun j => (m ((c.tc : Thread nD τ).loc main_arg1) : FVec Ideal S2048x2048 .f32) (ix2 k j)) (Fin.ext ?_)
    show t.val % 2 * 1024 + (y 1).val = win0_2.index t 1 * 1024 + 1 * (y 1).val
    omega

end Cert.Kernel9Ideal.Value

namespace Cert.Reference9Ideal.Value

open Cert.Reference9Ideal Cert.Reference9Ideal.Gen

/-- The reference's array is the product. -/
theorem product (x : FVec Ideal S16384x2048 .f32) (w : FVec Ideal S2048x2048 .f32) :
    (Host.dotGeneral dot_S16384x2048_S2048x2048_S16384x2048_1_0_0_1_n_n none x w : FVec Ideal S16384x2048 .f32)
      = Cert.Kernel9Ideal.Value.whole x w := by
  funext i
  rw [← ix2_eta i]
  pointwise [Cert.Kernel9Ideal.Value.whole, Row.product]
  rfl

end Cert.Reference9Ideal.Value
end
-- ==== Proof.ScanDefs.lean ====
module

public import Idealize.ShloMosaic.Lib.Claim
public import Idealize.ShloMosaic.Lib.Pipeline.ValueKit

@[expose] public section

noncomputable section

open Idealize.ShloMosaic Idealize.ShloMosaic.TcCoe Idealize.SL.Sem

namespace Cert.Scan

/-- What one head reads of `T` tokens: queries, keys, values, the two gates' logarithms (each as a row and as
    a column), and the state it enters with. -/
structure Head (T : ℕ) where
  /-- The comparison that says which positions a position sees: the earlier ones for a forward scan, the later ones for a backward one. -/
  dir : CmpIPredicate
  /-- Queries. -/
  q : Fin T → Fin 128 → EReal
  /-- Keys. -/
  k : Fin T → Fin 128 → EReal
  /-- Values. -/
  v : Fin T → Fin 256 → EReal
  /-- Forget gates, as a row. -/
  f : Fin T → EReal
  /-- Input gates, as a row. -/
  i : Fin T → EReal
  /-- Forget gates, as a column. -/
  fc : Fin T → EReal
  /-- Input gates, as a column. -/
  ic : Fin T → EReal
  /-- The matrix state. -/
  C : Fin 128 → Fin 256 → EReal
  /-- The normaliser. -/
  n : Fin 128 → EReal
  /-- The stabiliser. -/
  u : EReal

variable {T : ℕ}

/-- Position `r` sees position `s`. -/
def sees (p : CmpIPredicate) (s r : Fin T) : BitVec 1 := IntOp.cmpi p (BitVec.ofNat 32 s.val) (BitVec.ofNat 32 r.val)

/-- The sum of `f` over what `r` sees. -/
def upto (p : CmpIPredicate) (f : Fin T → EReal) (r : Fin T) : EReal := ∑ s, Scalar.select (sees p s r) (f s) 0

namespace Head

variable (H : Head T)

/-- The logarithm of what token `s` still weighs at token `r`, and minus infinity for one it does not see. -/
def gap (r s : Fin T) : EReal :=
  Scalar.select (sees H.dir s r) (upto H.dir H.f r - upto H.dir H.fc s + H.i s) (Ideal.ofBits .f32 0xFF800000#32)

/-- The stabiliser of row `r`. -/
def stab (r : Fin T) : EReal :=
  max (upto H.dir H.f r + H.u) (Finset.fold max (Ideal.ofBits .f32 0xFF800000#32) (H.gap r) Finset.univ)

/-- The score of token `s` at token `r`. -/
def weight (r s : Fin T) : EReal := (∑ d, H.q r d * H.k s d) * Ideal.exp (H.gap r s - H.stab r)

/-- What the entering state is scaled by at row `r`. -/
def carry (r : Fin T) : EReal := Ideal.exp (upto H.dir H.f r + H.u - H.stab r)

/-- The numerator of row `r`. -/
def num (r : Fin T) (j : Fin 256) : EReal :=
  ∑ s, H.weight r s * H.v s j + (∑ d, H.q r d * H.C d j) * H.carry r

/-- The denominator of row `r`. -/
def den (r : Fin T) : EReal := ∑ s, H.weight r s + (∑ d, H.q r d * H.n d) * H.carry r

/-- The head's result. -/
def out (r : Fin T) (j : Fin 256) : EReal :=
  FloatOps.divf (F := Ideal) (φ := .f32) (H.num r j)
    (max (FloatOps.absf (F := Ideal) (φ := .f32) (H.den r)) (Ideal.exp (0 - H.stab r)))

/-- The stabiliser handed on. -/
def nextU : EReal :=
  max (∑ s, H.f s + H.u)
    (Finset.fold max (Ideal.ofBits .f32 0xFF800000#32) (fun s => ∑ x, H.f x - upto H.dir H.fc s + H.i s) Finset.univ)

/-- What the entering state is scaled by at the end. -/
def decay : EReal := Ideal.exp (∑ s, H.f s + H.u - H.nextU)

/-- What token `s` weighs at the end. -/
def kept (s : Fin T) : EReal := Ideal.exp (∑ x, H.f x - upto H.dir H.f s + H.ic s - H.nextU)

/-- The matrix state handed on. -/
def nextC (d : Fin 128) (j : Fin 256) : EReal := H.decay * H.C d j + ∑ s, H.k s d * (H.v s j * H.kept s)

/-- The normaliser handed on. -/
def nextN (d : Fin 128) : EReal := H.decay * H.n d + ∑ s, H.k s d * H.kept s

end Head

end Cert.Scan

end
-- ==== Proof.ScanParts.lean ====
module

public import proofs.«01_k».proof.Proof.ScanDefs
public import Idealize.ShloMosaic.Lib.Pipeline.ReadBack

@[expose] public section

set_option maxRecDepth 16384

noncomputable section

open Idealize.ShloMosaic Idealize.ShloMosaic.TcCoe Idealize.SL.Sem

namespace Cert.Scan

/-- Head `h` of a tile's blocks. -/
def head (dir : CmpIPredicate) (col : Fin 16 → Fin 128) (q k : Vec Ideal ⟨2, ![256, 1024]⟩ .bf16) (v : Vec Ideal ⟨2, ![256, 2048]⟩ .bf16) (g : Vec Ideal ⟨2, ![256, 128]⟩ .f32)
    (w : Vec Ideal ⟨3, ![1, 128, 256]⟩ .f32) (C : Vec Ideal ⟨3, ![8, 128, 256]⟩ .f32) (n u : Vec Ideal ⟨3, ![8, 1, 128]⟩ .f32) (h : Fin 8) : Head 256 where
  dir := dir
  q := fun r d => q (ix2 r ⟨128 * h.val + d.val, by omega⟩)
  k := fun r d => k (ix2 r ⟨128 * h.val + d.val, by omega⟩)
  v := fun r j => v (ix2 r ⟨256 * h.val + j.val, by omega⟩)
  f := fun s => w (ix3 0 (col ⟨8 + h.val, by omega⟩) s)
  i := fun s => w (ix3 0 (col ⟨h.val, by omega⟩) s)
  fc := fun s => g (ix2 s (col ⟨8 + h.val, by omega⟩))
  ic := fun s => g (ix2 s (col ⟨h.val, by omega⟩))
  C := fun d j => C (ix3 h d j)
  n := fun d => n (ix3 h 0 d)
  u := u (ix3 h 0 0)

/-- The eight heads' results side by side. -/
def outs (H : Fin 8 → Head 256) : Vec Ideal ⟨2, ![256, 2048]⟩ .f32 := fun y =>
  (H ⟨(y 1).val / 256, by have := (y 1).isLt; change (y 1).val < 2048 at this; omega⟩).out (y 0) ⟨(y 1).val % 256, by omega⟩

/-- The eight heads' matrix states. -/
def mats (H : Fin 8 → Head 256) : Vec Ideal ⟨3, ![8, 128, 256]⟩ .f32 := fun y => (H (y 0)).nextC (y 1) (y 2)

/-- The first head's columns start at zero. -/
theorem head_zero (dir : CmpIPredicate) (col : Fin 16 → Fin 128) (q k : Vec Ideal ⟨2, ![256, 1024]⟩ .bf16) (v : Vec Ideal ⟨2, ![256, 2048]⟩ .bf16) (g : Vec Ideal ⟨2, ![256, 128]⟩ .f32)
    (w : Vec Ideal ⟨3, ![1, 128, 256]⟩ .f32) (C : Vec Ideal ⟨3, ![8, 128, 256]⟩ .f32) (n u : Vec Ideal ⟨3, ![8, 1, 128]⟩ .f32) :
    head dir col q k v g w C n u 0 = { head dir col q k v g w C n u 0 with
      q := fun r d => q (ix2 r ⟨d.val, by omega⟩), k := fun r d => k (ix2 r ⟨d.val, by omega⟩),
      v := fun r j => v (ix2 r ⟨j.val, by omega⟩) } := by
  have e : ∀ a b : ℕ, a * (0 : Fin 8).val + b = b := fun a b => by show a * 0 + b = b; omega
  unfold head
  simp only [e]

/-- An array of eight rows of 128 lanes. -/
def lanes (F : Fin 8 → Fin 128 → EReal) : Vec Ideal ⟨3, ![8, 1, 128]⟩ .f32 := fun y => F (y 0) (y 2)

/-- One head's columns of the results. -/
theorem outs_piece (H : Fin 8 → Head 256) (h : Fin 8) (off : Fin 2 → ℕ) (inb) (ho : off = ![0, 256 * h.val]) (P : Vec Ideal ⟨2, ![256, 256]⟩ .f32)
    (hP : ∀ r j, P (ix2 r j) = (H h).out r j) (x : (⟨2, ![256, 256]⟩ : Shape).Idx) :
    P x = outs H ((Rect.unit (s := ⟨2, ![256, 2048]⟩) off ![256, 256] inb).emb x) := by
  subst ho
  have h1 : (x 1).val < 256 := (x 1).isLt
  refine (congrArg P (ix2_eta x).symm).trans ((hP _ _).trans ?_)
  refine congr (congr (congrArg Head.out (congrArg H (Fin.ext ?_))) (Fin.ext ?_)) (Fin.ext ?_)
  · show h.val = (256 * h.val + 1 * (x 1).val) / 256; omega
  · show (x 0).val = 0 + 1 * (x 0).val; omega
  · show (x 1).val = (256 * h.val + 1 * (x 1).val) % 256; omega

/-- One head's slice of the matrix states. -/
theorem mats_piece (H : Fin 8 → Head 256) (h : Fin 8) (off : Fin 3 → ℕ) (inb) (ho : off = ![h.val, 0, 0]) (P : Vec Ideal ⟨3, ![1, 128, 256]⟩ .f32)
    (hP : ∀ d j, P (ix3 0 d j) = (H h).nextC d j) (x : (⟨3, ![1, 128, 256]⟩ : Shape).Idx) :
    P x = mats H ((Rect.unit (s := ⟨3, ![8, 128, 256]⟩) off ![1, 128, 256] inb).emb x) := by
  subst ho
  have h0 : (x 0).val < 1 := (x 0).isLt
  have e : ix3 0 (x 1) (x 2) = x := (congrFun (congrFun (congrArg ix3 (Fin.ext (by show 0 = (x 0).val; omega))) _) _).trans (ix3_eta x)
  refine (congrArg P e.symm).trans ((hP _ _).trans ?_)
  refine congr (congr (congrArg Head.nextC (congrArg H (Fin.ext ?_))) (Fin.ext ?_)) (Fin.ext ?_)
  · show h.val = h.val + 1 * (x 0).val; omega
  · show (x 1).val = 0 + 1 * (x 1).val; omega
  · show (x 2).val = 0 + 1 * (x 2).val; omega

/-- One head's slice of an array of eight rows. -/
theorem lanes_piece (F : Fin 8 → Fin 128 → EReal) (h : Fin 8) (off : Fin 3 → ℕ) (inb) (ho : off = ![h.val, 0, 0])
    (P : Vec Ideal ⟨3, ![1, 1, 128]⟩ .f32) (hP : ∀ d, P (ix3 0 0 d) = F h d) (x : (⟨3, ![1, 1, 128]⟩ : Shape).Idx) :
    P x = lanes F ((Rect.unit (s := ⟨3, ![8, 1, 128]⟩) off ![1, 1, 128] inb).emb x) := by
  subst ho
  have h0 : (x 0).val < 1 := (x 0).isLt
  have h1 : (x 1).val < 1 := (x 1).isLt
  have e : ix3 0 0 (x 2) = x := (congrFun (congr (congrArg ix3 (Fin.ext (by show 0 = (x 0).val; omega)))
    (Fin.ext (by show 0 = (x 1).val; omega))) _).trans (ix3_eta x)
  refine (congrArg P e.symm).trans ((hP _).trans ?_)
  refine congr (congrArg F (Fin.ext ?_)) (Fin.ext ?_)
  · show h.val = h.val + 1 * (x 0).val; omega
  · show (x 2).val = 0 + 1 * (x 2).val; omega

end Cert.Scan
end
-- ==== Proof.ScanReal.lean ====
module

public import proofs.«01_k».proof.Proof.ScanDefs
public import proofs.«01_k».proof.Proof.Softmax
public import Idealize.ShloMosaic.Lib.WordCmp

@[expose] public section

noncomputable section

open Idealize.ShloMosaic Finset

namespace Cert.Scan

/-- A real sum, seen among the extended reals, is the sum of its terms seen there. -/
theorem coe_total {ι : Type} (s : Finset ι) (g : ι → ℝ) : ((∑ a ∈ s, g a : ℝ) : EReal) = ∑ a ∈ s, (g a : EReal) :=
  map_sum (⟨⟨fun r : ℝ => (r : EReal), EReal.coe_zero⟩, EReal.coe_add⟩ : ℝ →+ EReal) g s

/-- A sum over the tokens up to and with `r`, the later ones counted as zero. -/
theorem sum_upto {M : Type} [AddCommMonoid M] {T : ℕ} (F : ℕ → M) (r : Fin T) :
    ∑ s : Fin T, (if s.val ≤ r.val then F s.val else 0) = ∑ s ∈ range (r.val + 1), F s := by
  rw [Fin.sum_univ_eq_sum_range (fun s => if s ≤ r.val then F s else 0) T, ← Finset.sum_filter]
  refine Finset.sum_congr ?_ fun _ _ => rfl
  ext s
  have := r.isLt
  simp only [Finset.mem_filter, Finset.mem_range]
  omega

/-- The comparison of two positions decides their order. -/
theorem select_sees {α : Type} {T : ℕ} (hT : T ≤ 2 ^ 31) (s r : Fin T) (x y : α) :
    Scalar.select (sees .sle s r) x y = if s.val ≤ r.val then x else y := by
  have h1 := s.isLt
  have h2 := r.isLt
  unfold Scalar.select sees
  refine if_congr ?_ rfl rfl
  exact WordCmp.cmpi_sle_ofNat_eq_one_iff (by norm_num; omega) (by norm_num; omega)

/-- One head's inputs as real sequences over all tokens, with the first state. -/
structure Series where
  /-- Queries. -/
  q : ℕ → Fin 128 → ℝ
  /-- Keys. -/
  k : ℕ → Fin 128 → ℝ
  /-- Values. -/
  v : ℕ → Fin 256 → ℝ
  /-- Logarithms of the forget gates. -/
  f : ℕ → ℝ
  /-- Logarithms of the input gates. -/
  i : ℕ → ℝ
  /-- The first matrix state. -/
  C : Fin 128 → Fin 256 → ℝ
  /-- The first normaliser. -/
  n : Fin 128 → ℝ
  /-- The first stabiliser. -/
  u : ℝ

namespace Series

variable (S : Series)

/-- The forget gates' logarithms of the first `t` tokens, summed. -/
def total (t : ℕ) : ℝ := ∑ s ∈ range t, S.f s

/-- What the first `t` tokens leave in a state that starts at `c` and takes up the values `w`, with no stabiliser. -/
def state (c : Fin 128 → ℝ) (w : ℕ → ℝ) (t : ℕ) (d : Fin 128) : ℝ :=
  Real.exp (S.total t + S.u) * c d + ∑ s ∈ range t, Real.exp (S.total t - S.total (s + 1) + S.i s) * (S.k s d * w s)

/-- Token `t`'s query read from the state it leaves. -/
def read (c : Fin 128 → ℝ) (w : ℕ → ℝ) (t : ℕ) : ℝ := ∑ d, S.q t d * S.state c w (t + 1) d

/-- The head's result: the values' reading over the normaliser's. -/
def result (t : ℕ) (j : Fin 256) : ℝ :=
  S.read (S.C · j) (S.v · j) t / max |S.read S.n (fun _ => 1) t| 1

/-- The state after `t` more tokens. -/
theorem state_add (c : Fin 128 → ℝ) (w : ℕ → ℝ) (p t : ℕ) (d : Fin 128) :
    S.state c w (p + t) d = Real.exp (S.total (p + t) - S.total p) * S.state c w p d
      + ∑ s ∈ range t, Real.exp (S.total (p + t) - S.total (p + s + 1) + S.i (p + s)) * (S.k (p + s) d * w (p + s)) := by
  unfold state
  rw [Finset.sum_range_add, mul_add, ← mul_assoc, ← Real.exp_add, Finset.mul_sum, ← add_assoc]
  refine congrArg₂ (· + ·) (congrArg₂ (· + ·) ?_ (Finset.sum_congr rfl fun s _ => ?_)) rfl
  · congr 2; ring
  · rw [← mul_assoc (Real.exp (S.total (p + t) - S.total p)), ← Real.exp_add]; congr 2; ring

/-- A reading, split at token `p`. -/
theorem read_add (c : Fin 128 → ℝ) (w : ℕ → ℝ) (p r : ℕ) :
    S.read c w (p + r) = (∑ d, S.q (p + r) d * S.state c w p d) * Real.exp (S.total (p + r + 1) - S.total p)
      + ∑ s ∈ range (r + 1), (∑ d, S.q (p + r) d * S.k (p + s) d)
          * Real.exp (S.total (p + r + 1) - S.total (p + s + 1) + S.i (p + s)) * w (p + s) := by
  unfold read
  simp only [add_assoc p r 1, S.state_add c w p (r + 1), mul_add, Finset.sum_add_distrib]
  refine congrArg₂ (· + ·) ?_ ?_
  · rw [Finset.sum_mul]
    exact Finset.sum_congr rfl fun d _ => by ring
  · simp only [Finset.mul_sum, Finset.sum_mul]
    rw [Finset.sum_comm]
    exact Finset.sum_congr rfl fun s _ => Finset.sum_congr rfl fun d _ => by ring

end Series

variable {T : ℕ}

/-- A head reads the tokens `p`, `p + 1`, … of a series and enters with that series' state, scaled by its stabiliser `μ`. -/
structure Fits (H : Head T) (S : Series) (p : ℕ) (μ : ℝ) : Prop where
  dir : H.dir = .sle
  q : ∀ r d, H.q r d = (S.q (p + r.val) d : EReal)
  k : ∀ r d, H.k r d = (S.k (p + r.val) d : EReal)
  v : ∀ r j, H.v r j = (S.v (p + r.val) j : EReal)
  f : ∀ r, H.f r = (S.f (p + r.val) : EReal)
  i : ∀ r, H.i r = (S.i (p + r.val) : EReal)
  fc : ∀ r, H.fc r = (S.f (p + r.val) : EReal)
  ic : ∀ r, H.ic r = (S.i (p + r.val) : EReal)
  C : ∀ d j, H.C d j = ((Real.exp (-μ) * S.state (S.C · j) (S.v · j) p d : ℝ) : EReal)
  n : ∀ d, H.n d = ((Real.exp (-μ) * S.state S.n (fun _ => 1) p d : ℝ) : EReal)
  u : H.u = (μ : EReal)

/-- `exp` of a real. -/
theorem exp_coe (r : ℝ) : Ideal.exp (r : EReal) = (Real.exp r : EReal) := rfl

/-- The greater of two reals. -/
theorem coe_max (a b : ℝ) : max (a : EReal) (b : EReal) = ((max a b : ℝ) : EReal) := (EReal.coe_strictMono.monotone.map_max).symm

/-- A sum of products of reals. -/
theorem coe_dot {ι : Type} [Fintype ι] (x y : ι → EReal) (a b : ι → ℝ) (hx : ∀ d, x d = a d) (hy : ∀ d, y d = b d) :
    ∑ d, x d * y d = ((∑ d, a d * b d : ℝ) : EReal) := by
  rw [coe_total]
  exact Finset.sum_congr rfl fun d _ => by rw [hx, hy, EReal.coe_mul]

/-- The greatest of values that are each real or minus infinity is real or minus infinity. -/
theorem top_real_or {ι : Type} [Fintype ι] (s : ι → EReal) (h : ∀ a, s a = ⊥ ∨ ∃ r : ℝ, s a = r) :
    Softmax.top s = ⊥ ∨ ∃ r : ℝ, Softmax.top s = r := by
  rw [Softmax.top_eq_sup]
  rcases Finset.eq_empty_or_nonempty (Finset.univ : Finset ι) with h0 | h0
  · left; rw [h0]; rfl
  · obtain ⟨a, _, ha⟩ := Finset.exists_mem_eq_sup Finset.univ h0 s
    rw [ha]; exact h a

/-- The greater of a real and such a greatest value is real. -/
theorem max_top_real {ι : Type} [Fintype ι] (x : ℝ) (s : ι → EReal) (h : ∀ a, s a = ⊥ ∨ ∃ r : ℝ, s a = r) :
    ∃ r : ℝ, max (x : EReal) (Softmax.top s) = r := by
  rcases top_real_or s h with e | ⟨r, e⟩
  · exact ⟨x, by rw [e]; exact max_eq_left bot_le⟩
  · rcases max_choice (x : EReal) (Softmax.top s) with g | g
    · exact ⟨x, g⟩
    · exact ⟨r, g.trans e⟩

namespace Fits

variable {H : Head T} {S : Series} {p : ℕ} {μ : ℝ}

/-- The running sums of the forget gates. -/
theorem upto_eq (hT : T ≤ 2 ^ 31) (g : Fin T → EReal) (hg : ∀ r, g r = (S.f (p + r.val) : EReal)) (r : Fin T) :
    upto .sle g r = ((S.total (p + r.val + 1) - S.total p : ℝ) : EReal) := by
  unfold upto
  simp only [select_sees hT, hg]
  rw [sum_upto (fun s => (S.f (p + s) : EReal)) r, ← coe_total]
  congr 1
  unfold Series.total
  rw [add_assoc, Finset.sum_range_add S.f p (r.val + 1), add_sub_cancel_left]

/-- The whole tile's forget gates. -/
theorem sum_f (h : Fits H S p μ) : ∑ s, H.f s = ((S.total (p + T) - S.total p : ℝ) : EReal) := by
  simp only [h.f]
  rw [Fin.sum_univ_eq_sum_range (fun s => (S.f (p + s) : EReal)) T, ← coe_total]
  congr 1
  unfold Series.total
  rw [Finset.sum_range_add, add_sub_cancel_left]

/-- The logarithm of a token's weight at a later one. -/
theorem gap_eq (hT : T ≤ 2 ^ 31) (h : Fits H S p μ) (r s : Fin T) :
    H.gap r s = if s.val ≤ r.val then
      ((S.total (p + r.val + 1) - S.total (p + s.val + 1) + S.i (p + s.val) : ℝ) : EReal) else ⊥ := by
  unfold Head.gap
  rw [h.dir, select_sees hT, upto_eq hT H.f h.f, upto_eq hT H.fc h.fc, h.i, Softmax.ofBits_floor, ← EReal.coe_sub, ← EReal.coe_add]
  refine if_congr Iff.rfl ?_ rfl
  congr 1; ring

/-- Each row's stabiliser is real. -/
theorem stab_real (hT : T ≤ 2 ^ 31) (h : Fits H S p μ) (r : Fin T) : ∃ σ : ℝ, H.stab r = σ := by
  unfold Head.stab
  rw [h.dir, upto_eq hT H.f h.f, h.u, ← EReal.coe_add, Softmax.ofBits_floor]
  refine max_top_real _ _ fun s => ?_
  rw [h.gap_eq hT]
  split_ifs
  · exact .inr ⟨_, rfl⟩
  · exact .inl rfl

/-- The handed-on stabiliser is real. -/
theorem nextU_real (hT : T ≤ 2 ^ 31) (h : Fits H S p μ) : ∃ σ : ℝ, H.nextU = σ := by
  unfold Head.nextU
  rw [h.dir, h.sum_f, h.u, ← EReal.coe_add, Softmax.ofBits_floor]
  refine max_top_real _ _ fun s => .inr ?_
  rw [upto_eq hT H.fc h.fc, h.i, ← EReal.coe_sub, ← EReal.coe_add]
  exact ⟨_, rfl⟩

/-- A token's score. -/
theorem weight_eq (hT : T ≤ 2 ^ 31) (h : Fits H S p μ) (r s : Fin T) (σ : ℝ) (hσ : H.stab r = σ) :
    H.weight r s = if s.val ≤ r.val then
      (((∑ d, S.q (p + r.val) d * S.k (p + s.val) d)
        * Real.exp (S.total (p + r.val + 1) - S.total (p + s.val + 1) + S.i (p + s.val) - σ) : ℝ) : EReal) else 0 := by
  unfold Head.weight
  rw [coe_dot _ _ _ _ (h.q r) (h.k s), hσ, h.gap_eq hT]
  split_ifs
  · rw [← EReal.coe_sub, exp_coe, EReal.coe_mul]
  · rw [EReal.bot_sub]; exact mul_zero _

/-- A row's numerator or denominator is the series' reading, scaled by the row's stabiliser. -/
theorem mix (hT : T ≤ 2 ^ 31) (h : Fits H S p μ) (r : Fin T) (σ : ℝ) (hσ : H.stab r = σ) (c : Fin 128 → ℝ) (w : ℕ → ℝ)
    (x : Fin T → EReal) (y : Fin 128 → EReal) (hx : ∀ s, x s = (w (p + s.val) : EReal))
    (hy : ∀ d, y d = ((Real.exp (-μ) * S.state c w p d : ℝ) : EReal)) :
    ∑ s, H.weight r s * x s + (∑ d, H.q r d * y d) * H.carry r = ((Real.exp (-σ) * S.read c w (p + r.val) : ℝ) : EReal) := by
  have e : ∀ s : Fin T, H.weight r s * x s = if s.val ≤ r.val then
      (((∑ d, S.q (p + r.val) d * S.k (p + s.val) d)
        * Real.exp (S.total (p + r.val + 1) - S.total (p + s.val + 1) + S.i (p + s.val) - σ) * w (p + s.val) : ℝ) : EReal) else 0 := by
    intro s
    rw [h.weight_eq hT r s σ hσ, hx]
    split_ifs
    · rw [EReal.coe_mul _ (w (p + s.val))]
    · exact zero_mul _
  simp only [e]
  rw [sum_upto (fun s => (((∑ d, S.q (p + r.val) d * S.k (p + s) d)
        * Real.exp (S.total (p + r.val + 1) - S.total (p + s + 1) + S.i (p + s) - σ) * w (p + s) : ℝ) : EReal)) r, ← coe_total,
    coe_dot _ _ _ _ (h.q r) hy]
  unfold Head.carry
  rw [h.dir, upto_eq hT H.f h.f, h.u, hσ, ← EReal.coe_add, ← EReal.coe_sub, exp_coe, ← EReal.coe_mul, ← EReal.coe_add]
  congr 1
  rw [S.read_add, mul_add, add_comm]
  refine congrArg₂ (· + ·) ?_ ?_
  · have e1 : S.total (p + r.val + 1) - S.total p + μ - σ = μ + (-σ) + (S.total (p + r.val + 1) - S.total p) := by ring
    rw [e1, Real.exp_add, Real.exp_add, Finset.sum_mul, Finset.sum_mul, Finset.mul_sum]
    refine Finset.sum_congr rfl fun d _ => ?_
    have e2 : Real.exp (-μ) * Real.exp μ = 1 := by rw [← Real.exp_add, neg_add_cancel, Real.exp_zero]
    linear_combination (S.q (p + r.val) d * S.state c w p d * Real.exp (-σ) * Real.exp (S.total (p + r.val + 1) - S.total p)) * e2
  · rw [Finset.mul_sum]
    refine Finset.sum_congr rfl fun s _ => ?_
    rw [sub_eq_add_neg _ σ, Real.exp_add]
    ring

/-- The head's result is the series', whatever the stabilisers. -/
theorem out_eq (hT : T ≤ 2 ^ 31) (h : Fits H S p μ) (r : Fin T) (j : Fin 256) : H.out r j = (S.result (p + r.val) j : EReal) := by
  obtain ⟨σ, hσ⟩ := h.stab_real hT r
  have hn : H.num r j = _ := h.mix hT r σ hσ (S.C · j) (S.v · j) (fun s => H.v s j) (fun d => H.C d j) (fun s => h.v s j)
    (fun d => h.C d j)
  have hd : H.den r = _ := (congrArg (· + _) (Finset.sum_congr rfl fun s _ => (mul_one (H.weight r s)).symm)).trans
    (h.mix hT r σ hσ S.n (fun _ => 1) (fun _ => 1) H.n (fun _ => EReal.coe_one.symm) h.n)
  unfold Head.out
  rw [hn, hd, hσ, Ideal.divf_def, Ideal.absf_def, zero_sub, ← EReal.coe_neg, ← EReal.coe_neg, exp_coe, coe_max, coe_max]
  have hp : 0 < Real.exp (-σ) := Real.exp_pos _
  have e : max (max (Real.exp (-σ) * S.read S.n (fun _ => 1) (p + r.val)) (-(Real.exp (-σ) * S.read S.n (fun _ => 1) (p + r.val))))
      (Real.exp (-σ)) = Real.exp (-σ) * max |S.read S.n (fun _ => 1) (p + r.val)| 1 := by
    rw [← abs_eq_max_neg, abs_mul, abs_of_pos hp, mul_max_of_nonneg _ _ hp.le, mul_one]
  have hm : 0 < max |S.read S.n (fun _ => 1) (p + r.val)| 1 := lt_max_of_lt_right one_pos
  rw [e, Softmax.div_coe _ _ (mul_pos hp hm), ← EReal.coe_mul]
  congr 1
  unfold Series.result
  field_simp

/-- A handed-on state is the series' state, scaled by the handed-on stabiliser. -/
theorem next (hT : T ≤ 2 ^ 31) (h : Fits H S p μ) (σ : ℝ) (hσ : H.nextU = σ) (c : Fin 128 → ℝ) (w : ℕ → ℝ)
    (x : Fin T → EReal) (y : EReal) (d : Fin 128) (hx : ∀ s, x s = (w (p + s.val) : EReal))
    (hy : y = ((Real.exp (-μ) * S.state c w p d : ℝ) : EReal)) :
    H.decay * y + ∑ s, H.k s d * (x s * H.kept s) = ((Real.exp (-σ) * S.state c w (p + T) d : ℝ) : EReal) := by
  have e : ∀ s : Fin T, H.k s d * (x s * H.kept s) = ((S.k (p + s.val) d * (w (p + s.val)
      * Real.exp (S.total (p + T) - S.total p - (S.total (p + s.val + 1) - S.total p) + S.i (p + s.val) - σ)) : ℝ) : EReal) := by
    intro s
    unfold Head.kept
    rw [h.dir, h.sum_f, upto_eq hT H.f h.f, h.ic, hσ, h.k, hx, ← EReal.coe_sub, ← EReal.coe_add, ← EReal.coe_sub, exp_coe,
      ← EReal.coe_mul, ← EReal.coe_mul]
  simp only [e]
  rw [Fin.sum_univ_eq_sum_range (fun s => ((S.k (p + s) d * (w (p + s)
      * Real.exp (S.total (p + T) - S.total p - (S.total (p + s + 1) - S.total p) + S.i (p + s) - σ)) : ℝ) : EReal)) T, ← coe_total]
  unfold Head.decay
  rw [h.sum_f, h.u, hσ, hy, ← EReal.coe_add, ← EReal.coe_sub, exp_coe, ← EReal.coe_mul, ← EReal.coe_add]
  congr 1
  rw [S.state_add, mul_add]
  refine congrArg₂ (· + ·) ?_ ?_
  · rw [← mul_assoc, ← mul_assoc, ← Real.exp_add, ← Real.exp_add]
    congr 2; ring
  · rw [Finset.mul_sum]
    refine Finset.sum_congr rfl fun s _ => ?_
    have e1 : S.total (p + T) - S.total p - (S.total (p + s + 1) - S.total p) + S.i (p + s) - σ
        = -σ + (S.total (p + T) - S.total (p + s + 1) + S.i (p + s)) := by ring
    rw [e1, Real.exp_add]
    ring

end Fits

end Cert.Scan
end
-- ==== Proof.ScanRun.lean ====
module

public import proofs.«01_k».proof.Proof.ScanReal
public import Idealize.ShloMosaic.Lib.Pointwise

@[expose] public section

noncomputable section

open Idealize.ShloMosaic Finset

namespace Cert.Scan

/-- Adding up a list from `v`. -/
theorem foldl_total {M ι : Type} [AddCommMonoid M] (F : ι → M) : ∀ (l : List ι) (v : M), l.foldl (fun a n => a + F n) v = v + (l.map F).sum
  | [], v => by simp
  | a :: l, v => by rw [List.foldl_cons, foldl_total F l, List.map_cons, List.sum_cons, add_assoc]

/-- A windowed sum down the columns, padded above by all but one row, is the running sum. -/
theorem running {N : ℕ} (hN : 0 < N) {u : Shape} (x : FVec Ideal ⟨2, ![N, 8]⟩ .f32) (z : FVec Ideal u .f32)
    (h : (⟨2, ![N, 8]⟩ : Shape).ReduceWindows ![N, 1] ![1, 1] ![N - 1, 0] ![0, 0] ⟨2, ![N, 8]⟩) (hu : 0 < u.numel)
    (hz : z (Shape.Idx.first hu) = 0) (r : Fin N) (c : Fin 8) :
    Host.reduceWindowAdd ![N, 1] ![1, 1] ![N - 1, 0] ![0, 0] x z h hu (ix2 r c)
      = ∑ s : Fin N, if s.val ≤ r.val then x (ix2 s c) else 0 := by
  have hr := r.isLt
  let X : ℕ → EReal := fun s => if hs : s < N then x (ix2 ⟨s, hs⟩ c) else 0
  have e : ∀ s : Fin N, (if s.val ≤ r.val then x (ix2 s c) else (0 : EReal)) = if s.val ≤ r.val then X s.val else 0 :=
    fun s => by simp only [X, s.isLt, dif_pos]
  simp only [e]
  rw [sum_upto X r]
  let F : (⟨2, ![N, 1]⟩ : Shape).Idx → EReal := fun w =>
    if hin : ∀ a : Fin 2, ![N - 1, 0] a ≤ (ix2 r c (a.cast h.1.symm)).val * ![1, 1] a + (w a).val
        ∧ (ix2 r c (a.cast h.1.symm)).val * ![1, 1] a + (w a).val - ![N - 1, 0] a < ![N, 8] a then
      x fun a => ⟨(ix2 r c (a.cast h.1.symm)).val * ![1, 1] a + (w a).val - ![N - 1, 0] a, (hin a).2⟩
    else 0
  have hF : ∀ (a : Fin N) (b : Fin 1), F (ix2 a b) = if N - 1 ≤ r.val + a.val then X (r.val + a.val - (N - 1)) else 0 := by
    intro a b
    have ha := a.isLt
    have hb : b.val = 0 := by omega
    have hc := c.isLt
    by_cases hs : N - 1 ≤ r.val + a.val
    · have hin : ∀ d : Fin 2, ![N - 1, 0] d ≤ (ix2 r c (d.cast h.1.symm)).val * ![1, 1] d + (ix2 a b d).val
          ∧ (ix2 r c (d.cast h.1.symm)).val * ![1, 1] d + (ix2 a b d).val - ![N - 1, 0] d < ![N, 8] d := by
        rw [Fin.forall_fin_two]
        constructor
        · show N - 1 ≤ r.val * 1 + a.val ∧ r.val * 1 + a.val - (N - 1) < N; omega
        · show 0 ≤ c.val * 1 + b.val ∧ c.val * 1 + b.val - 0 < 8; omega
      have hX : r.val + a.val - (N - 1) < N := by omega
      rw [if_pos hs]
      simp only [F, X, dif_pos hin, dif_pos hX]
      refine congrArg x (funext fun d => Fin.ext ?_)
      revert d
      refine Fin.forall_fin_two.2 ⟨?_, ?_⟩
      · show r.val * 1 + a.val - (N - 1) = r.val + a.val - (N - 1); omega
      · show c.val * 1 + b.val - 0 = c.val; omega
    · rw [if_neg hs]
      refine dif_neg fun hin => hs ?_
      have h0 : N - 1 ≤ r.val * 1 + a.val := (hin 0).1
      omega
  have hs : Host.reduceWindowAdd ![N, 1] ![1, 1] ![N - 1, 0] ![0, 0] x z h hu (ix2 r c)
      = (List.finRange (⟨2, ![N, 1]⟩ : Shape).numel).foldl
        (fun a n => a + F ((Shape.rowMajor (⟨2, ![N, 1]⟩ : Shape)).symm n)) 0 := by
    rw [← hz]
    show Host.reduceWindow (· + ·) ![N, 1] ![1, 1] ![N - 1, 0] ![0, 0] x
      (fun _ : (⟨0, ![]⟩ : Shape).Idx => z (Shape.Idx.first hu)) h (by decide) (ix2 r c) = _
    unfold Host.reduceWindow
    dsimp only
    simp only [F, hz]
  rw [hs, foldl_total, zero_add, ← Fin.sum_univ_def, Equiv.sum_comp (Shape.rowMajor (⟨2, ![N, 1]⟩ : Shape)).symm F, sum_idx2]
  simp only [hF, Fin.sum_univ_one]
  rw [Fin.sum_univ_eq_sum_range (fun a => if N - 1 ≤ r.val + a then X (r.val + a - (N - 1)) else 0) N,
    show range N = range ((N - 1 - r.val) + (r.val + 1)) from congrArg range (by omega), Finset.sum_range_add, Finset.sum_eq_zero, zero_add]
  · refine Finset.sum_congr rfl fun s _ => ?_
    rw [if_pos (by omega)]
    congr 1; omega
  · intro s hs
    have := Finset.mem_range.1 hs
    exact if_neg (by omega)

/-- A head's result with every product's factors in the other order. -/
theorem Head.out_comm {T : ℕ} (H : Head T) (r : Fin T) (j : Fin 256) (w : Fin T → EReal) (hw : ∀ x, w x = H.v x j) :
    H.out r j = Ideal.div
      (∑ x, w x * ((∑ d, H.k x d * H.q r d) * Ideal.exp (H.gap r x - H.stab r)) + (∑ d, H.C d j * H.q r d) * H.carry r)
      (max (FloatOps.absf (F := Ideal) (φ := .f32)
          (∑ x, (∑ d, H.k x d * H.q r d) * Ideal.exp (H.gap r x - H.stab r) + (∑ d, H.n d * H.q r d) * H.carry r))
        (Ideal.exp (-H.stab r))) := by
  unfold Head.out Head.num Head.den Head.weight
  simp only [hw, mul_comm (H.q _ _), mul_comm _ (H.v _ _), zero_sub]
  rfl

/-- Head `h` of the whole arrays, with `dir` saying what a token sees and `col` where the sixteen gates stand: the input gates first. -/
def whole (dir : CmpIPredicate) (col : Fin 16 → Fin 128) (q k : FVec Ideal ⟨2, ![16384, 1024]⟩ .bf16) (v : FVec Ideal ⟨2, ![16384, 2048]⟩ .bf16)
    (g : FVec Ideal ⟨2, ![16384, 128]⟩ .f32) (C : FVec Ideal ⟨3, ![8, 128, 256]⟩ .f32) (n u : FVec Ideal ⟨3, ![8, 1, 128]⟩ .f32)
    (h : Fin 8) : Head 16384 where
  dir := dir
  q := fun r d => q (ix2 r ⟨h.val * 128 + d.val, by omega⟩)
  k := fun r d => k (ix2 r ⟨h.val * 128 + d.val, by omega⟩)
  v := fun r j => v (ix2 r ⟨h.val * 256 + j.val, by omega⟩)
  f := fun s => g (ix2 s (col ⟨8 + h.val, by omega⟩))
  i := fun s => g (ix2 s (col ⟨h.val, by omega⟩))
  fc := fun s => g (ix2 s (col ⟨8 + h.val, by omega⟩))
  ic := fun s => g (ix2 s (col ⟨h.val, by omega⟩))
  C := fun d j => C (ix3 h d j)
  n := fun d => n (ix3 h 0 d)
  u := u (ix3 h 0 0)

/-- Where the forward scan's gates stand. -/
def front (a : Fin 16) : Fin 128 := ⟨a.val, by omega⟩

/-- Where the backward scan's gates stand. -/
def back (a : Fin 16) : Fin 128 := ⟨16 + a.val, by omega⟩

end Cert.Scan
end
-- ==== Proof.ScanTile.lean ====
module

public import proofs.«01_k».proof.Proof.ScanParts
public import proofs.«01_k».proof.Proof.ScanRun
public import proofs.«01_k».proof.Proof.Gen.Kernel10Ideal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen Cert.Scan

variable (m : (ℓ : Loc nD τ sig) → Buf (Elt Ideal) ℓ)

/-- The matrix states a tile enters with. -/
def inC (c : Dev nD) (t : Fin cfg0.N) : Vec Ideal S8x128x256 .f32 :=
  if t.val % 64 = 0 then iblk m c 5 t else (outsAt0 m c (t.val - 1) (by omega)).2.1

/-- The normalisers a tile enters with. -/
def inN (c : Dev nD) (t : Fin cfg0.N) : Vec Ideal S8x1x128 .f32 :=
  if t.val % 64 = 0 then iblk m c 6 t else (outsAt0 m c (t.val - 1) (by omega)).2.2.1

/-- The stabilisers a tile enters with. -/
def inU (c : Dev nD) (t : Fin cfg0.N) : Vec Ideal S8x1x128 .f32 :=
  if t.val % 64 = 0 then iblk m c 7 t else (outsAt0 m c (t.val - 1) (by omega)).2.2.2

/-- The heads of tile `t`. -/
def heads (c : Dev nD) (t : Fin cfg0.N) : Fin 8 → Head 256 :=
  head .sle front (iblk m c 0 t) (iblk m c 1 t) (iblk m c 2 t) (iblk m c 3 t) (iblk m c 4 t) (inC m c t) (inN m c t) (inU m c t)

set_option maxHeartbeats 4000000 in
/-- What a tile writes of the results. -/
theorem tile_h (c : Dev nD) (t : Fin cfg0.N) : (outsAt0 m c t.val t.isLt).1 = outs (heads m c t) := by
  funext y
  refine Classical.byCases (p := t.val % 64 = 0) (fun h0 => ?_) (fun h0 => ?_)
  rw [outsAt0_A m c t h0]
  dsimp only
  frame_open
  simp (disch := decide) only [↓ View.readCov_skip, ↓ View.readCov_cons_toLoadRect, ↓ View.readCov_fill]
  frame_out
  refine View.canon_append_of_piecesOf _ [] [_, _, _, _, _, _, _, _] ⟨
      outs_piece (heads m c t) 7 _ (by decide) (by rfl) _ ?_, outs_piece (heads m c t) 6 _ (by decide) (by rfl) _ ?_,
      outs_piece (heads m c t) 5 _ (by decide) (by rfl) _ ?_, outs_piece (heads m c t) 4 _ (by decide) (by rfl) _ ?_,
      outs_piece (heads m c t) 3 _ (by decide) (by rfl) _ ?_, outs_piece (heads m c t) 2 _ (by decide) (by rfl) _ ?_,
      outs_piece (heads m c t) 1 _ (by decide) (by rfl) _ ?_, outs_piece (heads m c t) 0 _ (by decide) (by rfl) _ ?_,
      trivial⟩ y (View.cover_of_tiled _ ![256, 256] rfl y)
  rotate_left 8
  rw [outsAt0_B m c t h0]
  dsimp only
  frame_out
  refine View.canon_append_of_piecesOf _ [] [_, _, _, _, _, _, _, _] ⟨
      outs_piece (heads m c t) 7 _ (by decide) (by rfl) _ ?_, outs_piece (heads m c t) 6 _ (by decide) (by rfl) _ ?_,
      outs_piece (heads m c t) 5 _ (by decide) (by rfl) _ ?_, outs_piece (heads m c t) 4 _ (by decide) (by rfl) _ ?_,
      outs_piece (heads m c t) 3 _ (by decide) (by rfl) _ ?_, outs_piece (heads m c t) 2 _ (by decide) (by rfl) _ ?_,
      outs_piece (heads m c t) 1 _ (by decide) (by rfl) _ ?_, outs_piece (heads m c t) 0 _ (by decide) (by rfl) _ ?_,
      trivial⟩ y (View.cover_of_tiled _ ![256, 256] rfl y)
  all_goals (
    intro r j
    unfold heads inC inN inU
    simp only [h0, if_true, if_false]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179]
    try rw [head_zero]
    rfl)

set_option maxHeartbeats 4000000 in
/-- What a tile writes of the matrix states. -/
theorem tile_C (c : Dev nD) (t : Fin cfg0.N) : (outsAt0 m c t.val t.isLt).2.1 = mats (heads m c t) := by
  funext y
  refine Classical.byCases (p := t.val % 64 = 0) (fun h0 => ?_) (fun h0 => ?_)
  rw [outsAt0_A m c t h0]
  dsimp only
  frame_open
  simp (disch := decide) only [↓ View.readCov_skip, ↓ View.readCov_cons_toLoadRect, ↓ View.readCov_fill]
  frame_out
  refine View.canon_append_of_piecesOf _ [_] [_, _, _, _, _, _, _, _] ⟨
      mats_piece (heads m c t) 7 _ (by decide) (by rfl) _ ?_, mats_piece (heads m c t) 6 _ (by decide) (by rfl) _ ?_,
      mats_piece (heads m c t) 5 _ (by decide) (by rfl) _ ?_, mats_piece (heads m c t) 4 _ (by decide) (by rfl) _ ?_,
      mats_piece (heads m c t) 3 _ (by decide) (by rfl) _ ?_, mats_piece (heads m c t) 2 _ (by decide) (by rfl) _ ?_,
      mats_piece (heads m c t) 1 _ (by decide) (by rfl) _ ?_, mats_piece (heads m c t) 0 _ (by decide) (by rfl) _ ?_,
      trivial⟩ y (View.cover_of_tiled _ ![1, 128, 256] rfl y)
  rotate_left 8
  rw [outsAt0_B m c t h0]
  dsimp only
  frame_out
  refine View.canon_append_of_piecesOf _ [] [_, _, _, _, _, _, _, _] ⟨
      mats_piece (heads m c t) 7 _ (by decide) (by rfl) _ ?_, mats_piece (heads m c t) 6 _ (by decide) (by rfl) _ ?_,
      mats_piece (heads m c t) 5 _ (by decide) (by rfl) _ ?_, mats_piece (heads m c t) 4 _ (by decide) (by rfl) _ ?_,
      mats_piece (heads m c t) 3 _ (by decide) (by rfl) _ ?_, mats_piece (heads m c t) 2 _ (by decide) (by rfl) _ ?_,
      mats_piece (heads m c t) 1 _ (by decide) (by rfl) _ ?_, mats_piece (heads m c t) 0 _ (by decide) (by rfl) _ ?_,
      trivial⟩ y (View.cover_of_tiled _ ![1, 128, 256] rfl y)
  all_goals (
    intro d j
    unfold heads inC inN inU
    simp only [h0, if_true, if_false]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179]
    try rw [head_zero]
    rfl)

set_option maxHeartbeats 4000000 in
/-- What a tile writes of the normalisers. -/
theorem tile_n (c : Dev nD) (t : Fin cfg0.N) : (outsAt0 m c t.val t.isLt).2.2.1 = lanes fun h => (heads m c t h).nextN := by
  funext y
  refine Classical.byCases (p := t.val % 64 = 0) (fun h0 => ?_) (fun h0 => ?_)
  rw [outsAt0_A m c t h0]
  dsimp only
  frame_open
  simp (disch := decide) only [↓ View.readCov_skip, ↓ View.readCov_cons_toLoadRect, ↓ View.readCov_fill]
  frame_out
  refine View.canon_append_of_piecesOf _ [_] [_, _, _, _, _, _, _, _] ⟨
      lanes_piece (fun h => (heads m c t h).nextN) 7 _ (by decide) (by rfl) _ ?_, lanes_piece (fun h => (heads m c t h).nextN) 6 _ (by decide) (by rfl) _ ?_,
      lanes_piece (fun h => (heads m c t h).nextN) 5 _ (by decide) (by rfl) _ ?_, lanes_piece (fun h => (heads m c t h).nextN) 4 _ (by decide) (by rfl) _ ?_,
      lanes_piece (fun h => (heads m c t h).nextN) 3 _ (by decide) (by rfl) _ ?_, lanes_piece (fun h => (heads m c t h).nextN) 2 _ (by decide) (by rfl) _ ?_,
      lanes_piece (fun h => (heads m c t h).nextN) 1 _ (by decide) (by rfl) _ ?_, lanes_piece (fun h => (heads m c t h).nextN) 0 _ (by decide) (by rfl) _ ?_,
      trivial⟩ y (View.cover_of_tiled _ ![1, 1, 128] rfl y)
  rotate_left 8
  rw [outsAt0_B m c t h0]
  dsimp only
  frame_out
  refine View.canon_append_of_piecesOf _ [] [_, _, _, _, _, _, _, _] ⟨
      lanes_piece (fun h => (heads m c t h).nextN) 7 _ (by decide) (by rfl) _ ?_, lanes_piece (fun h => (heads m c t h).nextN) 6 _ (by decide) (by rfl) _ ?_,
      lanes_piece (fun h => (heads m c t h).nextN) 5 _ (by decide) (by rfl) _ ?_, lanes_piece (fun h => (heads m c t h).nextN) 4 _ (by decide) (by rfl) _ ?_,
      lanes_piece (fun h => (heads m c t h).nextN) 3 _ (by decide) (by rfl) _ ?_, lanes_piece (fun h => (heads m c t h).nextN) 2 _ (by decide) (by rfl) _ ?_,
      lanes_piece (fun h => (heads m c t h).nextN) 1 _ (by decide) (by rfl) _ ?_, lanes_piece (fun h => (heads m c t h).nextN) 0 _ (by decide) (by rfl) _ ?_,
      trivial⟩ y (View.cover_of_tiled _ ![1, 1, 128] rfl y)
  all_goals (
    intro d
    unfold heads inC inN inU
    simp only [h0, if_true, if_false]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179]
    try rw [head_zero]
    rfl)

set_option maxHeartbeats 4000000 in
/-- What a tile writes of the stabilisers. -/
theorem tile_u (c : Dev nD) (t : Fin cfg0.N) : (outsAt0 m c t.val t.isLt).2.2.2 = lanes fun h _ => (heads m c t h).nextU := by
  funext y
  refine Classical.byCases (p := t.val % 64 = 0) (fun h0 => ?_) (fun h0 => ?_)
  rw [outsAt0_A m c t h0]
  dsimp only
  frame_open
  simp (disch := decide) only [↓ View.readCov_skip, ↓ View.readCov_cons_toLoadRect, ↓ View.readCov_fill]
  frame_out
  refine View.canon_append_of_piecesOf _ [_] [_, _, _, _, _, _, _, _] ⟨
      lanes_piece (fun h _ => (heads m c t h).nextU) 7 _ (by decide) (by rfl) _ ?_, lanes_piece (fun h _ => (heads m c t h).nextU) 6 _ (by decide) (by rfl) _ ?_,
      lanes_piece (fun h _ => (heads m c t h).nextU) 5 _ (by decide) (by rfl) _ ?_, lanes_piece (fun h _ => (heads m c t h).nextU) 4 _ (by decide) (by rfl) _ ?_,
      lanes_piece (fun h _ => (heads m c t h).nextU) 3 _ (by decide) (by rfl) _ ?_, lanes_piece (fun h _ => (heads m c t h).nextU) 2 _ (by decide) (by rfl) _ ?_,
      lanes_piece (fun h _ => (heads m c t h).nextU) 1 _ (by decide) (by rfl) _ ?_, lanes_piece (fun h _ => (heads m c t h).nextU) 0 _ (by decide) (by rfl) _ ?_,
      trivial⟩ y (View.cover_of_tiled _ ![1, 1, 128] rfl y)
  rotate_left 8
  rw [outsAt0_B m c t h0]
  dsimp only
  frame_out
  refine View.canon_append_of_piecesOf _ [] [_, _, _, _, _, _, _, _] ⟨
      lanes_piece (fun h _ => (heads m c t h).nextU) 7 _ (by decide) (by rfl) _ ?_, lanes_piece (fun h _ => (heads m c t h).nextU) 6 _ (by decide) (by rfl) _ ?_,
      lanes_piece (fun h _ => (heads m c t h).nextU) 5 _ (by decide) (by rfl) _ ?_, lanes_piece (fun h _ => (heads m c t h).nextU) 4 _ (by decide) (by rfl) _ ?_,
      lanes_piece (fun h _ => (heads m c t h).nextU) 3 _ (by decide) (by rfl) _ ?_, lanes_piece (fun h _ => (heads m c t h).nextU) 2 _ (by decide) (by rfl) _ ?_,
      lanes_piece (fun h _ => (heads m c t h).nextU) 1 _ (by decide) (by rfl) _ ?_, lanes_piece (fun h _ => (heads m c t h).nextU) 0 _ (by decide) (by rfl) _ ?_,
      trivial⟩ y (View.cover_of_tiled _ ![1, 1, 128] rfl y)
  all_goals (
    intro d
    unfold heads inC inN inU
    simp only [h0, if_true, if_false]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179]
    try rw [head_zero]
    rfl)

end Cert.Kernel10Ideal.Value

end
-- ==== Proof.ScanFlip.lean ====
module

public import proofs.«01_k».proof.Proof.ScanReal

@[expose] public section

set_option maxRecDepth 16384

noncomputable section

open Idealize.ShloMosaic Finset

namespace Cert.Scan

variable {T : ℕ}

/-- The positions in reverse order, seen forwards. -/
def Head.flip (H : Head T) : Head T where
  dir := .sle
  q := fun r => H.q r.rev
  k := fun r => H.k r.rev
  v := fun r => H.v r.rev
  f := fun r => H.f r.rev
  i := fun r => H.i r.rev
  fc := fun r => H.fc r.rev
  ic := fun r => H.ic r.rev
  C := H.C
  n := H.n
  u := H.u

/-- A sum in reverse order. -/
theorem sum_rev (f : Fin T → EReal) : ∑ s, f s = ∑ s : Fin T, f s.rev := (Equiv.sum_comp Fin.revPerm f).symm

/-- A maximum in reverse order. -/
theorem top_rev (b : EReal) (f : Fin T → EReal) : univ.fold max b f = univ.fold max b fun s : Fin T => f s.rev := by
  refine (congrArg (fun S => Finset.fold max b f S) (Finset.map_univ_equiv Fin.revPerm).symm).trans ?_
  rw [Finset.fold_map]
  rfl

/-- Seeing later positions is seeing earlier ones in reverse order. -/
theorem select_flip (hT : T ≤ 2 ^ 31) (s r : Fin T) (x y : EReal) :
    Scalar.select (sees .sge s r) x y = Scalar.select (sees .sle s.rev r.rev) x y := by
  rw [select_sees hT]
  have hs := s.isLt
  have hr := r.isLt
  unfold sees Scalar.select
  refine if_congr ?_ rfl rfl
  refine (WordCmp.cmpi_sge_ofNat_eq_one_iff (by norm_num; omega) (by norm_num; omega)).trans ?_
  rw [Fin.val_rev, Fin.val_rev]
  omega

variable (hT : T ≤ 2 ^ 31) {H : Head T} (hd : H.dir = .sge)

include hT in
/-- A sum over the later positions. -/
theorem upto_flip (f : Fin T → EReal) (r : Fin T) : upto .sge f r = upto .sle (fun s => f s.rev) r.rev := by
  unfold upto
  rw [sum_rev fun s => Scalar.select (sees .sle s r.rev) (f s.rev) 0]
  simp only [Fin.rev_rev]
  exact sum_congr rfl fun s _ => select_flip hT s r _ _

include hT hd

/-- The gaps. -/
theorem Head.gap_flip (r s : Fin T) : H.gap r s = H.flip.gap r.rev s.rev := by
  unfold Head.gap
  rw [hd, select_flip hT, upto_flip hT, upto_flip hT]
  show _ = Scalar.select (sees .sle s.rev r.rev) (_ + H.i s.rev.rev) _
  rw [Fin.rev_rev]
  rfl

/-- The stabilisers. -/
theorem Head.stab_flip (r : Fin T) : H.stab r = H.flip.stab r.rev := by
  unfold Head.stab
  rw [hd, upto_flip hT, top_rev _ (H.flip.gap r.rev)]
  simp only [Head.gap_flip hT hd]
  rfl

/-- The weights. -/
theorem Head.weight_flip (r s : Fin T) : H.weight r s = H.flip.weight r.rev s.rev := by
  unfold Head.weight
  rw [Head.gap_flip hT hd, Head.stab_flip hT hd]
  unfold Head.flip
  dsimp only
  rw [Fin.rev_rev, Fin.rev_rev]

/-- The results. -/
theorem Head.out_flip (r : Fin T) (j : Fin 256) : H.out r j = H.flip.out r.rev j := by
  have hq : H.flip.q r.rev = H.q r := congrArg H.q (Fin.rev_rev r)
  have hc : H.carry r = H.flip.carry r.rev := by
    unfold Head.carry
    rw [hd, upto_flip hT, Head.stab_flip hT hd]
    rfl
  have hnum : H.num r j = H.flip.num r.rev j := by
    unfold Head.num
    rw [hc, hq, sum_rev fun s => H.flip.weight r.rev s * H.flip.v s j]
    simp only [Head.weight_flip hT hd r]
    refine congrArg (· + _) (sum_congr rfl fun s _ => congrArg (_ * ·) (congrArg (H.v · j) (Fin.rev_rev s).symm))
  have hden : H.den r = H.flip.den r.rev := by
    unfold Head.den
    rw [hc, hq, sum_rev fun s => H.flip.weight r.rev s]
    simp only [Head.weight_flip hT hd r]
    rfl
  unfold Head.out
  rw [hnum, hden, Head.stab_flip hT hd]

/-- The next stabiliser. -/
theorem Head.nextU_flip : H.nextU = H.flip.nextU := by
  unfold Head.nextU
  rw [hd, sum_rev H.f, top_rev]
  simp only [upto_flip hT, Fin.rev_rev]
  rfl

/-- What the state is scaled by. -/
theorem Head.decay_flip : H.decay = H.flip.decay := by
  unfold Head.decay
  rw [Head.nextU_flip hT hd, sum_rev H.f]
  rfl

/-- What a token weighs at the end. -/
theorem Head.kept_flip (s : Fin T) : H.kept s.rev = H.flip.kept s := by
  unfold Head.kept
  rw [hd, Head.nextU_flip hT hd, sum_rev H.f, upto_flip hT, Fin.rev_rev]
  rfl

/-- The next matrix state. -/
theorem Head.nextC_flip (d : Fin 128) (j : Fin 256) : H.nextC d j = H.flip.nextC d j := by
  unfold Head.nextC
  rw [Head.decay_flip hT hd, sum_rev fun s => H.k s d * (H.v s j * H.kept s)]
  simp only [Head.kept_flip hT hd]
  rfl

/-- The next normaliser. -/
theorem Head.nextN_flip (d : Fin 128) : H.nextN d = H.flip.nextN d := by
  unfold Head.nextN
  rw [Head.decay_flip hT hd, sum_rev fun s => H.k s d * H.kept s]
  simp only [Head.kept_flip hT hd]
  rfl

end Cert.Scan
end
-- ==== Proof.ScanWhole.lean ====
module

public import proofs.«01_k».proof.Proof.ScanFlip
public import proofs.«01_k».proof.Proof.ScanRun

@[expose] public section

set_option maxRecDepth 16384

noncomputable section

open Idealize.ShloMosaic Finset

namespace Cert.Scan

/-- A real value is its own real part. -/
theorem real_eq {x : EReal} (h : ∃ r : ℝ, x = r) : x = (x.toReal : EReal) := by
  obtain ⟨r, rfl⟩ := h
  rw [EReal.toReal_coe]

/-- Token `t`'s row. -/
def row (t : ℕ) : Fin 16384 := ⟨t % 16384, Nat.mod_lt _ (by norm_num)⟩

/-- A token in range is its own row. -/
theorem row_mk (t : ℕ) (h : t < 16384) : row t = ⟨t, h⟩ := Fin.ext (Nat.mod_eq_of_lt h)

/-- Everything a forward scan reads is real, and a gate is the same as a row and as a column. -/
structure Sound (W : Head 16384) : Prop where
  dir : W.dir = .sle
  q : ∀ r d, ∃ x : ℝ, W.q r d = x
  k : ∀ r d, ∃ x : ℝ, W.k r d = x
  v : ∀ r j, ∃ x : ℝ, W.v r j = x
  f : ∀ r, ∃ x : ℝ, W.f r = x
  i : ∀ r, ∃ x : ℝ, W.i r = x
  fc : ∀ r, W.fc r = W.f r
  ic : ∀ r, W.ic r = W.i r
  C : ∀ d j, ∃ x : ℝ, W.C d j = x
  n : ∀ d, ∃ x : ℝ, W.n d = x
  u : ∃ x : ℝ, W.u = x

/-- The series a scan reads. -/
def series (W : Head 16384) : Series where
  q := fun t d => EReal.toReal (W.q (row t) d)
  k := fun t d => EReal.toReal (W.k (row t) d)
  v := fun t j => EReal.toReal (W.v (row t) j)
  f := fun t => EReal.toReal (W.f (row t))
  i := fun t => EReal.toReal (W.i (row t))
  C := fun d j => EReal.toReal (W.C d j)
  n := fun d => EReal.toReal (W.n d)
  u := EReal.toReal W.u

/-- The state before the first token, scaled by its stabiliser. -/
theorem Series.state_zero (S : Series) (c : Fin 128 → ℝ) (w : ℕ → ℝ) (d : Fin 128) : Real.exp (-S.u) * S.state c w 0 d = c d := by
  unfold Series.state Series.total
  rw [range_zero, sum_empty, sum_empty, zero_add, add_zero, ← mul_assoc, ← Real.exp_add, neg_add_cancel, Real.exp_zero, one_mul]

/-- The scan in one chunk fits its series. -/
theorem Sound.whole {W : Head 16384} (F : Sound W) : Fits W (series W) 0 (series W).u := by
  have e : ∀ r : Fin 16384, row (0 + r.val) = r := fun r => by rw [zero_add]; exact row_mk _ r.isLt
  refine ⟨F.dir, fun r d => ?_, fun r d => ?_, fun r j => ?_, fun r => ?_, fun r => ?_, fun r => (F.fc r).trans ?_, fun r => (F.ic r).trans ?_,
    fun d j => ?_, fun d => ?_, real_eq F.u⟩
  · refine (real_eq (F.q r d)).trans ?_
    unfold series; dsimp only; rw [e]
  · refine (real_eq (F.k r d)).trans ?_
    unfold series; dsimp only; rw [e]
  · refine (real_eq (F.v r j)).trans ?_
    unfold series; dsimp only; rw [e]
  iterate 2
    · refine (real_eq (F.f r)).trans ?_
      unfold series; dsimp only; rw [e]
    · refine (real_eq (F.i r)).trans ?_
      unfold series; dsimp only; rw [e]
  · rw [Series.state_zero]; exact real_eq (F.C _ _)
  · rw [Series.state_zero]; exact real_eq (F.n _)

/-- `H` is the scan `W` in `N` chunks of 256 tokens, each handing its state on. -/
structure Chunks (W : Head 16384) {N : ℕ} (H : Fin N → Head 256) : Prop where
  dir : ∀ t, (H t).dir = .sle
  q : ∀ t r d, (H t).q r d = W.q (row (256 * t.val + r.val)) d
  k : ∀ t r d, (H t).k r d = W.k (row (256 * t.val + r.val)) d
  v : ∀ t r j, (H t).v r j = W.v (row (256 * t.val + r.val)) j
  f : ∀ t r, (H t).f r = W.f (row (256 * t.val + r.val))
  i : ∀ t r, (H t).i r = W.i (row (256 * t.val + r.val))
  fc : ∀ t r, (H t).fc r = W.fc (row (256 * t.val + r.val))
  ic : ∀ t r, (H t).ic r = W.ic (row (256 * t.val + r.val))
  firstC : ∀ h0 d j, (H ⟨0, h0⟩).C d j = W.C d j
  firstN : ∀ h0 d, (H ⟨0, h0⟩).n d = W.n d
  firstU : ∀ h0, (H ⟨0, h0⟩).u = W.u
  nextC : ∀ n (hn : n + 1 < N) d j, (H ⟨n + 1, hn⟩).C d j = (H ⟨n, Nat.lt_of_succ_lt hn⟩).nextC d j
  nextN : ∀ n (hn : n + 1 < N) d, (H ⟨n + 1, hn⟩).n d = (H ⟨n, Nat.lt_of_succ_lt hn⟩).nextN d
  nextU : ∀ n (hn : n + 1 < N), (H ⟨n + 1, hn⟩).u = (H ⟨n, Nat.lt_of_succ_lt hn⟩).nextU

variable {W : Head 16384} {N : ℕ} {H : Fin N → Head 256}

/-- A chunk fits the series when the state it enters with does. -/
theorem Chunks.fits_of (D : Chunks W H) (F : Sound W) (t : Fin N) (μ : ℝ)
    (hC : ∀ d j, (H t).C d j = ((Real.exp (-μ) * (series W).state ((series W).C · j) ((series W).v · j) (256 * t.val) d : ℝ) : EReal))
    (hn : ∀ d, (H t).n d = ((Real.exp (-μ) * (series W).state (series W).n (fun _ => 1) (256 * t.val) d : ℝ) : EReal))
    (hu : (H t).u = (μ : EReal)) : Fits (H t) (series W) (256 * t.val) μ where
  dir := D.dir t
  q r d := (D.q t r d).trans (real_eq (F.q _ _))
  k r d := (D.k t r d).trans (real_eq (F.k _ _))
  v r j := (D.v t r j).trans (real_eq (F.v _ _))
  f r := (D.f t r).trans (real_eq (F.f _))
  i r := (D.i t r).trans (real_eq (F.i _))
  fc r := (D.fc t r).trans ((F.fc _).trans (real_eq (F.f _)))
  ic r := (D.ic t r).trans ((F.ic _).trans (real_eq (F.i _)))
  C := hC
  n := hn
  u := hu

/-- Every chunk fits the series. -/
theorem Chunks.fits (D : Chunks W H) (F : Sound W) : ∀ (n : ℕ) (hn : n < N), ∃ μ : ℝ, Fits (H ⟨n, hn⟩) (series W) (256 * n) μ
  | 0, hn => ⟨(series W).u, D.fits_of F ⟨0, hn⟩ _
      (fun d j => (D.firstC hn d j).trans ((real_eq (F.C _ _)).trans
        (congrArg _ (Series.state_zero (series W) ((series W).C · j) ((series W).v · j) d).symm)))
      (fun d => (D.firstN hn d).trans ((real_eq (F.n _)).trans (congrArg _ (Series.state_zero (series W) (series W).n (fun _ => 1) d).symm)))
      ((D.firstU hn).trans (real_eq F.u))⟩
  | n + 1, hn => by
    obtain ⟨μ, ih⟩ := D.fits F n (Nat.lt_of_succ_lt hn)
    obtain ⟨σ, hσ⟩ := ih.nextU_real (by norm_num)
    have e : 256 * (n + 1) = 256 * n + 256 := by ring
    refine ⟨σ, D.fits_of F ⟨n + 1, hn⟩ σ (fun d j => (D.nextC n hn d j).trans ?_) (fun d => (D.nextN n hn d).trans ?_) ((D.nextU n hn).trans hσ)⟩
    · show _ = ((Real.exp (-σ) * (series W).state ((series W).C · j) ((series W).v · j) (256 * (n + 1)) d : ℝ) : EReal)
      rw [e]
      exact ih.next (by norm_num) σ hσ _ ((series W).v · j) (fun s => (H ⟨n, Nat.lt_of_succ_lt hn⟩).v s j) _ d (fun s => ih.v s j) (ih.C d j)
    · show _ = ((Real.exp (-σ) * (series W).state (series W).n (fun _ => 1) (256 * (n + 1)) d : ℝ) : EReal)
      rw [e, ← ih.next (by norm_num) σ hσ (series W).n (fun _ => 1) (fun _ => 1) _ d (fun s => EReal.coe_one.symm) (ih.n d)]
      unfold Head.nextN
      simp only [one_mul]

/-- The chunks' results are the scan's. -/
theorem Chunks.out (D : Chunks W H) (F : Sound W) (t : Fin N) (r : Fin 256) (j : Fin 256) (s : Fin 16384) (hs : s.val = 256 * t.val + r.val) :
    (H t).out r j = W.out s j := by
  obtain ⟨μ, h⟩ := D.fits F t.val t.isLt
  rw [h.out_eq (by norm_num) r j, F.whole.out_eq (by norm_num) s j, zero_add, hs]

/-- Everything the scan reads is real, the gates standing at `col`. -/
structure Finite (col : Fin 16 → Fin 128) (q k : FVec Ideal ⟨2, ![16384, 1024]⟩ .bf16) (v : FVec Ideal ⟨2, ![16384, 2048]⟩ .bf16)
    (g : FVec Ideal ⟨2, ![16384, 128]⟩ .f32) (C : FVec Ideal ⟨3, ![8, 128, 256]⟩ .f32) (n u : FVec Ideal ⟨3, ![8, 1, 128]⟩ .f32) : Prop where
  q : ∀ r d, ∃ x : ℝ, q (ix2 r d) = x
  k : ∀ r d, ∃ x : ℝ, k (ix2 r d) = x
  v : ∀ r d, ∃ x : ℝ, v (ix2 r d) = x
  g : ∀ (r : Fin 16384) (a : Fin 16), ∃ x : ℝ, g (ix2 r (col a)) = x
  C : ∀ h d j, ∃ x : ℝ, C (ix3 h d j) = x
  n : ∀ h a d, ∃ x : ℝ, n (ix3 h a d) = x
  u : ∀ h a d, ∃ x : ℝ, u (ix3 h a d) = x

variable {col : Fin 16 → Fin 128} {q k : FVec Ideal ⟨2, ![16384, 1024]⟩ .bf16} {v : FVec Ideal ⟨2, ![16384, 2048]⟩ .bf16}
  {g : FVec Ideal ⟨2, ![16384, 128]⟩ .f32} {C : FVec Ideal ⟨3, ![8, 128, 256]⟩ .f32} {n u : FVec Ideal ⟨3, ![8, 1, 128]⟩ .f32}

/-- The forward scan of real arrays is sound. -/
theorem Finite.sound (F : Finite col q k v g C n u) (h : Fin 8) : Sound (whole .sle col q k v g C n u h) :=
  ⟨rfl, fun _ _ => F.q _ _, fun _ _ => F.k _ _, fun _ _ => F.v _ _, fun _ => F.g _ _, fun _ => F.g _ _, fun _ => rfl, fun _ => rfl,
    fun _ _ => F.C _ _ _, fun _ => F.n _ _ _, F.u _ _ _⟩

/-- So is the backward scan in reverse order. -/
theorem Finite.sound_flip (F : Finite col q k v g C n u) (h : Fin 8) : Sound (whole .sge col q k v g C n u h).flip :=
  ⟨rfl, fun _ _ => F.q _ _, fun _ _ => F.k _ _, fun _ _ => F.v _ _, fun _ => F.g _ _, fun _ => F.g _ _, fun _ => rfl, fun _ => rfl,
    fun _ _ => F.C _ _ _, fun _ => F.n _ _ _, F.u _ _ _⟩

end Cert.Scan
end
-- ==== Proof.ScanKernel.lean ====
module

public import proofs.«01_k».proof.Proof.ScanTile
public import proofs.«01_k».proof.Proof.ScanWhole
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen Cert.Scan

/-- The transposed gates the kernel is called with. -/
theorem turned (V : Valuation τ sig (Elt Ideal)) (t : Fin 64) (a : Fin 128) (s : Fin 256) :
    (StableHlo.after (hostOps0 (F := Ideal)) V main_v1 : FVec Ideal S64x128x256 .f32) (ix3 t a s)
      = (V main_arg3 : FVec Ideal S16384x128 .f32) (ix2 ⟨256 * t.val + s.val, by omega⟩ a) := by
  after_reads_at
  exact congrArg (fun i => (V main_arg3 : FVec Ideal S16384x128 .f32) (ix2 i a)) (Fin.ext (congrArg (· + s.val) (Nat.mul_comm _ _)))

variable (m : (ℓ : Loc nD τ sig) → Buf (Elt Ideal) ℓ)

/-- The block of each window at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0, 0] ∧ win0_5.index t = ![0, 0, 0] ∧ win0_6.index t = ![0, 0, 0]
    ∧ win0_7.index t = ![0, 0, 0] ∧ win0_8.index t = ![t.val, 0] ∧ t.val < 64 :=
  (by decide +kernel : ∀ t : Fin grid0.N, _)

/-- The queries. -/
abbrev qs (c : Dev nD) : FVec Ideal S16384x1024 .bf16 := m ((c.tc : Thread nD τ).loc main_arg0)
/-- The keys. -/
abbrev ks (c : Dev nD) : FVec Ideal S16384x1024 .bf16 := m ((c.tc : Thread nD τ).loc main_arg1)
/-- The values. -/
abbrev vs (c : Dev nD) : FVec Ideal S16384x2048 .bf16 := m ((c.tc : Thread nD τ).loc main_arg2)
/-- The gates' logarithms. -/
abbrev gs (c : Dev nD) : FVec Ideal S16384x128 .f32 := m ((c.tc : Thread nD τ).loc main_arg3)
/-- The first matrix states. -/
abbrev Cs (c : Dev nD) : FVec Ideal S8x128x256 .f32 := m ((c.tc : Thread nD τ).loc main_arg4)
/-- The first normalisers. -/
abbrev ns (c : Dev nD) : FVec Ideal S8x1x128 .f32 := m ((c.tc : Thread nD τ).loc main_arg5)
/-- The first stabilisers. -/
abbrev us (c : Dev nD) : FVec Ideal S8x1x128 .f32 := m ((c.tc : Thread nD τ).loc main_arg6)
/-- The arguments are real. -/
abbrev Ok (c : Dev nD) : Prop := Finite front (qs m c) (ks m c) (vs m c) (gs m c) (Cs m c) (ns m c) (us m c)
/-- The scan of a head. -/
abbrev scan (c : Dev nD) (h : Fin 8) : Head 16384 := whole .sle front (qs m c) (ks m c) (vs m c) (gs m c) (Cs m c) (ns m c) (us m c) h

/-- A tile's token. -/
theorem tok (t : Fin cfg0.N) (r : Fin 256) : 256 * t.val + r.val < 16384 := by
  have := (idx t).2.2.2.2.2.2.2.2.2; omega

/-- A tile's queries. -/
theorem q_block (c : Dev nD) (t : Fin cfg0.N) (r : Fin 256) (d : Fin 1024) :
    (iblk m c 0 t : Vec Ideal S256x1024 .bf16) (ix2 r d) = qs m c (ix2 (row (256 * t.val + r.val)) d) := by
  rw [row_mk _ (tok t r)]
  blk_ext [iblk, V, idx t]

/-- A tile's keys. -/
theorem k_block (c : Dev nD) (t : Fin cfg0.N) (r : Fin 256) (d : Fin 1024) :
    (iblk m c 1 t : Vec Ideal S256x1024 .bf16) (ix2 r d) = ks m c (ix2 (row (256 * t.val + r.val)) d) := by
  rw [row_mk _ (tok t r)]
  blk_ext [iblk, V, idx t]

/-- A tile's values. -/
theorem v_block (c : Dev nD) (t : Fin cfg0.N) (r : Fin 256) (j : Fin 2048) :
    (iblk m c 2 t : Vec Ideal S256x2048 .bf16) (ix2 r j) = vs m c (ix2 (row (256 * t.val + r.val)) j) := by
  rw [row_mk _ (tok t r)]
  blk_ext [iblk, V, idx t]

/-- A tile's gates. -/
theorem g_block (c : Dev nD) (t : Fin cfg0.N) (r : Fin 256) (a : Fin 128) :
    (iblk m c 3 t : Vec Ideal S256x128 .f32) (ix2 r a) = gs m c (ix2 (row (256 * t.val + r.val)) a) := by
  rw [row_mk _ (tok t r)]
  blk_ext [iblk, V, idx t]

/-- A tile's transposed gates. -/
theorem w_block (c : Dev nD) (t : Fin cfg0.N) (a : Fin 128) (r : Fin 256) :
    (iblk m c 4 t : Vec Ideal S1x128x256 .f32) (ix3 0 a r) = gs m c (ix2 (row (256 * t.val + r.val)) a) := by
  rw [row_mk _ (tok t r)]
  have ht : t.val < 64 := (idx t).2.2.2.2.2.2.2.2.2
  refine Eq.trans (b := (V m c main_v1 : FVec Ideal S64x128x256 .f32) (ix3 ⟨t.val, ht⟩ a r)) ?_ (turned _ ⟨t.val, ht⟩ a r)
  blk_ext [iblk, idx t]

/-- The first matrix states, as the first tile reads them. -/
theorem C_block (c : Dev nD) (t : Fin cfg0.N) (h : Fin 8) (d : Fin 128) (j : Fin 256) :
    (iblk m c 5 t : Vec Ideal S8x128x256 .f32) (ix3 h d j) = Cs m c (ix3 h d j) := by
  blk_ext [iblk, V, idx t]

/-- The first normalisers, as the first tile reads them. -/
theorem n_block (c : Dev nD) (t : Fin cfg0.N) (h : Fin 8) (d : Fin 128) :
    (iblk m c 6 t : Vec Ideal S8x1x128 .f32) (ix3 h 0 d) = ns m c (ix3 h 0 d) := by
  blk_ext [iblk, V, idx t]

/-- The first stabilisers, as the first tile reads them. -/
theorem u_block (c : Dev nD) (t : Fin cfg0.N) (h : Fin 8) (d : Fin 128) :
    (iblk m c 7 t : Vec Ideal S8x1x128 .f32) (ix3 h 0 d) = us m c (ix3 h 0 d) := by
  blk_ext [iblk, V, idx t]

/-- A later tile is not the first. -/
theorem later (n : ℕ) (hn : n + 1 < cfg0.N) : ¬ (n + 1) % 64 = 0 := by
  have := (idx ⟨n + 1, hn⟩).2.2.2.2.2.2.2.2.2; simp only at this; omega

/-- The tiles of a head are its scan in chunks. -/
theorem chunks (c : Dev nD) (h : Fin 8) : Chunks (scan m c h) fun t : Fin cfg0.N => heads m c t h where
  dir _ := rfl
  q t r d := (q_block m c t r _).trans (congrArg (fun j => qs m c (ix2 _ j)) (Fin.ext (congrArg (· + d.val) (Nat.mul_comm _ _))))
  k t r d := (k_block m c t r _).trans (congrArg (fun j => ks m c (ix2 _ j)) (Fin.ext (congrArg (· + d.val) (Nat.mul_comm _ _))))
  v t r j := (v_block m c t r _).trans (congrArg (fun j => vs m c (ix2 _ j)) (Fin.ext (congrArg (· + j.val) (Nat.mul_comm _ _))))
  f t r := w_block m c t _ r
  i t r := w_block m c t _ r
  fc t r := g_block m c t r _
  ic t r := g_block m c t r _
  firstC h0 d j := by
    show inC m c ⟨0, h0⟩ (ix3 h d j) = _
    rw [inC, if_pos (show (⟨0, h0⟩ : Fin cfg0.N).val % 64 = 0 from rfl)]
    exact C_block m c _ h d j
  firstN h0 d := by
    show inN m c ⟨0, h0⟩ (ix3 h 0 d) = _
    rw [inN, if_pos (show (⟨0, h0⟩ : Fin cfg0.N).val % 64 = 0 from rfl)]
    exact n_block m c _ h d
  firstU h0 := by
    show inU m c ⟨0, h0⟩ (ix3 h 0 0) = _
    rw [inU, if_pos (show (⟨0, h0⟩ : Fin cfg0.N).val % 64 = 0 from rfl)]
    exact u_block m c _ h 0
  nextC n hn d j := (congrFun (if_neg (later n hn)) (ix3 h d j)).trans (congrFun (tile_C m c ⟨n, Nat.lt_of_succ_lt hn⟩) (ix3 h d j))
  nextN n hn d := (congrFun (if_neg (later n hn)) (ix3 h 0 d)).trans (congrFun (tile_n m c ⟨n, Nat.lt_of_succ_lt hn⟩) (ix3 h 0 d))
  nextU n hn := (congrFun (if_neg (later n hn)) (ix3 h 0 0)).trans (congrFun (tile_u m c ⟨n, Nat.lt_of_succ_lt hn⟩) (ix3 h 0 0))

/-- The kernel's results are the whole scan's. -/
theorem final (c : Dev nD) (ok : Ok m c) : ((dats m 0 c).arrAt 8 cfg0.N : FVec Ideal S16384x2048 .f32)
    = fun y => (scan m c ⟨(y 1).val / 256, by have := (y 1).isLt; change (y 1).val < 2048 at this; omega⟩).out (y 0) ⟨(y 1).val % 256, by omega⟩ := by
  refine (dats m 0 c).arrAt_eq_of_covers 8 _ (by decide +kernel) fun t hf y => ?_
  have w0 : win0_8.index t 0 = t.val := (idx t).2.2.2.2.2.2.2.2.1 ▸ rfl
  have w1 : win0_8.index t 1 = 0 := (idx t).2.2.2.2.2.2.2.2.1 ▸ rfl
  have y1 : (y 1).val < 2048 := (y 1).isLt
  blk_simp
  rw [after0_8, tile_h]
  refine ((chunks m c ⟨(y 1).val / 256, by omega⟩).out (ok.sound _) t (y 0) ⟨(y 1).val % 256, by omega⟩ ⟨256 * t.val + (y 0).val, tok t _⟩ rfl).trans ?_
  refine congr (congr (congrArg (fun h => (scan m c h).out) (Fin.ext ?_)) (Fin.ext ?_)) (Fin.ext ?_)
  · show (y 1).val / 256 = (win0_8.index t 1 * 2048 + (y 1).val) / 256; omega
  · show 256 * t.val + (y 0).val = win0_8.index t 0 * 256 + 1 * (y 0).val; omega
  · show (y 1).val % 256 = (win0_8.index t 1 * 2048 + (y 1).val) % 256; omega

end Cert.Kernel10Ideal.Value
end
-- ==== Proof.ScanRef.lean ====
module

public import proofs.«01_k».proof.Proof.Gen.Reference10Ideal.Run
public import proofs.«01_k».proof.Proof.ScanRun
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Reference10Ideal.Value

open Cert.Reference10Ideal Cert.Reference10Ideal.Gen

/-- The reference's running sums. -/
theorem run_sum (g : FVec Ideal S16384x128 .f32) :
    Host.reduceWindowAdd ![16384, 1] ![1, 1] ![16383, 0] ![0, 0] (extractStridedSlice S16384x8 ![0, 8] g slices_S16384x128_S16384x8_0_8)
        (broadcastInDim S_ ![] bcast_S_S_ (constant S_ .f32 0#32)) reduceWindows_S16384x8_S16384x8_w16384s1p16383_0_w1s1p0_0 h_S_
      = fun y : S16384x8.Idx => Cert.Scan.upto .sle (fun s : Fin 16384 => g (ix2 s ⟨8 + (y 1).val, Nat.add_lt_add_left (lt_trans (y 1).isLt (by decide : 8 < 120)) 8⟩)) (y 0) := by
  funext y
  obtain ⟨r, h, rfl⟩ : ∃ (r : Fin 16384) (h : Fin 8), y = ix2 r h := ⟨y 0, y 1, (ix2_eta y).symm⟩
  refine (Cert.Scan.running (by norm_num) _ _ _ _ ?_ r h).trans ?_
  · show Ideal.ofBits .f32 0#32 = 0
    simp [Ideal.ofBits, Ideal.ieee]
  · unfold Cert.Scan.upto
    refine Finset.sum_congr rfl fun s _ => ?_
    refine Eq.trans ?_ (Cert.Scan.select_sees (T := 16384) (by norm_num) s r _ _).symm
    pointwise

set_option maxHeartbeats 4000000 in
/-- The reference's result, head by head. -/
theorem result (m : (ℓ : Loc nD τ sig) → Buf (Elt Ideal) ℓ) (c : Dev nD) (r : Fin 16384) (j : Fin 2048) :
    (res_main_v63 m c : Vec Ideal S16384x2048 .f32) (ix2 r j)
      = (Cert.Scan.whole .sle Cert.Scan.front (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) ⟨j.val / 256, by omega⟩).out r
          ⟨j.val % 256, by omega⟩ := by
  unfold res_main_v63
  generalize m ((c.tc : Thread nD τ).loc main_arg0) = q
  generalize m ((c.tc : Thread nD τ).loc main_arg1) = k
  generalize m ((c.tc : Thread nD τ).loc main_arg2) = v
  generalize m ((c.tc : Thread nD τ).loc main_arg3) = g
  generalize m ((c.tc : Thread nD τ).loc main_arg4) = C
  generalize m ((c.tc : Thread nD τ).loc main_arg5) = n
  generalize m ((c.tc : Thread nD τ).loc main_arg6) = u
  rw [run_sum]
  pointwise
  refine (Cert.Scan.Head.out_comm (Cert.Scan.whole .sle Cert.Scan.front q k v g C n u ⟨j.val / 256, by omega⟩) r ⟨j.val % 256, by omega⟩
    (fun x => v (ix2 x j)) fun x => congrArg v (congrArg (ix2 x) (Fin.ext ?_))).symm
  show j.val = j.val / 256 * 256 + j.val % 256
  omega

end Cert.Reference10Ideal.Value
end
-- ==== Proof.ScanPre.lean ====
module

public import proofs.«01_k».proof.Proof.Real
public import proofs.«01_k».proof.Proof.ScanWhole

@[expose] public section

set_option maxRecDepth 16384

noncomputable section

open Idealize.ShloMosaic

namespace Cert.Pre_scan_finite

/-- The witness of the precondition's side conditions. -/
theorem facts : Facts :=
  ⟨by decide, by decide, by decide, by decide, by decide, by decide, by decide, by decide, by decide, by decide, by decide, by decide, by decide⟩

attribute [local instance] facts

/-- The precondition says that all the scan reads is real. -/
theorem reals (q k : FVec Ideal S16384x1024 .bf16) (v : FVec Ideal S16384x2048 .bf16) (g : FVec Ideal S16384x128 .f32)
    (C : FVec Ideal S8x128x256 .f32) (n u : FVec Ideal S8x1x128 .f32)
    (hp : fn (F := Ideal) q k v g C n u = fun _ => 1#1) : Cert.Scan.Finite Cert.Scan.front q k v g C n u := by
  have e : fn (F := Ideal) q k v g C n u ix0 = 1#1 := congrFun hp ix0
  unfold fn fn_part1 fn_part2 at e
  dsimp only at e
  have eu := IntOp.andi_eq_one.1 e
  have en := IntOp.andi_eq_one.1 eu.1
  have eC := IntOp.andi_eq_one.1 en.1
  have eg := IntOp.andi_eq_one.1 eC.1
  have ev := IntOp.andi_eq_one.1 eg.1
  have ek := IntOp.andi_eq_one.1 ev.1
  refine ⟨fun i j => ?_, fun i j => ?_, fun i j => ?_, fun i j => ?_, fun h d j => ?_, fun h a d => ?_, fun h a d => ?_⟩
  · exact Cert.Pre_scores_finite.real_of_cmp _ (Host.reduce_andi_all _ _ _ _ _ ek.1 (ix2 i j))
  · exact Cert.Pre_scores_finite.real_of_cmp _ (Host.reduce_andi_all _ _ _ _ _ ek.2 (ix2 i j))
  · exact Cert.Pre_scores_finite.real_of_cmp _ (Host.reduce_andi_all _ _ _ _ _ ev.2 (ix2 i j))
  · have := Cert.Pre_scores_finite.real_of_cmp _ (Host.reduce_andi_all _ _ _ _ _ eg.2 (ix2 i j))
    pointwise at this
    exact this
  · exact Cert.Pre_scores_finite.real_of_cmp _ (Host.reduce_andi_all _ _ _ _ _ eC.2 (ix3 h d j))
  · exact Cert.Pre_scores_finite.real_of_cmp _ (Host.reduce_andi_all _ _ _ _ _ en.2 (ix3 h a d))
  · exact Cert.Pre_scores_finite.real_of_cmp _ (Host.reduce_andi_all _ _ _ _ _ eu.2 (ix3 h a d))

end Cert.Pre_scan_finite
end
-- ==== Proof.ScanTileBack.lean ====
module

public import proofs.«01_k».proof.Proof.ScanParts
public import proofs.«01_k».proof.Proof.ScanRun
public import proofs.«01_k».proof.Proof.Gen.Kernel11Ideal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen Cert.Scan

variable (m : (ℓ : Loc nD τ sig) → Buf (Elt Ideal) ℓ)

/-- The matrix states a tile enters with. -/
def inC (c : Dev nD) (t : Fin cfg0.N) : Vec Ideal S8x128x256 .f32 :=
  if t.val % 64 = 0 then iblk m c 5 t else (outsAt0 m c (t.val - 1) (by omega)).2.1

/-- The normalisers a tile enters with. -/
def inN (c : Dev nD) (t : Fin cfg0.N) : Vec Ideal S8x1x128 .f32 :=
  if t.val % 64 = 0 then iblk m c 6 t else (outsAt0 m c (t.val - 1) (by omega)).2.2.1

/-- The stabilisers a tile enters with. -/
def inU (c : Dev nD) (t : Fin cfg0.N) : Vec Ideal S8x1x128 .f32 :=
  if t.val % 64 = 0 then iblk m c 7 t else (outsAt0 m c (t.val - 1) (by omega)).2.2.2

/-- The heads of tile `t`. -/
def heads (c : Dev nD) (t : Fin cfg0.N) : Fin 8 → Head 256 :=
  head .sge back (iblk m c 0 t) (iblk m c 1 t) (iblk m c 2 t) (iblk m c 3 t) (iblk m c 4 t) (inC m c t) (inN m c t) (inU m c t)

set_option maxHeartbeats 4000000 in
/-- What a tile writes of the results. -/
theorem tile_h (c : Dev nD) (t : Fin cfg0.N) : (outsAt0 m c t.val t.isLt).1 = outs (heads m c t) := by
  funext y
  refine Classical.byCases (p := t.val % 64 = 0) (fun h0 => ?_) (fun h0 => ?_)
  rw [outsAt0_A m c t h0]
  dsimp only
  frame_open
  simp (disch := decide) only [↓ View.readCov_skip, ↓ View.readCov_cons_toLoadRect, ↓ View.readCov_fill]
  frame_out
  refine View.canon_append_of_piecesOf _ [] [_, _, _, _, _, _, _, _] ⟨
      outs_piece (heads m c t) 7 _ (by decide) (by rfl) _ ?_, outs_piece (heads m c t) 6 _ (by decide) (by rfl) _ ?_,
      outs_piece (heads m c t) 5 _ (by decide) (by rfl) _ ?_, outs_piece (heads m c t) 4 _ (by decide) (by rfl) _ ?_,
      outs_piece (heads m c t) 3 _ (by decide) (by rfl) _ ?_, outs_piece (heads m c t) 2 _ (by decide) (by rfl) _ ?_,
      outs_piece (heads m c t) 1 _ (by decide) (by rfl) _ ?_, outs_piece (heads m c t) 0 _ (by decide) (by rfl) _ ?_,
      trivial⟩ y (View.cover_of_tiled _ ![256, 256] rfl y)
  rotate_left 8
  rw [outsAt0_B m c t h0]
  dsimp only
  frame_out
  refine View.canon_append_of_piecesOf _ [] [_, _, _, _, _, _, _, _] ⟨
      outs_piece (heads m c t) 7 _ (by decide) (by rfl) _ ?_, outs_piece (heads m c t) 6 _ (by decide) (by rfl) _ ?_,
      outs_piece (heads m c t) 5 _ (by decide) (by rfl) _ ?_, outs_piece (heads m c t) 4 _ (by decide) (by rfl) _ ?_,
      outs_piece (heads m c t) 3 _ (by decide) (by rfl) _ ?_, outs_piece (heads m c t) 2 _ (by decide) (by rfl) _ ?_,
      outs_piece (heads m c t) 1 _ (by decide) (by rfl) _ ?_, outs_piece (heads m c t) 0 _ (by decide) (by rfl) _ ?_,
      trivial⟩ y (View.cover_of_tiled _ ![256, 256] rfl y)
  all_goals (
    intro r j
    unfold heads inC inN inU
    simp only [h0, if_true, if_false]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179]
    try rw [head_zero]
    rfl)

set_option maxHeartbeats 4000000 in
/-- What a tile writes of the matrix states. -/
theorem tile_C (c : Dev nD) (t : Fin cfg0.N) : (outsAt0 m c t.val t.isLt).2.1 = mats (heads m c t) := by
  funext y
  refine Classical.byCases (p := t.val % 64 = 0) (fun h0 => ?_) (fun h0 => ?_)
  rw [outsAt0_A m c t h0]
  dsimp only
  frame_open
  simp (disch := decide) only [↓ View.readCov_skip, ↓ View.readCov_cons_toLoadRect, ↓ View.readCov_fill]
  frame_out
  refine View.canon_append_of_piecesOf _ [_] [_, _, _, _, _, _, _, _] ⟨
      mats_piece (heads m c t) 7 _ (by decide) (by rfl) _ ?_, mats_piece (heads m c t) 6 _ (by decide) (by rfl) _ ?_,
      mats_piece (heads m c t) 5 _ (by decide) (by rfl) _ ?_, mats_piece (heads m c t) 4 _ (by decide) (by rfl) _ ?_,
      mats_piece (heads m c t) 3 _ (by decide) (by rfl) _ ?_, mats_piece (heads m c t) 2 _ (by decide) (by rfl) _ ?_,
      mats_piece (heads m c t) 1 _ (by decide) (by rfl) _ ?_, mats_piece (heads m c t) 0 _ (by decide) (by rfl) _ ?_,
      trivial⟩ y (View.cover_of_tiled _ ![1, 128, 256] rfl y)
  rotate_left 8
  rw [outsAt0_B m c t h0]
  dsimp only
  frame_out
  refine View.canon_append_of_piecesOf _ [] [_, _, _, _, _, _, _, _] ⟨
      mats_piece (heads m c t) 7 _ (by decide) (by rfl) _ ?_, mats_piece (heads m c t) 6 _ (by decide) (by rfl) _ ?_,
      mats_piece (heads m c t) 5 _ (by decide) (by rfl) _ ?_, mats_piece (heads m c t) 4 _ (by decide) (by rfl) _ ?_,
      mats_piece (heads m c t) 3 _ (by decide) (by rfl) _ ?_, mats_piece (heads m c t) 2 _ (by decide) (by rfl) _ ?_,
      mats_piece (heads m c t) 1 _ (by decide) (by rfl) _ ?_, mats_piece (heads m c t) 0 _ (by decide) (by rfl) _ ?_,
      trivial⟩ y (View.cover_of_tiled _ ![1, 128, 256] rfl y)
  all_goals (
    intro d j
    unfold heads inC inN inU
    simp only [h0, if_true, if_false]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179]
    try rw [head_zero]
    rfl)

set_option maxHeartbeats 4000000 in
/-- What a tile writes of the normalisers. -/
theorem tile_n (c : Dev nD) (t : Fin cfg0.N) : (outsAt0 m c t.val t.isLt).2.2.1 = lanes fun h => (heads m c t h).nextN := by
  funext y
  refine Classical.byCases (p := t.val % 64 = 0) (fun h0 => ?_) (fun h0 => ?_)
  rw [outsAt0_A m c t h0]
  dsimp only
  frame_open
  simp (disch := decide) only [↓ View.readCov_skip, ↓ View.readCov_cons_toLoadRect, ↓ View.readCov_fill]
  frame_out
  refine View.canon_append_of_piecesOf _ [_] [_, _, _, _, _, _, _, _] ⟨
      lanes_piece (fun h => (heads m c t h).nextN) 7 _ (by decide) (by rfl) _ ?_, lanes_piece (fun h => (heads m c t h).nextN) 6 _ (by decide) (by rfl) _ ?_,
      lanes_piece (fun h => (heads m c t h).nextN) 5 _ (by decide) (by rfl) _ ?_, lanes_piece (fun h => (heads m c t h).nextN) 4 _ (by decide) (by rfl) _ ?_,
      lanes_piece (fun h => (heads m c t h).nextN) 3 _ (by decide) (by rfl) _ ?_, lanes_piece (fun h => (heads m c t h).nextN) 2 _ (by decide) (by rfl) _ ?_,
      lanes_piece (fun h => (heads m c t h).nextN) 1 _ (by decide) (by rfl) _ ?_, lanes_piece (fun h => (heads m c t h).nextN) 0 _ (by decide) (by rfl) _ ?_,
      trivial⟩ y (View.cover_of_tiled _ ![1, 1, 128] rfl y)
  rotate_left 8
  rw [outsAt0_B m c t h0]
  dsimp only
  frame_out
  refine View.canon_append_of_piecesOf _ [] [_, _, _, _, _, _, _, _] ⟨
      lanes_piece (fun h => (heads m c t h).nextN) 7 _ (by decide) (by rfl) _ ?_, lanes_piece (fun h => (heads m c t h).nextN) 6 _ (by decide) (by rfl) _ ?_,
      lanes_piece (fun h => (heads m c t h).nextN) 5 _ (by decide) (by rfl) _ ?_, lanes_piece (fun h => (heads m c t h).nextN) 4 _ (by decide) (by rfl) _ ?_,
      lanes_piece (fun h => (heads m c t h).nextN) 3 _ (by decide) (by rfl) _ ?_, lanes_piece (fun h => (heads m c t h).nextN) 2 _ (by decide) (by rfl) _ ?_,
      lanes_piece (fun h => (heads m c t h).nextN) 1 _ (by decide) (by rfl) _ ?_, lanes_piece (fun h => (heads m c t h).nextN) 0 _ (by decide) (by rfl) _ ?_,
      trivial⟩ y (View.cover_of_tiled _ ![1, 1, 128] rfl y)
  all_goals (
    intro d
    unfold heads inC inN inU
    simp only [h0, if_true, if_false]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179]
    try rw [head_zero]
    rfl)

set_option maxHeartbeats 4000000 in
/-- What a tile writes of the stabilisers. -/
theorem tile_u (c : Dev nD) (t : Fin cfg0.N) : (outsAt0 m c t.val t.isLt).2.2.2 = lanes fun h _ => (heads m c t h).nextU := by
  funext y
  refine Classical.byCases (p := t.val % 64 = 0) (fun h0 => ?_) (fun h0 => ?_)
  rw [outsAt0_A m c t h0]
  dsimp only
  frame_open
  simp (disch := decide) only [↓ View.readCov_skip, ↓ View.readCov_cons_toLoadRect, ↓ View.readCov_fill]
  frame_out
  refine View.canon_append_of_piecesOf _ [_] [_, _, _, _, _, _, _, _] ⟨
      lanes_piece (fun h _ => (heads m c t h).nextU) 7 _ (by decide) (by rfl) _ ?_, lanes_piece (fun h _ => (heads m c t h).nextU) 6 _ (by decide) (by rfl) _ ?_,
      lanes_piece (fun h _ => (heads m c t h).nextU) 5 _ (by decide) (by rfl) _ ?_, lanes_piece (fun h _ => (heads m c t h).nextU) 4 _ (by decide) (by rfl) _ ?_,
      lanes_piece (fun h _ => (heads m c t h).nextU) 3 _ (by decide) (by rfl) _ ?_, lanes_piece (fun h _ => (heads m c t h).nextU) 2 _ (by decide) (by rfl) _ ?_,
      lanes_piece (fun h _ => (heads m c t h).nextU) 1 _ (by decide) (by rfl) _ ?_, lanes_piece (fun h _ => (heads m c t h).nextU) 0 _ (by decide) (by rfl) _ ?_,
      trivial⟩ y (View.cover_of_tiled _ ![1, 1, 128] rfl y)
  rotate_left 8
  rw [outsAt0_B m c t h0]
  dsimp only
  frame_out
  refine View.canon_append_of_piecesOf _ [] [_, _, _, _, _, _, _, _] ⟨
      lanes_piece (fun h _ => (heads m c t h).nextU) 7 _ (by decide) (by rfl) _ ?_, lanes_piece (fun h _ => (heads m c t h).nextU) 6 _ (by decide) (by rfl) _ ?_,
      lanes_piece (fun h _ => (heads m c t h).nextU) 5 _ (by decide) (by rfl) _ ?_, lanes_piece (fun h _ => (heads m c t h).nextU) 4 _ (by decide) (by rfl) _ ?_,
      lanes_piece (fun h _ => (heads m c t h).nextU) 3 _ (by decide) (by rfl) _ ?_, lanes_piece (fun h _ => (heads m c t h).nextU) 2 _ (by decide) (by rfl) _ ?_,
      lanes_piece (fun h _ => (heads m c t h).nextU) 1 _ (by decide) (by rfl) _ ?_, lanes_piece (fun h _ => (heads m c t h).nextU) 0 _ (by decide) (by rfl) _ ?_,
      trivial⟩ y (View.cover_of_tiled _ ![1, 1, 128] rfl y)
  all_goals (
    intro d
    unfold heads inC inN inU
    simp only [h0, if_true, if_false]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179]
    try rw [head_zero]
    rfl)

end Cert.Kernel11Ideal.Value

end
-- ==== Proof.ScanKernelBack.lean ====
module

public import proofs.«01_k».proof.Proof.ScanTileBack
public import proofs.«01_k».proof.Proof.ScanWhole
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen Cert.Scan

/-- The transposed gates the kernel is called with. -/
theorem turned (V : Valuation τ sig (Elt Ideal)) (t : Fin 64) (a : Fin 128) (s : Fin 256) :
    (StableHlo.after (hostOps0 (F := Ideal)) V main_v1 : FVec Ideal S64x128x256 .f32) (ix3 t a s)
      = (V main_arg3 : FVec Ideal S16384x128 .f32) (ix2 ⟨256 * t.val + s.val, by omega⟩ a) := by
  after_reads_at
  exact congrArg (fun i => (V main_arg3 : FVec Ideal S16384x128 .f32) (ix2 i a)) (Fin.ext (congrArg (· + s.val) (Nat.mul_comm _ _)))

variable (m : (ℓ : Loc nD τ sig) → Buf (Elt Ideal) ℓ)

/-- The block of each window at each grid point. -/
theorem idx : ∀ t : Fin cfg0.N, win0_0.index t = ![63 - t.val, 0] ∧ win0_1.index t = ![63 - t.val, 0] ∧ win0_2.index t = ![63 - t.val, 0]
    ∧ win0_3.index t = ![63 - t.val, 0] ∧ win0_4.index t = ![63 - t.val, 0, 0] ∧ win0_5.index t = ![0, 0, 0] ∧ win0_6.index t = ![0, 0, 0]
    ∧ win0_7.index t = ![0, 0, 0] ∧ win0_8.index t = ![63 - t.val, 0] ∧ t.val < 64 :=
  (by decide +kernel : ∀ t : Fin grid0.N, _)

/-- The queries. -/
abbrev qs (c : Dev nD) : FVec Ideal S16384x1024 .bf16 := m ((c.tc : Thread nD τ).loc main_arg0)
/-- The keys. -/
abbrev ks (c : Dev nD) : FVec Ideal S16384x1024 .bf16 := m ((c.tc : Thread nD τ).loc main_arg1)
/-- The values. -/
abbrev vs (c : Dev nD) : FVec Ideal S16384x2048 .bf16 := m ((c.tc : Thread nD τ).loc main_arg2)
/-- The gates' logarithms. -/
abbrev gs (c : Dev nD) : FVec Ideal S16384x128 .f32 := m ((c.tc : Thread nD τ).loc main_arg3)
/-- The first matrix states. -/
abbrev Cs (c : Dev nD) : FVec Ideal S8x128x256 .f32 := m ((c.tc : Thread nD τ).loc main_arg4)
/-- The first normalisers. -/
abbrev ns (c : Dev nD) : FVec Ideal S8x1x128 .f32 := m ((c.tc : Thread nD τ).loc main_arg5)
/-- The first stabilisers. -/
abbrev us (c : Dev nD) : FVec Ideal S8x1x128 .f32 := m ((c.tc : Thread nD τ).loc main_arg6)
/-- The arguments are real. -/
abbrev Ok (c : Dev nD) : Prop := Finite back (qs m c) (ks m c) (vs m c) (gs m c) (Cs m c) (ns m c) (us m c)
/-- The scan of a head. -/
abbrev scan (c : Dev nD) (h : Fin 8) : Head 16384 := whole .sge back (qs m c) (ks m c) (vs m c) (gs m c) (Cs m c) (ns m c) (us m c) h

/-- The row of a tile's token. -/
def place (t : Fin cfg0.N) (r : Fin 256) : Fin 16384 := ⟨256 * (63 - t.val) + r.val, by omega⟩

/-- In reverse order the tiles follow each other. -/
theorem place_rev (t : Fin cfg0.N) (r : Fin 256) : place t r.rev = (row (256 * t.val + r.val)).rev := by
  have ht := (idx t).2.2.2.2.2.2.2.2.2
  have hr := r.isLt
  rw [row_mk _ (by omega)]
  refine Fin.ext ?_
  show 256 * (63 - t.val) + r.rev.val = _
  rw [Fin.val_rev, Fin.val_rev]
  show _ = 16384 - (256 * t.val + r.val + 1)
  omega

/-- A tile's queries. -/
theorem q_block (c : Dev nD) (t : Fin cfg0.N) (r : Fin 256) (d : Fin 1024) :
    (iblk m c 0 t : Vec Ideal S256x1024 .bf16) (ix2 r d) = qs m c (ix2 (place t r) d) := by
  unfold place
  blk_ext [iblk, V, idx t]

/-- A tile's keys. -/
theorem k_block (c : Dev nD) (t : Fin cfg0.N) (r : Fin 256) (d : Fin 1024) :
    (iblk m c 1 t : Vec Ideal S256x1024 .bf16) (ix2 r d) = ks m c (ix2 (place t r) d) := by
  unfold place
  blk_ext [iblk, V, idx t]

/-- A tile's values. -/
theorem v_block (c : Dev nD) (t : Fin cfg0.N) (r : Fin 256) (j : Fin 2048) :
    (iblk m c 2 t : Vec Ideal S256x2048 .bf16) (ix2 r j) = vs m c (ix2 (place t r) j) := by
  unfold place
  blk_ext [iblk, V, idx t]

/-- A tile's gates. -/
theorem g_block (c : Dev nD) (t : Fin cfg0.N) (r : Fin 256) (a : Fin 128) :
    (iblk m c 3 t : Vec Ideal S256x128 .f32) (ix2 r a) = gs m c (ix2 (place t r) a) := by
  unfold place
  blk_ext [iblk, V, idx t]

/-- A tile's transposed gates. -/
theorem w_block (c : Dev nD) (t : Fin cfg0.N) (a : Fin 128) (r : Fin 256) :
    (iblk m c 4 t : Vec Ideal S1x128x256 .f32) (ix3 0 a r) = gs m c (ix2 (place t r) a) := by
  refine Eq.trans (b := (V m c main_v1 : FVec Ideal S64x128x256 .f32) (ix3 ⟨63 - t.val, by omega⟩ a r)) ?_ (turned _ ⟨63 - t.val, by omega⟩ a r)
  blk_ext [iblk, idx t]

/-- The first matrix states, as the first tile reads them. -/
theorem C_block (c : Dev nD) (t : Fin cfg0.N) (h : Fin 8) (d : Fin 128) (j : Fin 256) :
    (iblk m c 5 t : Vec Ideal S8x128x256 .f32) (ix3 h d j) = Cs m c (ix3 h d j) := by
  blk_ext [iblk, V, idx t]

/-- The first normalisers, as the first tile reads them. -/
theorem n_block (c : Dev nD) (t : Fin cfg0.N) (h : Fin 8) (d : Fin 128) :
    (iblk m c 6 t : Vec Ideal S8x1x128 .f32) (ix3 h 0 d) = ns m c (ix3 h 0 d) := by
  blk_ext [iblk, V, idx t]

/-- The first stabilisers, as the first tile reads them. -/
theorem u_block (c : Dev nD) (t : Fin cfg0.N) (h : Fin 8) (d : Fin 128) :
    (iblk m c 7 t : Vec Ideal S8x1x128 .f32) (ix3 h 0 d) = us m c (ix3 h 0 d) := by
  blk_ext [iblk, V, idx t]

/-- A later tile is not the first. -/
theorem later (n : ℕ) (hn : n + 1 < cfg0.N) : ¬ (n + 1) % 64 = 0 := by
  have := (idx ⟨n + 1, hn⟩).2.2.2.2.2.2.2.2.2; simp only at this; omega

/-- The tiles of a head, each in reverse order, are its scan in reverse order, in chunks. -/
theorem chunks (c : Dev nD) (h : Fin 8) : Chunks (scan m c h).flip fun t : Fin cfg0.N => (heads m c t h).flip where
  dir _ := rfl
  q t r d := (q_block m c t r.rev _).trans (congrArg₂ (fun i j => qs m c (ix2 i j)) (place_rev t r) (Fin.ext (congrArg (· + d.val) (Nat.mul_comm _ _))))
  k t r d := (k_block m c t r.rev _).trans (congrArg₂ (fun i j => ks m c (ix2 i j)) (place_rev t r) (Fin.ext (congrArg (· + d.val) (Nat.mul_comm _ _))))
  v t r j := (v_block m c t r.rev _).trans (congrArg₂ (fun i j => vs m c (ix2 i j)) (place_rev t r) (Fin.ext (congrArg (· + j.val) (Nat.mul_comm _ _))))
  f t r := (w_block m c t _ r.rev).trans (congrArg (fun i => gs m c (ix2 i _)) (place_rev t r))
  i t r := (w_block m c t _ r.rev).trans (congrArg (fun i => gs m c (ix2 i _)) (place_rev t r))
  fc t r := (g_block m c t r.rev _).trans (congrArg (fun i => gs m c (ix2 i _)) (place_rev t r))
  ic t r := (g_block m c t r.rev _).trans (congrArg (fun i => gs m c (ix2 i _)) (place_rev t r))
  firstC h0 d j := by
    show inC m c ⟨0, h0⟩ (ix3 h d j) = _
    rw [inC, if_pos (show (⟨0, h0⟩ : Fin cfg0.N).val % 64 = 0 from rfl)]
    exact C_block m c _ h d j
  firstN h0 d := by
    show inN m c ⟨0, h0⟩ (ix3 h 0 d) = _
    rw [inN, if_pos (show (⟨0, h0⟩ : Fin cfg0.N).val % 64 = 0 from rfl)]
    exact n_block m c _ h d
  firstU h0 := by
    show inU m c ⟨0, h0⟩ (ix3 h 0 0) = _
    rw [inU, if_pos (show (⟨0, h0⟩ : Fin cfg0.N).val % 64 = 0 from rfl)]
    exact u_block m c _ h 0
  nextC n hn d j := (congrFun (if_neg (later n hn)) (ix3 h d j)).trans ((congrFun (tile_C m c ⟨n, Nat.lt_of_succ_lt hn⟩) (ix3 h d j)).trans
    (Head.nextC_flip (by norm_num) rfl d j))
  nextN n hn d := (congrFun (if_neg (later n hn)) (ix3 h 0 d)).trans ((congrFun (tile_n m c ⟨n, Nat.lt_of_succ_lt hn⟩) (ix3 h 0 d)).trans
    (Head.nextN_flip (by norm_num) rfl d))
  nextU n hn := (congrFun (if_neg (later n hn)) (ix3 h 0 0)).trans ((congrFun (tile_u m c ⟨n, Nat.lt_of_succ_lt hn⟩) (ix3 h 0 0)).trans
    (Head.nextU_flip (by norm_num) rfl))

/-- The kernel's results are the whole scan's in reverse order. -/
theorem final (c : Dev nD) (ok : Ok m c) : ((dats m 0 c).arrAt 8 cfg0.N : FVec Ideal S16384x2048 .f32)
    = fun y => (scan m c ⟨(y 1).val / 256, by have := (y 1).isLt; change (y 1).val < 2048 at this; omega⟩).flip.out (y 0 : Fin 16384).rev
      ⟨(y 1).val % 256, by omega⟩ := by
  refine (dats m 0 c).arrAt_eq_of_covers 8 _ (by decide +kernel) fun t hf y => ?_
  have w0 : win0_8.index t 0 = 63 - t.val := (idx t).2.2.2.2.2.2.2.2.1 ▸ rfl
  have w1 : win0_8.index t 1 = 0 := (idx t).2.2.2.2.2.2.2.2.1 ▸ rfl
  have ht : t.val < 64 := (idx t).2.2.2.2.2.2.2.2.2
  have y1 : (y 1).val < 2048 := (y 1).isLt
  have y0 : (y 0).val < 256 := (y 0).isLt
  blk_simp
  rw [after0_8, tile_h]
  refine (Head.out_flip (H := heads m c t ⟨(y 1).val / 256, by omega⟩) (by norm_num) rfl (y 0) ⟨(y 1).val % 256, by omega⟩).trans ?_
  refine ((chunks m c ⟨(y 1).val / 256, by omega⟩).out (ok.sound_flip _) t (y 0 : Fin 256).rev ⟨(y 1).val % 256, by omega⟩
    (place t (y 0)).rev ?_).trans ?_
  · rw [Fin.val_rev, Fin.val_rev]
    show 16384 - (256 * (63 - t.val) + (y 0).val + 1) = 256 * t.val + (256 - ((y 0).val + 1))
    omega
  refine congr (congr (congrArg (fun h => (scan m c h).flip.out) (Fin.ext ?_)) (congrArg Fin.rev (Fin.ext ?_))) (Fin.ext ?_)
  · show (y 1).val / 256 = (win0_8.index t 1 * 2048 + (y 1).val) / 256; omega
  · show 256 * (63 - t.val) + (y 0).val = win0_8.index t 0 * 256 + 1 * (y 0).val; omega
  · show (y 1).val % 256 = (win0_8.index t 1 * 2048 + (y 1).val) % 256; omega

end Cert.Kernel11Ideal.Value
end
-- ==== Proof.ScanRefBack.lean ====
module

public import proofs.«01_k».proof.Proof.Gen.Reference11Ideal.Run
public import proofs.«01_k».proof.Proof.ScanRun
public import proofs.«01_k».proof.Proof.ScanFlip
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Reference11Ideal.Value

open Cert.Reference11Ideal Cert.Reference11Ideal.Gen

/-- The rows in reverse order. -/
theorem reverse_rows {α : Type} {N M : ℕ} (x : (⟨2, ![N, M]⟩ : Shape).Idx → α) :
    Host.reverse [0] x = fun y : (⟨2, ![N, M]⟩ : Shape).Idx => x (ix2 (y 0 : Fin N).rev (y 1)) := by
  funext y
  obtain ⟨r, h, rfl⟩ : ∃ (r : Fin N) (h : Fin M), y = ix2 r h := ⟨y 0, y 1, (ix2_eta y).symm⟩
  rw [Host.reverse_apply]
  refine congrArg x (funext fun a => ?_)
  revert a
  exact Fin.forall_fin_two.2 ⟨rfl, rfl⟩

/-- The reference's running sums. -/
theorem run_sum (g : FVec Ideal S16384x128 .f32) :
    Host.reduceWindowAdd ![16384, 1] ![1, 1] ![16383, 0] ![0, 0] (extractStridedSlice S16384x8 ![0, 8]
        (Host.reverse [0] (extractStridedSlice S16384x16 ![0, 16] g slices_S16384x128_S16384x16_0_16)) slices_S16384x16_S16384x8_0_8)
        (broadcastInDim S_ ![] bcast_S_S_ (constant S_ .f32 0#32)) reduceWindows_S16384x8_S16384x8_w16384s1p16383_0_w1s1p0_0 h_S_
      = fun y : S16384x8.Idx => Cert.Scan.upto .sle (fun s : Fin 16384 =>
        g (ix2 s.rev ⟨16 + (8 + (y 1).val), Nat.add_lt_add_left (Nat.add_lt_add_left (lt_trans (y 1).isLt (by decide : 8 < 104)) 8) 16⟩)) (y 0) := by
  funext y
  obtain ⟨r, h, rfl⟩ : ∃ (r : Fin 16384) (h : Fin 8), y = ix2 r h := ⟨y 0, y 1, (ix2_eta y).symm⟩
  refine (Cert.Scan.running (by norm_num) _ _ _ _ ?_ r h).trans ?_
  · show Ideal.ofBits .f32 0#32 = 0
    simp [Ideal.ofBits, Ideal.ieee]
  · unfold Cert.Scan.upto
    refine Finset.sum_congr rfl fun s _ => ?_
    refine Eq.trans ?_ (Cert.Scan.select_sees (T := 16384) (by norm_num) s r _ _).symm
    rw [reverse_rows]
    pointwise

set_option maxHeartbeats 4000000 in
/-- The reference's result, head by head. -/
theorem result (m : (ℓ : Loc nD τ sig) → Buf (Elt Ideal) ℓ) (c : Dev nD) (r : Fin 16384) (j : Fin 2048) :
    (res_main_v69 m c : Vec Ideal S16384x2048 .f32) (ix2 r j)
      = (Cert.Scan.whole .sge Cert.Scan.back (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) ⟨j.val / 256, by omega⟩).flip.out r.rev
          ⟨j.val % 256, by omega⟩ := by
  unfold res_main_v69
  generalize m ((c.tc : Thread nD τ).loc main_arg0) = q
  generalize m ((c.tc : Thread nD τ).loc main_arg1) = k
  generalize m ((c.tc : Thread nD τ).loc main_arg2) = v
  generalize m ((c.tc : Thread nD τ).loc main_arg3) = g
  generalize m ((c.tc : Thread nD τ).loc main_arg4) = C
  generalize m ((c.tc : Thread nD τ).loc main_arg5) = n
  generalize m ((c.tc : Thread nD τ).loc main_arg6) = u
  rw [run_sum]
  simp only [reverse_rows]
  pointwise
  refine (Cert.Scan.Head.out_comm (Cert.Scan.whole .sge Cert.Scan.back q k v g C n u ⟨j.val / 256, by omega⟩).flip r.rev ⟨j.val % 256, by omega⟩
    (fun x => v (ix2 x.rev j)) fun x => congrArg v (congrArg (ix2 x.rev) (Fin.ext ?_))).symm
  show j.val = j.val / 256 * 256 + j.val % 256
  omega

end Cert.Reference11Ideal.Value
end
-- ==== Proof.ScanPreBack.lean ====
module

public import proofs.«01_k».proof.Proof.Real
public import proofs.«01_k».proof.Proof.ScanWhole

@[expose] public section

set_option maxRecDepth 16384

noncomputable section

open Idealize.ShloMosaic

namespace Cert.Pre_back_finite

/-- The witness of the precondition's side conditions. -/
theorem facts : Facts :=
  ⟨by decide, by decide, by decide, by decide, by decide, by decide, by decide, by decide, by decide, by decide, by decide, by decide, by decide⟩

attribute [local instance] facts

/-- The precondition says that all the scan reads is real. -/
theorem reals (q k : FVec Ideal S16384x1024 .bf16) (v : FVec Ideal S16384x2048 .bf16) (g : FVec Ideal S16384x128 .f32)
    (C : FVec Ideal S8x128x256 .f32) (n u : FVec Ideal S8x1x128 .f32)
    (hp : fn (F := Ideal) q k v g C n u = fun _ => 1#1) : Cert.Scan.Finite Cert.Scan.back q k v g C n u := by
  have e : fn (F := Ideal) q k v g C n u ix0 = 1#1 := congrFun hp ix0
  unfold fn fn_part1 fn_part2 at e
  dsimp only at e
  have eu := IntOp.andi_eq_one.1 e
  have en := IntOp.andi_eq_one.1 eu.1
  have eC := IntOp.andi_eq_one.1 en.1
  have eg := IntOp.andi_eq_one.1 eC.1
  have ev := IntOp.andi_eq_one.1 eg.1
  have ek := IntOp.andi_eq_one.1 ev.1
  refine ⟨fun i j => ?_, fun i j => ?_, fun i j => ?_, fun i j => ?_, fun h d j => ?_, fun h a d => ?_, fun h a d => ?_⟩
  · exact Cert.Pre_scores_finite.real_of_cmp _ (Host.reduce_andi_all _ _ _ _ _ ek.1 (ix2 i j))
  · exact Cert.Pre_scores_finite.real_of_cmp _ (Host.reduce_andi_all _ _ _ _ _ ek.2 (ix2 i j))
  · exact Cert.Pre_scores_finite.real_of_cmp _ (Host.reduce_andi_all _ _ _ _ _ ev.2 (ix2 i j))
  · have := Cert.Pre_scores_finite.real_of_cmp _ (Host.reduce_andi_all _ _ _ _ _ eg.2 (ix2 i j))
    pointwise at this
    exact this
  · exact Cert.Pre_scores_finite.real_of_cmp _ (Host.reduce_andi_all _ _ _ _ _ eC.2 (ix3 h d j))
  · exact Cert.Pre_scores_finite.real_of_cmp _ (Host.reduce_andi_all _ _ _ _ _ en.2 (ix3 h a d))
  · exact Cert.Pre_scores_finite.real_of_cmp _ (Host.reduce_andi_all _ _ _ _ _ eu.2 (ix3 h a d))

end Cert.Pre_back_finite
end
-- ==== Proof.Norm.lean ====
module

public import Idealize.ShloMosaic.Lib.Pointwise
public import Idealize.ShloMosaic.Lib.Pipeline.ReadBack

@[expose] public section

noncomputable section

open Idealize.ShloMosaic

namespace Cert.Norm

variable {N : ℕ}

/-- The mean of a row, `b` being its length's bits. -/
def mean (b : BitVec 32) (x : Fin N → EReal) : EReal := FloatOps.divf (F := Ideal) (φ := .f32) (∑ s, x s) (Ideal.ofBits .f32 b)

/-- A row normalised to mean zero and unit variance. -/
def unit (b : BitVec 32) (x : Fin N → EReal) (j : Fin N) : EReal :=
  (x j - mean b x) * FloatOps.rsqrt (F := Ideal) (φ := .f32)
    (mean b (fun s => (x s - mean b x) * (x s - mean b x)) + Ideal.ofBits .f32 0x358637BD#32)

/-- The logistic function. -/
def gate (o : EReal) : EReal :=
  FloatOps.divf (F := Ideal) (φ := .f32) 1 (1 + Ideal.exp (0 - o))

/-- One head of the merged scans. -/
def merged (a b o w : Fin 256 → EReal) (j : Fin 256) : EReal := unit 0x43800000#32 (fun s => a s + b s) j * w j * gate (o j)

/-- The residual, normalised and weighted. -/
def residual (h y g w b : Fin 2048 → EReal) (j : Fin 2048) : EReal :=
  unit 0x45000000#32 (fun s => Ideal.ofBits .f32 0x3FB504F3#32 * h s + g s * y s) j * w j + b j

/-- Equal rows give equal residuals. -/
theorem residual_congr {h h' y y' g g' w w' b b' : Fin 2048 → EReal} {j j' : Fin 2048} (hh : ∀ s, h s = h' s) (hy : ∀ s, y s = y' s)
    (hg : ∀ s, g s = g' s) (hw : ∀ s, w s = w' s) (hb : ∀ s, b s = b' s) (hj : j = j') : residual h y g w b j = residual h' y' g' w' b' j' := by
  obtain rfl := funext hh
  obtain rfl := funext hy
  obtain rfl := funext hg
  obtain rfl := funext hw
  obtain rfl := funext hb
  rw [hj]

/-- Lane `j` of head `h`. -/
def lane (h : Fin 8) (j : Fin 256) : Fin 2048 := ⟨256 * h.val + j.val, by omega⟩

/-- The first head's lanes start at zero. -/
theorem lane_zero (j : Fin 256) : lane 0 j = ⟨j.val, by omega⟩ := Fin.ext (by show 256 * 0 + j.val = j.val; omega)

/-- The head of a lane. -/
def headOf (k : Fin 2048) : Fin 8 := ⟨k.val / 256, by omega⟩

/-- A lane within its head. -/
def within (k : Fin 2048) : Fin 256 := ⟨k.val % 256, by omega⟩

/-- A lane is its head's. -/
theorem lane_of (k : Fin 2048) : lane (headOf k) (within k) = k := Fin.ext (by show 256 * (k.val / 256) + k.val % 256 = k.val; omega)

/-- One head of a row of the merged scans. -/
def mergedAt (a b o w : Fin 2048 → EReal) (h : Fin 8) (j : Fin 256) : EReal :=
  merged (fun s => a (lane h s)) (fun s => b (lane h s)) (fun s => o (lane h s)) (fun s => w (lane h s)) j

/-- The merged scans, row by row. -/
def merge {n : ℕ} (a b o : Vec Ideal ⟨2, ![n, 2048]⟩ .f32) (w : Fin 2048 → EReal) : Vec Ideal ⟨2, ![n, 2048]⟩ .bf16 := fun y =>
  mergedAt (fun k => a (ix2 (y 0) k)) (fun k => b (ix2 (y 0) k)) (fun k => o (ix2 (y 0) k)) w (headOf (y 1)) (within (y 1))

/-- Equal rows give equal merged scans. -/
theorem merge_congr {n n' : ℕ} (a b o : Vec Ideal ⟨2, ![n, 2048]⟩ .f32) (a' b' o' : Vec Ideal ⟨2, ![n', 2048]⟩ .f32) (w w' : Fin 2048 → EReal)
    (y : (⟨2, ![n, 2048]⟩ : Shape).Idx) (y' : (⟨2, ![n', 2048]⟩ : Shape).Idx) (ha : ∀ k, a (ix2 (y 0) k) = a' (ix2 (y' 0) k))
    (hb : ∀ k, b (ix2 (y 0) k) = b' (ix2 (y' 0) k)) (ho : ∀ k, o (ix2 (y 0) k) = o' (ix2 (y' 0) k)) (hw : ∀ k, w k = w' k)
    (h1 : (y 1 : Fin 2048) = y' 1) : merge a b o w y = merge a' b' o' w' y' := by
  unfold merge
  rw [funext ha, funext hb, funext ho, funext hw, h1]

/-- One head's columns of the merged scans. -/
theorem merge_piece {n : ℕ} (a b o : Vec Ideal ⟨2, ![n, 2048]⟩ .f32) (w : Fin 2048 → EReal) (h : Fin 8) (off : Fin 2 → ℕ) (inb)
    (ho : off = ![0, 256 * h.val]) (P : Vec Ideal ⟨2, ![n, 256]⟩ .bf16)
    (hP : ∀ r j, P (ix2 r j) = mergedAt (fun k => a (ix2 r k)) (fun k => b (ix2 r k)) (fun k => o (ix2 r k)) w h j)
    (x : (⟨2, ![n, 256]⟩ : Shape).Idx) : P x = merge a b o w ((Rect.unit (s := ⟨2, ![n, 2048]⟩) off ![n, 256] inb).emb x) := by
  subst ho
  have h1 : (x 1).val < 256 := (x 1).isLt
  have e : ((Rect.unit (s := ⟨2, ![n, 2048]⟩) ![0, 256 * h.val] ![n, 256] inb).emb x) 0 = x 0 := Fin.ext (by show 0 + 1 * (x 0).val = (x 0).val; omega)
  refine (congrArg P (ix2_eta x).symm).trans ((hP _ _).trans ?_)
  unfold merge
  rw [e]
  refine congrArg₂ (mergedAt _ _ _ w) (Fin.ext ?_) (Fin.ext ?_)
  · show h.val = (256 * h.val + 1 * (x 1).val) / 256; omega
  · show (x 1).val = (256 * h.val + 1 * (x 1).val) % 256; omega

end Cert.Norm
end
-- ==== Proof.Merge.lean ====
module

public import proofs.«01_k».proof.Proof.Norm
public import proofs.«01_k».proof.Proof.Gen.Kernel12Ideal.Value
public import proofs.«01_k».proof.Proof.Gen.Reference12Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen

set_option maxHeartbeats 4000000 in
/-- What a block writes. -/
theorem block (a b o : Vec Ideal S256x2048 .f32) (w : Vec Ideal S1x2048 .f32) :
    out0_4 (F := Ideal) a b o w = Norm.merge a b o (fun k => w (ix2 0 k)) := by
  funext y
  unfold out0_4
  refine View.canon_append_of_piecesOf _ [] [_, _, _, _, _, _, _, _] ⟨
      Norm.merge_piece a b o _ 7 _ (by decide) (by rfl) _ ?_, Norm.merge_piece a b o _ 6 _ (by decide) (by rfl) _ ?_,
      Norm.merge_piece a b o _ 5 _ (by decide) (by rfl) _ ?_, Norm.merge_piece a b o _ 4 _ (by decide) (by rfl) _ ?_,
      Norm.merge_piece a b o _ 3 _ (by decide) (by rfl) _ ?_, Norm.merge_piece a b o _ 2 _ (by decide) (by rfl) _ ?_,
      Norm.merge_piece a b o _ 1 _ (by decide) (by rfl) _ ?_, Norm.merge_piece a b o _ 0 _ (by decide) (by rfl) _ ?_,
      trivial⟩ y (View.cover_of_tiled _ ![256, 256] rfl y)
  all_goals intro r j
  all_goals pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18]
  iterate 7 exact rfl
  unfold Norm.mergedAt
  simp only [Norm.lane_zero]
  rfl

variable (m : (ℓ : Loc nD τ sig) → Buf (Elt Ideal) ℓ)

/-- The block of each window at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ t.val < 64 :=
  (by decide +kernel : ∀ t : Fin grid0.N, _)

/-- A block of argument 0's rows. -/
theorem block0 (c : Dev nD) (t : Fin cfg0.N) (i : Fin 256) (k : Fin 2048) : (iblk m c 0 t : Vec Ideal S256x2048 .f32) (ix2 i k)
    = (m ((c.tc : Thread nD τ).loc main_arg0) : FVec Ideal S16384x2048 .f32) (ix2 ⟨t.val * 256 + i.val, by have := idx t; omega⟩ k) := by
  blk_ext [iblk, V, idx t]

/-- A block of argument 1's rows. -/
theorem block1 (c : Dev nD) (t : Fin cfg0.N) (i : Fin 256) (k : Fin 2048) : (iblk m c 1 t : Vec Ideal S256x2048 .f32) (ix2 i k)
    = (m ((c.tc : Thread nD τ).loc main_arg1) : FVec Ideal S16384x2048 .f32) (ix2 ⟨t.val * 256 + i.val, by have := idx t; omega⟩ k) := by
  blk_ext [iblk, V, idx t]

/-- A block of argument 2's rows. -/
theorem block2 (c : Dev nD) (t : Fin cfg0.N) (i : Fin 256) (k : Fin 2048) : (iblk m c 2 t : Vec Ideal S256x2048 .f32) (ix2 i k)
    = (m ((c.tc : Thread nD τ).loc main_arg2) : FVec Ideal S16384x2048 .f32) (ix2 ⟨t.val * 256 + i.val, by have := idx t; omega⟩ k) := by
  blk_ext [iblk, V, idx t]

/-- The weights the kernel is called with. -/
theorem weights (V : Valuation τ sig (Elt Ideal)) (k : Fin 2048) :
    (StableHlo.after (hostOps0 (F := Ideal)) V main_v0 : FVec Ideal S1x2048 .f32) (ix2 0 k) = (V main_arg3 : FVec Ideal S2048 .f32) (ix1 k) := by
  after_reads_at

/-- The weights, at every grid point. -/
theorem block3 (c : Dev nD) (t : Fin cfg0.N) (k : Fin 2048) : (iblk m c 3 t : Vec Ideal S1x2048 .f32) (ix2 0 k)
    = (m ((c.tc : Thread nD τ).loc main_arg3) : FVec Ideal S2048 .f32) (ix1 k) := by
  refine Eq.trans (b := (V m c main_v0 : FVec Ideal S1x2048 .f32) (ix2 0 k)) ?_ (weights _ k)
  blk_ext [iblk, idx t]

/-- The kernel's array. -/
theorem final (c : Dev nD) : (dats m 0 c).arrAt 4 cfg0.N
    = Norm.merge (n := 16384) (m ((c.tc : Thread nD τ).loc main_arg0)) (m ((c.tc : Thread nD τ).loc main_arg1)) (m ((c.tc : Thread nD τ).loc main_arg2)) (fun k => ((m ((c.tc : Thread nD τ).loc main_arg3)) : FVec Ideal S2048 .f32) (ix1 k)) := by
  refine (dats m 0 c).arrAt_eq_of_covers 4 _ (by decide +kernel) fun t hf y => ?_
  have w0 : win0_4.index t 0 = t.val := (idx t).2.2.2.2.1 ▸ rfl
  have w1 : win0_4.index t 1 = 0 := (idx t).2.2.2.2.1 ▸ rfl
  blk_simp
  rw [after0_4, block]
  refine Norm.merge_congr _ _ _ _ _ _ _ _ y _ ?_ ?_ ?_ (fun k => block3 m c t k) ?_
  · exact fun k => (block0 m c t (y 0) k).trans (congrArg (fun i => ((m ((c.tc : Thread nD τ).loc main_arg0)) : FVec Ideal S16384x2048 .f32) (ix2 i k)) (Fin.ext (by
      show t.val * 256 + (y 0).val = win0_4.index t 0 * 256 + 1 * (y 0).val; omega)))
  · exact fun k => (block1 m c t (y 0) k).trans (congrArg (fun i => ((m ((c.tc : Thread nD τ).loc main_arg1)) : FVec Ideal S16384x2048 .f32) (ix2 i k)) (Fin.ext (by
      show t.val * 256 + (y 0).val = win0_4.index t 0 * 256 + 1 * (y 0).val; omega)))
  · exact fun k => (block2 m c t (y 0) k).trans (congrArg (fun i => ((m ((c.tc : Thread nD τ).loc main_arg2)) : FVec Ideal S16384x2048 .f32) (ix2 i k)) (Fin.ext (by
      show t.val * 256 + (y 0).val = win0_4.index t 0 * 256 + 1 * (y 0).val; omega)))
  · exact Fin.ext (by show (y 1).val = win0_4.index t 1 * 2048 + 1 * (y 1).val; omega)

end Cert.Kernel12Ideal.Value

namespace Cert.Reference12Ideal.Value

open Cert.Reference12Ideal Cert.Reference12Ideal.Gen

/-- The reference's array. -/
theorem merged (a b o : FVec Ideal S16384x2048 .f32) (w : FVec Ideal S2048 .f32) :
    (truncf .bf16 (mulf (mulf (shapeCast _ (mulf (subf (shapeCast _ (addf a b) shapeCasts_S16384x2048_S16384x8x256) (broadcastInDim S16384x8x256 ![0, 1, 2] bcast_S16384x8x1_S16384x8x256_0_1_2 (Host.divf (broadcastInDim S16384x8x1 ![0, 1] bcast_S16384x8_S16384x8x1_0_1 (Host.reduceAdd (shapeCast _ (addf a b) shapeCasts_S16384x2048_S16384x8x256) (constant S_ .f32 0x00000000#32) reducesTo_S16384x8x256_S16384x8_d2 h_S_)) (broadcastInDim S16384x8x1 ![] bcast_S_S16384x8x1 (constant S_ .f32 0x43800000#32))))) (broadcastInDim S16384x8x256 ![0, 1, 2] bcast_S16384x8x1_S16384x8x256_0_1_2 (Host.rsqrt (addf (Host.divf (broadcastInDim S16384x8x1 ![0, 1] bcast_S16384x8_S16384x8x1_0_1 (Host.reduceAdd (mulf (subf (shapeCast _ (addf a b) shapeCasts_S16384x2048_S16384x8x256) (broadcastInDim S16384x8x256 ![0, 1, 2] bcast_S16384x8x1_S16384x8x256_0_1_2 (Host.divf (broadcastInDim S16384x8x1 ![0, 1] bcast_S16384x8_S16384x8x1_0_1 (Host.reduceAdd (shapeCast _ (addf a b) shapeCasts_S16384x2048_S16384x8x256) (constant S_ .f32 0x00000000#32) reducesTo_S16384x8x256_S16384x8_d2 h_S_)) (broadcastInDim S16384x8x1 ![] bcast_S_S16384x8x1 (constant S_ .f32 0x43800000#32))))) (subf (shapeCast _ (addf a b) shapeCasts_S16384x2048_S16384x8x256) (broadcastInDim S16384x8x256 ![0, 1, 2] bcast_S16384x8x1_S16384x8x256_0_1_2 (Host.divf (broadcastInDim S16384x8x1 ![0, 1] bcast_S16384x8_S16384x8x1_0_1 (Host.reduceAdd (shapeCast _ (addf a b) shapeCasts_S16384x2048_S16384x8x256) (constant S_ .f32 0x00000000#32) reducesTo_S16384x8x256_S16384x8_d2 h_S_)) (broadcastInDim S16384x8x1 ![] bcast_S_S16384x8x1 (constant S_ .f32 0x43800000#32)))))) (constant S_ .f32 0x00000000#32) reducesTo_S16384x8x256_S16384x8_d2 h_S_)) (broadcastInDim S16384x8x1 ![] bcast_S_S16384x8x1 (constant S_ .f32 0x43800000#32))) (broadcastInDim S16384x8x1 ![] bcast_S_S16384x8x1 (constant S_ .f32 0x358637BD#32)))))) shapeCasts_S16384x8x256_S16384x2048) (broadcastInDim S16384x2048 ![0, 1] bcast_S1x2048_S16384x2048_0_1 (broadcastInDim S1x2048 ![1] bcast_S2048_S1x2048_1 w))) (Host.divf (broadcastInDim S16384x2048 ![] bcast_S_S16384x2048 (constant S_ .f32 0x3F800000#32)) (addf (broadcastInDim S16384x2048 ![] bcast_S_S16384x2048 (constant S_ .f32 0x3F800000#32)) (Host.exp (Host.negf o))))) bitsLt_bf16_f32 : FVec Ideal S16384x2048 .bf16)
      = Norm.merge a b o (fun k => w (ix1 k)) := by
  funext i
  obtain ⟨r, j, rfl⟩ : ∃ r j, i = ix2 r j := ⟨i 0, i 1, (ix2_eta i).symm⟩
  pointwise [Norm.merge]
  have e : ∀ (s : Fin 256) (h : j.val / 256 * 256 + s.val < 2048), (⟨j.val / 256 * 256 + s.val, h⟩ : Fin 2048) = Norm.lane (Norm.headOf j) s :=
    fun s h => Fin.ext (by show j.val / 256 * 256 + s.val = 256 * (j.val / 256) + s.val; omega)
  simp only [e, Norm.mergedAt, Norm.merged, Norm.unit, Norm.mean, Norm.gate, Norm.lane_of, zero_sub]
  rfl

end Cert.Reference12Ideal.Value
end
-- ==== Proof.LnRes.lean ====
module

public import proofs.«01_k».proof.Proof.Norm
public import proofs.«01_k».proof.Proof.Gen.Kernel13Ideal.Value
public import proofs.«01_k».proof.Proof.Gen.Reference13Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel13Ideal.Value

open Cert.Kernel13Ideal Cert.Kernel13Ideal.Gen

/-- The normalised residual, row by row. -/
def normed (h y : FVec Ideal S16384x2048 .f32) (g w b : FVec Ideal S1x2048 .f32) : FVec Ideal S16384x2048 .f32 :=
  fun i => Norm.residual (fun s => h (ix2 (i 0) s)) (fun s => y (ix2 (i 0) s)) (fun s => g (ix2 0 s)) (fun s => w (ix2 0 s)) (fun s => b (ix2 0 s)) (i 1)

/-- The same, scaled and shifted. -/
def modulated (h y : FVec Ideal S16384x2048 .f32) (g w b sc sh : FVec Ideal S1x2048 .f32) : FVec Ideal S16384x2048 .f32 :=
  fun i => normed h y g w b i * (1 + sc (ix2 0 (i 1))) + sh (ix2 0 (i 1))

/-- One block of the normalised residual. -/
theorem normed_apply (y h : Vec Ideal S256x2048 .f32) (g w b : Vec Ideal S1x2048 .f32) (i : Fin 256) (j : Fin 2048) :
    k0_pay2 (F := Ideal) y h g w b (ix2 i j)
      = Norm.residual (fun s => h (ix2 i s)) (fun s => y (ix2 i s)) (fun s => g (ix2 0 s)) (fun s => w (ix2 0 s)) (fun s => b (ix2 0 s)) j := by
  pointwise [k0_pay2]
  rfl

/-- One block of the modulated one. -/
theorem modulated_apply (y h : Vec Ideal S256x2048 .f32) (g w b sc sh : Vec Ideal S1x2048 .f32) (i : Fin 256) (j : Fin 2048) :
    k0_pay1 (F := Ideal) (k0_pay3 (F := Ideal) y h g w b sc) sh (ix2 i j)
      = Norm.residual (fun s => h (ix2 i s)) (fun s => y (ix2 i s)) (fun s => g (ix2 0 s)) (fun s => w (ix2 0 s)) (fun s => b (ix2 0 s)) j
        * (1 + sc (ix2 0 j)) + sh (ix2 0 j) := by
  pointwise [k0_pay1, k0_pay3]
  rw [normed_apply]

variable (m : (ℓ : Loc nD τ sig) → Buf (Elt Ideal) ℓ)

/-- The block of each window at each grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ t.val < 64 :=
  (by decide +kernel : ∀ t : Fin grid0.N, _)

/-- A block of argument 0's rows. -/
theorem block0 (c : Dev nD) (t : Fin cfg0.N) (i : Fin 256) (k : Fin 2048) : (iblk m c 0 t : Vec Ideal S256x2048 .f32) (ix2 i k)
    = (m ((c.tc : Thread nD τ).loc main_arg0) : FVec Ideal S16384x2048 .f32) (ix2 ⟨t.val * 256 + i.val, by have := idx t; omega⟩ k) := by
  blk_ext [iblk, V, idx t]

/-- A block of argument 1's rows. -/
theorem block1 (c : Dev nD) (t : Fin cfg0.N) (i : Fin 256) (k : Fin 2048) : (iblk m c 1 t : Vec Ideal S256x2048 .f32) (ix2 i k)
    = (m ((c.tc : Thread nD τ).loc main_arg1) : FVec Ideal S16384x2048 .f32) (ix2 ⟨t.val * 256 + i.val, by have := idx t; omega⟩ k) := by
  blk_ext [iblk, V, idx t]

/-- Argument 2, at every grid point. -/
theorem block2 (c : Dev nD) (t : Fin cfg0.N) (k : Fin 2048) : (iblk m c 2 t : Vec Ideal S1x2048 .f32) (ix2 0 k)
    = (m ((c.tc : Thread nD τ).loc main_arg2) : FVec Ideal S1x2048 .f32) (ix2 0 k) := by
  blk_ext [iblk, V, idx t]

/-- Argument 3, at every grid point. -/
theorem block3 (c : Dev nD) (t : Fin cfg0.N) (k : Fin 2048) : (iblk m c 3 t : Vec Ideal S1x2048 .f32) (ix2 0 k)
    = (m ((c.tc : Thread nD τ).loc main_arg3) : FVec Ideal S1x2048 .f32) (ix2 0 k) := by
  blk_ext [iblk, V, idx t]

/-- Argument 4, at every grid point. -/
theorem block4 (c : Dev nD) (t : Fin cfg0.N) (k : Fin 2048) : (iblk m c 4 t : Vec Ideal S1x2048 .f32) (ix2 0 k)
    = (m ((c.tc : Thread nD τ).loc main_arg4) : FVec Ideal S1x2048 .f32) (ix2 0 k) := by
  blk_ext [iblk, V, idx t]

/-- Argument 5, at every grid point. -/
theorem block5 (c : Dev nD) (t : Fin cfg0.N) (k : Fin 2048) : (iblk m c 5 t : Vec Ideal S1x2048 .f32) (ix2 0 k)
    = (m ((c.tc : Thread nD τ).loc main_arg5) : FVec Ideal S1x2048 .f32) (ix2 0 k) := by
  blk_ext [iblk, V, idx t]

/-- Argument 6, at every grid point. -/
theorem block6 (c : Dev nD) (t : Fin cfg0.N) (k : Fin 2048) : (iblk m c 6 t : Vec Ideal S1x2048 .f32) (ix2 0 k)
    = (m ((c.tc : Thread nD τ).loc main_arg6) : FVec Ideal S1x2048 .f32) (ix2 0 k) := by
  blk_ext [iblk, V, idx t]

/-- A block's normalised residual is the whole's there. -/
theorem normed_block (c : Dev nD) (t : Fin cfg0.N) (i : Fin 256) (j : Fin 2048) (k : S16384x2048.Idx)
    (h0 : (k 0).val = t.val * 256 + i.val) (h1 : (k 1).val = j.val) :
    Norm.residual (fun s => (iblk m c 0 t : Vec Ideal S256x2048 .f32) (ix2 i s)) (fun s => (iblk m c 1 t : Vec Ideal S256x2048 .f32) (ix2 i s))
        (fun s => (iblk m c 2 t : Vec Ideal S1x2048 .f32) (ix2 0 s)) (fun s => (iblk m c 3 t : Vec Ideal S1x2048 .f32) (ix2 0 s))
        (fun s => (iblk m c 4 t : Vec Ideal S1x2048 .f32) (ix2 0 s)) j
      = normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) k := by
  have e : (⟨t.val * 256 + i.val, by have := idx t; omega⟩ : Fin 16384) = k 0 := Fin.ext h0.symm
  exact Norm.residual_congr (fun s => (block0 m c t i s).trans (by rw [e])) (fun s => (block1 m c t i s).trans (by rw [e]))
    (fun s => block2 m c t s) (fun s => block3 m c t s) (fun s => block4 m c t s) (Fin.ext h1.symm)

/-- The first array. -/
theorem final_normed (c : Dev nD) : (dats m 0 c).arrAt 7 cfg0.N = normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  have w0 : win0_7.index t 0 = t.val := (idx t).2.2.2.2.2.2.2.1 ▸ rfl
  have w1 : win0_7.index t 1 = 0 := (idx t).2.2.2.2.2.2.2.1 ▸ rfl
  blk_simp
  rw [after0_7]
  frame_out
  refine (congrArg _ (ix2_eta y).symm).trans ((normed_apply _ _ _ _ _ (y 0) (y 1)).trans ?_)
  refine normed_block m c t (y 0) (y 1) _ ?_ ?_
  · show win0_7.index t 0 * 256 + 1 * (y 0).val = t.val * 256 + (y 0).val
    omega
  · show win0_7.index t 1 * 2048 + 1 * (y 1).val = (y 1).val
    omega

/-- The second array. -/
theorem final_modulated (c : Dev nD) : (dats m 0 c).arrAt 8 cfg0.N = modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t hf y => ?_
  have w0 : win0_8.index t 0 = t.val := (idx t).2.2.2.2.2.2.2.2.1 ▸ rfl
  have w1 : win0_8.index t 1 = 0 := (idx t).2.2.2.2.2.2.2.2.1 ▸ rfl
  blk_simp
  rw [after0_8]
  frame_out
  refine (congrArg _ (ix2_eta y).symm).trans ((modulated_apply _ _ _ _ _ _ _ (y 0) (y 1)).trans ?_)
  have e : ∀ k : S16384x2048.Idx, (k 1).val = (y 1).val → ∀ v : FVec Ideal S1x2048 .f32, v (ix2 0 (y 1)) = v (ix2 0 (k 1)) :=
    fun k hk v => congrArg (fun j : Fin 2048 => v (ix2 0 j)) (Fin.ext hk.symm)
  have h1 : win0_8.index t 1 * 2048 + 1 * (y 1).val = (y 1).val := by omega
  refine congrArg₂ (· + ·) (congrArg₂ (· * ·) (normed_block m c t (y 0) (y 1) _ ?_ h1)
    (congrArg (1 + ·) ((block5 m c t (y 1)).trans (e _ h1 _)))) ((block6 m c t (y 1)).trans (e _ h1 _))
  show win0_8.index t 0 * 256 + 1 * (y 0).val = t.val * 256 + (y 0).val
  omega

end Cert.Kernel13Ideal.Value

namespace Cert.Reference13Ideal.Value

open Cert.Reference13Ideal Cert.Reference13Ideal.Gen
/-- The reference's first array. -/
theorem normed (h y : FVec Ideal S16384x2048 .f32) (g w b : FVec Ideal S1x2048 .f32) :
    (addf (mulf (mulf (subf (addf (mulf (broadcastInDim S16384x2048 ![] bcast_S_S16384x2048 (constant S_ .f32 0x3FB504F3#32)) h) (mulf (broadcastInDim S16384x2048 ![0, 1] bcast_S1x2048_S16384x2048_0_1 g) y)) (broadcastInDim S16384x2048 ![0, 1] bcast_S16384x1_S16384x2048_0_1 (Host.divf (broadcastInDim S16384x1 ![0] bcast_S16384_S16384x1_0 (Host.reduceAdd (addf (mulf (broadcastInDim S16384x2048 ![] bcast_S_S16384x2048 (constant S_ .f32 0x3FB504F3#32)) h) (mulf (broadcastInDim S16384x2048 ![0, 1] bcast_S1x2048_S16384x2048_0_1 g) y)) (constant S_ .f32 0x00000000#32) reducesTo_S16384x2048_S16384_d1 h_S_)) (broadcastInDim S16384x1 ![] bcast_S_S16384x1 (constant S_ .f32 0x45000000#32))))) (broadcastInDim S16384x2048 ![0, 1] bcast_S16384x1_S16384x2048_0_1 (Host.rsqrt (addf (Host.divf (broadcastInDim S16384x1 ![0] bcast_S16384_S16384x1_0 (Host.reduceAdd (mulf (subf (addf (mulf (broadcastInDim S16384x2048 ![] bcast_S_S16384x2048 (constant S_ .f32 0x3FB504F3#32)) h) (mulf (broadcastInDim S16384x2048 ![0, 1] bcast_S1x2048_S16384x2048_0_1 g) y)) (broadcastInDim S16384x2048 ![0, 1] bcast_S16384x1_S16384x2048_0_1 (Host.divf (broadcastInDim S16384x1 ![0] bcast_S16384_S16384x1_0 (Host.reduceAdd (addf (mulf (broadcastInDim S16384x2048 ![] bcast_S_S16384x2048 (constant S_ .f32 0x3FB504F3#32)) h) (mulf (broadcastInDim S16384x2048 ![0, 1] bcast_S1x2048_S16384x2048_0_1 g) y)) (constant S_ .f32 0x00000000#32) reducesTo_S16384x2048_S16384_d1 h_S_)) (broadcastInDim S16384x1 ![] bcast_S_S16384x1 (constant S_ .f32 0x45000000#32))))) (subf (addf (mulf (broadcastInDim S16384x2048 ![] bcast_S_S16384x2048 (constant S_ .f32 0x3FB504F3#32)) h) (mulf (broadcastInDim S16384x2048 ![0, 1] bcast_S1x2048_S16384x2048_0_1 g) y)) (broadcastInDim S16384x2048 ![0, 1] bcast_S16384x1_S16384x2048_0_1 (Host.divf (broadcastInDim S16384x1 ![0] bcast_S16384_S16384x1_0 (Host.reduceAdd (addf (mulf (broadcastInDim S16384x2048 ![] bcast_S_S16384x2048 (constant S_ .f32 0x3FB504F3#32)) h) (mulf (broadcastInDim S16384x2048 ![0, 1] bcast_S1x2048_S16384x2048_0_1 g) y)) (constant S_ .f32 0x00000000#32) reducesTo_S16384x2048_S16384_d1 h_S_)) (broadcastInDim S16384x1 ![] bcast_S_S16384x1 (constant S_ .f32 0x45000000#32)))))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 w)) (broadcastInDim S16384x2048 ![0, 1] bcast_S1x2048_S16384x2048_0_1 b) : FVec Ideal S16384x2048 .f32)
      = Cert.Kernel13Ideal.Value.normed h y g w b := by
  funext i
  obtain ⟨r, j, rfl⟩ : ∃ r j, i = ix2 r j := ⟨i 0, i 1, (ix2_eta i).symm⟩
  pointwise [Cert.Kernel13Ideal.Value.normed]
  rfl

/-- The reference's second array. -/
theorem modulated (h y : FVec Ideal S16384x2048 .f32) (g w b sc sh : FVec Ideal S1x2048 .f32) :
    (addf (mulf (addf (mulf (mulf (subf (addf (mulf (broadcastInDim S16384x2048 ![] bcast_S_S16384x2048 (constant S_ .f32 0x3FB504F3#32)) h) (mulf (broadcastInDim S16384x2048 ![0, 1] bcast_S1x2048_S16384x2048_0_1 g) y)) (broadcastInDim S16384x2048 ![0, 1] bcast_S16384x1_S16384x2048_0_1 (Host.divf (broadcastInDim S16384x1 ![0] bcast_S16384_S16384x1_0 (Host.reduceAdd (addf (mulf (broadcastInDim S16384x2048 ![] bcast_S_S16384x2048 (constant S_ .f32 0x3FB504F3#32)) h) (mulf (broadcastInDim S16384x2048 ![0, 1] bcast_S1x2048_S16384x2048_0_1 g) y)) (constant S_ .f32 0x00000000#32) reducesTo_S16384x2048_S16384_d1 h_S_)) (broadcastInDim S16384x1 ![] bcast_S_S16384x1 (constant S_ .f32 0x45000000#32))))) (broadcastInDim S16384x2048 ![0, 1] bcast_S16384x1_S16384x2048_0_1 (Host.rsqrt (addf (Host.divf (broadcastInDim S16384x1 ![0] bcast_S16384_S16384x1_0 (Host.reduceAdd (mulf (subf (addf (mulf (broadcastInDim S16384x2048 ![] bcast_S_S16384x2048 (constant S_ .f32 0x3FB504F3#32)) h) (mulf (broadcastInDim S16384x2048 ![0, 1] bcast_S1x2048_S16384x2048_0_1 g) y)) (broadcastInDim S16384x2048 ![0, 1] bcast_S16384x1_S16384x2048_0_1 (Host.divf (broadcastInDim S16384x1 ![0] bcast_S16384_S16384x1_0 (Host.reduceAdd (addf (mulf (broadcastInDim S16384x2048 ![] bcast_S_S16384x2048 (constant S_ .f32 0x3FB504F3#32)) h) (mulf (broadcastInDim S16384x2048 ![0, 1] bcast_S1x2048_S16384x2048_0_1 g) y)) (constant S_ .f32 0x00000000#32) reducesTo_S16384x2048_S16384_d1 h_S_)) (broadcastInDim S16384x1 ![] bcast_S_S16384x1 (constant S_ .f32 0x45000000#32))))) (subf (addf (mulf (broadcastInDim S16384x2048 ![] bcast_S_S16384x2048 (constant S_ .f32 0x3FB504F3#32)) h) (mulf (broadcastInDim S16384x2048 ![0, 1] bcast_S1x2048_S16384x2048_0_1 g) y)) (broadcastInDim S16384x2048 ![0, 1] bcast_S16384x1_S16384x2048_0_1 (Host.divf (broadcastInDim S16384x1 ![0] bcast_S16384_S16384x1_0 (Host.reduceAdd (addf (mulf (broadcastInDim S16384x2048 ![] bcast_S_S16384x2048 (constant S_ .f32 0x3FB504F3#32)) h) (mulf (broadcastInDim S16384x2048 ![0, 1] bcast_S1x2048_S16384x2048_0_1 g) y)) (constant S_ .f32 0x00000000#32) reducesTo_S16384x2048_S16384_d1 h_S_)) (broadcastInDim S16384x1 ![] bcast_S_S16384x1 (constant S_ .f32 0x45000000#32)))))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 w)) (broadcastInDim S16384x2048 ![0, 1] bcast_S1x2048_S16384x2048_0_1 b)) (broadcastInDim S16384x2048 ![0, 1] bcast_S1x2048_S16384x2048_0_1 (addf (broadcastInDim S1x2048 ![] bcast_S_S1x2048 (constant S_ .f32 0x3F800000#32)) sc))) (broadcastInDim S16384x2048 ![0, 1] bcast_S1x2048_S16384x2048_0_1 sh) : FVec Ideal S16384x2048 .f32)
      = Cert.Kernel13Ideal.Value.modulated h y g w b sc sh := by
  rw [normed]
  funext i
  obtain ⟨r, j, rfl⟩ : ∃ r j, i = ix2 r j := ⟨i 0, i 1, (ix2_eta i).symm⟩
  pointwise [Cert.Kernel13Ideal.Value.modulated]

end Cert.Reference13Ideal.Value
end
-- ==== Proof.Gates.lean ====
module

public import proofs.«01_k».proof.Proof.Norm
public import proofs.«01_k».proof.Proof.Gen.Kernel14Ideal.Value
public import proofs.«01_k».proof.Proof.Gen.Reference14Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel14Ideal.Value

open Cert.Kernel14Ideal Cert.Kernel14Ideal.Gen

/-- The logarithm of the logistic function. -/
def logsig (x : EReal) : EReal := min x 0 - Ideal.log (1 + Ideal.exp (0 - FloatOps.absf (F := Ideal) (φ := .f32) x))

/-- The logarithm of one and an exponential is above `⊥`. -/
theorem log_ne_bot (y : EReal) : Ideal.log (1 + Ideal.exp y) ≠ ⊥ := by
  have real : ∀ r : ℝ, 0 ≤ r → Ideal.log (1 + (r : EReal)) ≠ ⊥ := fun r hr => by
    rw [← EReal.coe_one, ← EReal.coe_add]
    show (if 1 + r ≤ 0 then (⊥ : EReal) else (Real.log (1 + r) : EReal)) ≠ ⊥
    rw [if_neg (by linarith)]
    exact EReal.coe_ne_bot _
  induction y with
  | bot => exact real 0 le_rfl
  | top =>
    show Ideal.log (1 + ⊤) ≠ ⊥
    rw [← EReal.coe_one, EReal.coe_add_top]
    exact top_ne_bot
  | coe r => exact real (Real.exp r) (Real.exp_pos r).le

/-- The same by way of the opposite. -/
theorem logsig_eq (x : EReal) : -(max (-x) 0 + Ideal.log1p (Ideal.exp (-FloatOps.absf (F := Ideal) (φ := .f32) x))) = logsig x := by
  have hm : -max (-x) 0 = min x 0 := by
    rcases le_total x 0 with h | h
    · rw [max_eq_left (by simpa using EReal.neg_le_neg_iff.2 h), min_eq_left h, neg_neg]
    · rw [max_eq_right (by simpa using EReal.neg_le_neg_iff.2 h), min_eq_right h, neg_zero]
  unfold logsig Ideal.log1p
  rw [EReal.neg_add (.inl (ne_of_gt (lt_of_lt_of_le EReal.bot_lt_zero (le_max_right _ _)))) (.inr (log_ne_bot _)), hm, zero_sub]

/-- The gates' logarithms. -/
def whole (g : FVec Ideal S16384x128 .f32) (b : FVec Ideal S32 .f32) : FVec Ideal S16384x128 .f32 := fun y =>
  let x := g y + if h : (y 1).val < 32 then b (ix1 ⟨(y 1).val, h⟩) else 0
  if (y 1).val / 8 % 2 = 1 then logsig x else x

/-- A choice by a decided bit. -/
theorem select_of (c : BitVec 1) (p : Prop) [Decidable p] (h : c = if p then 1#1 else 0#1) (x y : EReal) :
    Scalar.select c x y = if p then x else y := by
  subst h
  by_cases hp : p <;> simp [hp, Scalar.select]

/-- One block. -/
theorem block_apply (g : Vec Ideal S1024x128 .f32) (b : Vec Ideal S1x128 .f32) (i : Fin 1024) (j : Fin 128) :
    k0_pay1 (F := Ideal) (k0_pay2 (F := Ideal) g b) (k0_pay3 (F := Ideal) g b) k0_pay4 (Scalar.select (Scalar.cmpi .eq 2#32 0#32) 1#32 2#32) (ix2 i j)
      = if j.val / 8 % 2 = 1 then logsig (g (ix2 i j) + b (ix2 0 j)) else g (ix2 i j) + b (ix2 0 j) := by
  pointwise [k0_pay1, k0_pay2, k0_pay3, k0_pay4]
  refine select_of _ (j.val / 8 % 2 = 1) ?_ _ _
  revert j
  decide +kernel

variable (m : (ℓ : Loc nD τ sig) → Buf (Elt Ideal) ℓ)

/-- The block of each window at each grid point. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

/-- The bias the kernel is called with. -/
theorem bias (c : Dev nD) (k : Fin 128) : (V m c main_v1 : FVec Ideal S1x128 .f32) (ix2 0 k)
    = if h : k.val < 32 then (m ((c.tc : Thread nD τ).loc main_arg1) : FVec Ideal S32 .f32) (ix1 ⟨k.val, h⟩) else (0 : EReal) := by
  unfold V
  simp only [hostOps0, hostOps0_1, hostOps0_2, List.flatten_cons, List.flatten_nil, List.append_nil, List.cons_append, List.nil_append]
  after_reads_at
  refine dite_congr rfl (fun _ => rfl) fun _ => ?_
  show (((0#32 : BitVec 32).toInt : ℝ) : EReal) = 0
  simp

/-- A block of rows, in the argument. -/
theorem block0 (c : Dev nD) (t : Fin cfg0.N) (i : Fin 1024) (k : Fin 128) : (iblk m c 0 t : Vec Ideal S1024x128 .f32) (ix2 i k)
    = (m ((c.tc : Thread nD τ).loc main_arg0) : FVec Ideal S16384x128 .f32) (ix2 ⟨t.val * 1024 + i.val, by have := idx t; omega⟩ k) := by
  blk_ext [iblk, V, idx t]

/-- The bias, at every grid point. -/
theorem block1 (c : Dev nD) (t : Fin cfg0.N) (k : Fin 128) : (iblk m c 1 t : Vec Ideal S1x128 .f32) (ix2 0 k)
    = if h : k.val < 32 then (m ((c.tc : Thread nD τ).loc main_arg1) : FVec Ideal S32 .f32) (ix1 ⟨k.val, h⟩) else (0 : EReal) := by
  refine Eq.trans (b := (V m c main_v1 : FVec Ideal S1x128 .f32) (ix2 0 k)) ?_ (bias m c k)
  blk_ext [iblk, idx t]

/-- A block is the whole's there. -/
theorem block (c : Dev nD) (t : Fin cfg0.N) (i : Fin 1024) (j : Fin 128) (k : S16384x128.Idx) (x z : EReal)
    (hx : x = (iblk m c 0 t : Vec Ideal S1024x128 .f32) (ix2 i j)) (hz : z = (iblk m c 1 t : Vec Ideal S1x128 .f32) (ix2 0 j))
    (h0 : (k 0).val = t.val * 1024 + i.val) (h1 : (k 1).val = j.val) : (if j.val / 8 % 2 = 1 then logsig (x + z) else x + z)
      = whole (m ((c.tc : Thread nD τ).loc main_arg0)) (m ((c.tc : Thread nD τ).loc main_arg1)) k := by
  have e : ix2 (⟨t.val * 1024 + i.val, by have := idx t; omega⟩ : Fin 16384) j = k :=
    (congrArg₂ ix2 (Fin.ext h0.symm) (Fin.ext h1.symm)).trans (ix2_eta k)
  rw [hx.trans (block0 m c t i j), hz.trans (block1 m c t j), ← e]
  rfl

/-- The kernel's array. -/
theorem final (c : Dev nD) : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  have w0 : win0_2.index t 0 = t.val := (idx t).2.2.1 ▸ rfl
  have w1 : win0_2.index t 1 = 0 := (idx t).2.2.1 ▸ rfl
  blk_simp
  rw [after0_2]
  frame_out
  refine (congrArg _ (ix2_eta y).symm).trans ((block_apply _ _ (y 0) (y 1)).trans ?_)
  refine block m c t (y 0) (y 1) _ _ _ rfl rfl ?_ ?_
  · show win0_2.index t 0 * 1024 + 1 * (y 0).val = t.val * 1024 + (y 0).val
    omega
  · show win0_2.index t 1 * 128 + 1 * (y 1).val = (y 1).val
    omega

end Cert.Kernel14Ideal.Value

namespace Cert.Reference14Ideal.Value

open Cert.Reference14Ideal Cert.Reference14Ideal.Gen

/-- The reference's array. -/
theorem gates (g : FVec Ideal S16384x128 .f32) (b : FVec Ideal S32 .f32) :
    (shapeCast _ (concatenate S16384x8x2x8 2 [⟨S16384x8x1x8, (extractStridedSlice S16384x8x1x8 ![0, 0, 0, 0] (shapeCast _ (addf g (broadcastInDim S16384x128 ![0, 1] bcast_S1x128_S16384x128_0_1 (broadcastInDim S1x128 ![1] bcast_S128_S1x128_1 (concatenate S128 0 [⟨S32, b⟩, ⟨S96, (broadcastInDim S96 ![] bcast_S_S96 (constant S_ .f32 0x00000000#32))⟩] concatenates_S32_S96_S128_d0)))) shapeCasts_S16384x128_S16384x8x2x8) slices_S16384x8x2x8_S16384x8x1x8_0_0_0_0)⟩, ⟨S16384x8x1x8, (Host.negf (addf (maximumf (Host.negf (extractStridedSlice S16384x8x1x8 ![0, 0, 1, 0] (shapeCast _ (addf g (broadcastInDim S16384x128 ![0, 1] bcast_S1x128_S16384x128_0_1 (broadcastInDim S1x128 ![1] bcast_S128_S1x128_1 (concatenate S128 0 [⟨S32, b⟩, ⟨S96, (broadcastInDim S96 ![] bcast_S_S96 (constant S_ .f32 0x00000000#32))⟩] concatenates_S32_S96_S128_d0)))) shapeCasts_S16384x128_S16384x8x2x8) slices_S16384x8x2x8_S16384x8x1x8_0_0_1_0)) (broadcastInDim S16384x8x1x8 ![] bcast_S_S16384x8x1x8 (constant S_ .f32 0x00000000#32))) (Host.log1p (Host.exp (Host.negf (Host.absf (extractStridedSlice S16384x8x1x8 ![0, 0, 1, 0] (shapeCast _ (addf g (broadcastInDim S16384x128 ![0, 1] bcast_S1x128_S16384x128_0_1 (broadcastInDim S1x128 ![1] bcast_S128_S1x128_1 (concatenate S128 0 [⟨S32, b⟩, ⟨S96, (broadcastInDim S96 ![] bcast_S_S96 (constant S_ .f32 0x00000000#32))⟩] concatenates_S32_S96_S128_d0)))) shapeCasts_S16384x128_S16384x8x2x8) slices_S16384x8x2x8_S16384x8x1x8_0_0_1_0)))))))⟩] concatenates_S16384x8x1x8_S16384x8x1x8_S16384x8x2x8_d2) shapeCasts_S16384x8x2x8_S16384x128 : FVec Ideal S16384x128 .f32)
      = Cert.Kernel14Ideal.Value.whole g b := by
  funext i
  obtain ⟨r, j, rfl⟩ : ∃ r j, i = ix2 r j := ⟨i 0, i 1, (ix2_eta i).symm⟩
  pointwise [Cert.Kernel14Ideal.Value.whole]
  by_cases h : j.val / 8 % 2 = 1
  · have e : j.val / 16 * 16 + (1 + (j.val / 8 % 2 - 1)) * 8 + j.val % 8 = j.val := by omega
    refine (dif_neg (by omega)).trans (Eq.trans ?_ (if_pos h).symm)
    refine Eq.trans ?_ (Cert.Kernel14Ideal.Value.logsig_eq _)
    simp only [e]
  · exact (dif_pos (by omega)).trans (if_neg h).symm

end Cert.Reference14Ideal.Value
end
-- ==== Proof.LnResT.lean ====
module

public import proofs.«01_k».proof.Proof.Norm
public import proofs.«01_k».proof.Proof.Gen.Kernel15Ideal.Value
public import proofs.«01_k».proof.Proof.Gen.Reference15Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel15Ideal.Value

open Cert.Kernel15Ideal Cert.Kernel15Ideal.Gen

/-- The normalised residual of a transposed summand, row by row. -/
def normed (h : FVec Ideal S16384x2048 .f32) (y : FVec Ideal S2048x16384 .f32) (g w b : FVec Ideal S1x2048 .f32) : FVec Ideal S16384x2048 .f32 :=
  fun i => Norm.residual (fun s => h (ix2 (i 0) s)) (fun s => y (ix2 s (i 0))) (fun s => g (ix2 0 s)) (fun s => w (ix2 0 s)) (fun s => b (ix2 0 s)) (i 1)

/-- One block of the normalised residual. -/
theorem normed_apply (y : Vec Ideal S2048x256 .f32) (h : Vec Ideal S256x2048 .f32) (g w b : Vec Ideal S1x2048 .f32) (i : Fin 256) (j : Fin 2048) :
    k0_pay1 (F := Ideal) y h g w b (ix2 i j)
      = Norm.residual (fun s => h (ix2 i s)) (fun s => y (ix2 s i)) (fun s => g (ix2 0 s)) (fun s => w (ix2 0 s)) (fun s => b (ix2 0 s)) j := by
  pointwise [k0_pay1]
  rfl

variable (m : (ℓ : Loc nD τ sig) → Buf (Elt Ideal) ℓ)

/-- The block of each window at each grid point. -/
theorem idx : ∀ t : Fin cfg0.N, win0_0.index t = ![t.val, 0] ∧ win0_1.index t = ![0, t.val] ∧ win0_2.index t = ![0, 0]
    ∧ win0_3.index t = ![0, 0] ∧ win0_4.index t = ![0, 0] ∧ win0_7.index t = ![t.val, 0] ∧ t.val < 64 :=
  (by decide +kernel : ∀ t : Fin grid0.N, _)

/-- A block of the residual's rows. -/
theorem block0 (c : Dev nD) (t : Fin cfg0.N) (i : Fin 256) (k : Fin 2048) : (iblk m c 0 t : Vec Ideal S256x2048 .f32) (ix2 i k)
    = (m ((c.tc : Thread nD τ).loc main_arg0) : FVec Ideal S16384x2048 .f32) (ix2 ⟨t.val * 256 + i.val, by have := idx t; omega⟩ k) := by
  blk_ext [iblk, V, idx t]

/-- A block of the transposed summand's columns. -/
theorem block1 (c : Dev nD) (t : Fin cfg0.N) (i : Fin 256) (k : Fin 2048) : (iblk m c 1 t : Vec Ideal S2048x256 .f32) (ix2 k i)
    = (m ((c.tc : Thread nD τ).loc main_arg1) : FVec Ideal S2048x16384 .f32) (ix2 k ⟨t.val * 256 + i.val, by have := idx t; omega⟩) := by
  blk_ext [iblk, V, idx t]

/-- Argument 2, at every grid point. -/
theorem block2 (c : Dev nD) (t : Fin cfg0.N) (k : Fin 2048) : (iblk m c 2 t : Vec Ideal S1x2048 .f32) (ix2 0 k)
    = (m ((c.tc : Thread nD τ).loc main_arg2) : FVec Ideal S1x2048 .f32) (ix2 0 k) := by
  blk_ext [iblk, V, idx t]

/-- Argument 3, at every grid point. -/
theorem block3 (c : Dev nD) (t : Fin cfg0.N) (k : Fin 2048) : (iblk m c 3 t : Vec Ideal S1x2048 .f32) (ix2 0 k)
    = (m ((c.tc : Thread nD τ).loc main_arg3) : FVec Ideal S1x2048 .f32) (ix2 0 k) := by
  blk_ext [iblk, V, idx t]

/-- Argument 4, at every grid point. -/
theorem block4 (c : Dev nD) (t : Fin cfg0.N) (k : Fin 2048) : (iblk m c 4 t : Vec Ideal S1x2048 .f32) (ix2 0 k)
    = (m ((c.tc : Thread nD τ).loc main_arg4) : FVec Ideal S1x2048 .f32) (ix2 0 k) := by
  blk_ext [iblk, V, idx t]

/-- A block's normalised residual is the whole's there. -/
theorem block (c : Dev nD) (t : Fin cfg0.N) (i : Fin 256) (j : Fin 2048) (k : S16384x2048.Idx)
    (h0 : (k 0).val = t.val * 256 + i.val) (h1 : (k 1).val = j.val) :
    Norm.residual (fun s => (iblk m c 0 t : Vec Ideal S256x2048 .f32) (ix2 i s)) (fun s => (iblk m c 1 t : Vec Ideal S2048x256 .f32) (ix2 s i))
        (fun s => (iblk m c 2 t : Vec Ideal S1x2048 .f32) (ix2 0 s)) (fun s => (iblk m c 3 t : Vec Ideal S1x2048 .f32) (ix2 0 s))
        (fun s => (iblk m c 4 t : Vec Ideal S1x2048 .f32) (ix2 0 s)) j
      = normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) k := by
  have e : (⟨t.val * 256 + i.val, by have := idx t; omega⟩ : Fin 16384) = k 0 := Fin.ext h0.symm
  exact Norm.residual_congr (fun s => (block0 m c t i s).trans (by rw [e])) (fun s => (block1 m c t i s).trans (by rw [e]))
    (fun s => block2 m c t s) (fun s => block3 m c t s) (fun s => block4 m c t s) (Fin.ext h1.symm)

/-- The kernel's array. -/
theorem final (c : Dev nD) : (dats m 0 c).arrAt 7 cfg0.N = normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  have w0 : win0_7.index t 0 = t.val := (idx t).2.2.2.2.2.1 ▸ rfl
  have w1 : win0_7.index t 1 = 0 := (idx t).2.2.2.2.2.1 ▸ rfl
  blk_simp
  rw [after0_7]
  frame_out
  refine (congrArg _ (ix2_eta y).symm).trans ((normed_apply _ _ _ _ _ (y 0) (y 1)).trans ?_)
  refine block m c t (y 0) (y 1) _ ?_ ?_
  · show win0_7.index t 0 * 256 + 1 * (y 0).val = t.val * 256 + (y 0).val
    omega
  · show win0_7.index t 1 * 2048 + 1 * (y 1).val = (y 1).val
    omega

end Cert.Kernel15Ideal.Value

namespace Cert.Reference15Ideal.Value

open Cert.Reference15Ideal Cert.Reference15Ideal.Gen

/-- The reference's array. -/
theorem normed (h : FVec Ideal S16384x2048 .f32) (y : FVec Ideal S2048x16384 .f32) (g w b : FVec Ideal S1x2048 .f32) :
    (addf (mulf (mulf (subf (addf (mulf (broadcastInDim S16384x2048 ![] bcast_S_S16384x2048 (constant S_ .f32 0x3FB504F3#32)) h) (mulf (broadcastInDim S16384x2048 ![0, 1] bcast_S1x2048_S16384x2048_0_1 g) (transpose S16384x2048 [1, 0] y transposes_S2048x16384_S16384x2048_1_0))) (broadcastInDim S16384x2048 ![0, 1] bcast_S16384x1_S16384x2048_0_1 (Host.divf (broadcastInDim S16384x1 ![0] bcast_S16384_S16384x1_0 (Host.reduceAdd (addf (mulf (broadcastInDim S16384x2048 ![] bcast_S_S16384x2048 (constant S_ .f32 0x3FB504F3#32)) h) (mulf (broadcastInDim S16384x2048 ![0, 1] bcast_S1x2048_S16384x2048_0_1 g) (transpose S16384x2048 [1, 0] y transposes_S2048x16384_S16384x2048_1_0))) (constant S_ .f32 0x00000000#32) reducesTo_S16384x2048_S16384_d1 h_S_)) (broadcastInDim S16384x1 ![] bcast_S_S16384x1 (constant S_ .f32 0x45000000#32))))) (broadcastInDim S16384x2048 ![0, 1] bcast_S16384x1_S16384x2048_0_1 (Host.rsqrt (addf (Host.divf (broadcastInDim S16384x1 ![0] bcast_S16384_S16384x1_0 (Host.reduceAdd (mulf (subf (addf (mulf (broadcastInDim S16384x2048 ![] bcast_S_S16384x2048 (constant S_ .f32 0x3FB504F3#32)) h) (mulf (broadcastInDim S16384x2048 ![0, 1] bcast_S1x2048_S16384x2048_0_1 g) (transpose S16384x2048 [1, 0] y transposes_S2048x16384_S16384x2048_1_0))) (broadcastInDim S16384x2048 ![0, 1] bcast_S16384x1_S16384x2048_0_1 (Host.divf (broadcastInDim S16384x1 ![0] bcast_S16384_S16384x1_0 (Host.reduceAdd (addf (mulf (broadcastInDim S16384x2048 ![] bcast_S_S16384x2048 (constant S_ .f32 0x3FB504F3#32)) h) (mulf (broadcastInDim S16384x2048 ![0, 1] bcast_S1x2048_S16384x2048_0_1 g) (transpose S16384x2048 [1, 0] y transposes_S2048x16384_S16384x2048_1_0))) (constant S_ .f32 0x00000000#32) reducesTo_S16384x2048_S16384_d1 h_S_)) (broadcastInDim S16384x1 ![] bcast_S_S16384x1 (constant S_ .f32 0x45000000#32))))) (subf (addf (mulf (broadcastInDim S16384x2048 ![] bcast_S_S16384x2048 (constant S_ .f32 0x3FB504F3#32)) h) (mulf (broadcastInDim S16384x2048 ![0, 1] bcast_S1x2048_S16384x2048_0_1 g) (transpose S16384x2048 [1, 0] y transposes_S2048x16384_S16384x2048_1_0))) (broadcastInDim S16384x2048 ![0, 1] bcast_S16384x1_S16384x2048_0_1 (Host.divf (broadcastInDim S16384x1 ![0] bcast_S16384_S16384x1_0 (Host.reduceAdd (addf (mulf (broadcastInDim S16384x2048 ![] bcast_S_S16384x2048 (constant S_ .f32 0x3FB504F3#32)) h) (mulf (broadcastInDim S16384x2048 ![0, 1] bcast_S1x2048_S16384x2048_0_1 g) (transpose S16384x2048 [1, 0] y transposes_S2048x16384_S16384x2048_1_0))) (constant S_ .f32 0x00000000#32) reducesTo_S16384x2048_S16384_d1 h_S_)) (broadcastInDim S16384x1 ![] bcast_S_S16384x1 (constant S_ .f32 0x45000000#32)))))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 w)) (broadcastInDim S16384x2048 ![0, 1] bcast_S1x2048_S16384x2048_0_1 b) : FVec Ideal S16384x2048 .f32)
      = Cert.Kernel15Ideal.Value.normed h y g w b := by
  funext i
  obtain ⟨r, j, rfl⟩ : ∃ r j, i = ix2 r j := ⟨i 0, i 1, (ix2_eta i).symm⟩
  pointwise [Cert.Kernel15Ideal.Value.normed]
  rfl

end Cert.Reference15Ideal.Value
end
-- ==== Proof.ProjG.lean ====
module

public import proofs.«01_k».proof.Proof.Row
public import proofs.«01_k».proof.Proof.Real
public import proofs.«01_k».proof.Proof.Gen.Kernel16Ideal.Value
public import proofs.«01_k».proof.Proof.Gen.Reference16Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Pre_gates_finite

/-- The witness of the precondition's side conditions. -/
theorem facts : Facts :=
  ⟨by decide, by decide, by decide, by decide, by decide, by decide, by decide, by decide⟩

attribute [local instance] facts

/-- All that the gates' projection reads is real. -/
structure Reals (x : FVec Ideal S16384x2048 .f32) (s h : FVec Ideal S1x2048 .f32) (w : FVec Ideal S2048x6176 .f32) : Prop where
  x : ∀ (i : Fin 16384) (k : Fin 2048), ∃ r : ℝ, x (ix2 i k) = r
  s : ∀ k : Fin 2048, ∃ r : ℝ, s (ix2 0 k) = r
  h : ∀ k : Fin 2048, ∃ r : ℝ, h (ix2 0 k) = r
  w : ∀ (k : Fin 2048) (j : Fin 32), ∃ r : ℝ, w (ix2 k ⟨6144 + j.val, by omega⟩) = r

/-- The precondition says so. -/
theorem reals (x : FVec Ideal S16384x2048 .f32) (s h : FVec Ideal S1x2048 .f32) (w : FVec Ideal S2048x6176 .f32)
    (hp : fn (F := Ideal) x s h w = fun _ => 1#1) : Reals x s h w := by
  have e : fn (F := Ideal) x s h w ix0 = 1#1 := congrFun hp ix0
  unfold fn fn_part1 at e
  dsimp only at e
  have ew := IntOp.andi_eq_one.1 e
  have eh := IntOp.andi_eq_one.1 ew.1
  have ex := IntOp.andi_eq_one.1 eh.1
  refine ⟨fun i k => ?_, fun k => ?_, fun k => ?_, fun k j => ?_⟩
  · exact Cert.Pre_scores_finite.real_of_cmp _ (Host.reduce_andi_all _ _ _ _ _ ex.1 (ix2 i k))
  · exact Cert.Pre_scores_finite.real_of_cmp _ (Host.reduce_andi_all _ _ _ _ _ ex.2 (ix2 0 k))
  · exact Cert.Pre_scores_finite.real_of_cmp _ (Host.reduce_andi_all _ _ _ _ _ eh.2 (ix2 0 k))
  · have := Cert.Pre_scores_finite.real_of_cmp _ (Host.reduce_andi_all _ _ _ _ _ ew.2 (ix2 k j))
    pointwise at this
    exact this

end Cert.Pre_gates_finite

namespace Cert.Kernel16Ideal.Value

open Cert.Kernel16Ideal Cert.Kernel16Ideal.Gen

/-- The gates' columns and the zeros after them. -/
def column (w : FVec Ideal S2048x6176 .f32) (k : Fin 2048) (j : Fin 128) : EReal :=
  if h : j.val < 32 then w (ix2 k ⟨6144 + j.val, by omega⟩) else 0

/-- The projection, element by element. -/
def whole (x : FVec Ideal S16384x2048 .f32) (s h : FVec Ideal S1x2048 .f32) (w : FVec Ideal S2048x6176 .f32) : FVec Ideal S16384x128 .f32 :=
  fun i => Row.projected 0 (Nat.le_refl 128) (fun i k => x (ix2 i k)) (fun k => s (ix2 0 k)) (fun k => h (ix2 0 k)) (column w) (i 0) (i 1)

/-- The product with both factors split in two and the product of the rests left out. -/
def split {K : ℕ} (a b : Fin K → EReal) : EReal := Row.times a b + (Row.times a (fun k => b k - b k) + Row.times (fun k => a k - a k) b)

/-- For real factors the rests are zero. -/
theorem split_eq {K : ℕ} (a b : Fin K → EReal) (ha : ∀ k, ∃ r : ℝ, a k = r) (hb : ∀ k, ∃ r : ℝ, b k = r) : split a b = Row.times a b := by
  have e : ∀ x : EReal, (∃ r : ℝ, x = r) → x - x = 0 := fun x ⟨r, hr⟩ => by rw [hr, ← EReal.coe_sub, sub_self, EReal.coe_zero]
  unfold split
  rw [funext fun k => e _ (ha k), funext fun k => e _ (hb k)]
  unfold Row.times
  simp

/-- One block of the projection. -/
theorem block_apply (a : Vec Ideal S1024x2048 .f32) (s h : Vec Ideal S1x2048 .f32) (b : Vec Ideal S2048x128 .f32) (i : Fin 1024) (j : Fin 128) :
    k0_pay1 (F := Ideal) a s h b (ix2 i j)
      = split (fun k : Fin 2048 => Row.modulated (a (ix2 i k)) (s (ix2 0 k)) (h (ix2 0 k))) (fun k => b (ix2 k j)) := by
  pointwise [k0_pay1]
  rfl

variable (m : (ℓ : Loc nD τ sig) → Buf (Elt Ideal) ℓ)

/-- The columns the kernel is called with. -/
theorem columns (c : Dev nD) (k : Fin 2048) (j : Fin 128) :
    (V m c main_v1 : FVec Ideal S2048x128 .f32) (ix2 k j) = column (m ((c.tc : Thread nD τ).loc main_arg3)) k j := by
  unfold V
  simp only [hostOps0, hostOps0_1, List.flatten_cons, List.flatten_nil, List.append_nil, List.cons_append, List.nil_append]
  after_reads_at
  refine dite_congr rfl (fun _ => rfl) fun _ => ?_
  show (((0#32 : BitVec 32).toInt : ℝ) : EReal) = 0
  simp

/-- The block of each window at each grid point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ t.val < 16 :=
  (by decide +kernel : ∀ t : Fin grid0.N, _)

/-- A block of rows, in the argument. -/
theorem rows_block (c : Dev nD) (t : Fin cfg0.N) (i : Fin 1024) (k : Fin 2048) : (iblk m c 0 t : Vec Ideal S1024x2048 .f32) (ix2 i k)
    = (m ((c.tc : Thread nD τ).loc main_arg0) : FVec Ideal S16384x2048 .f32) (ix2 ⟨t.val * 1024 + i.val, by have := idx t; omega⟩ k) := by
  blk_ext [iblk, V, idx t]

/-- The scales, whole at every point. -/
theorem scale_block (c : Dev nD) (t : Fin cfg0.N) (k : Fin 2048) : (iblk m c 1 t : Vec Ideal S1x2048 .f32) (ix2 0 k)
    = (m ((c.tc : Thread nD τ).loc main_arg1) : FVec Ideal S1x2048 .f32) (ix2 0 k) := by
  blk_ext [iblk, V, idx t]

/-- The shifts, whole at every point. -/
theorem shift_block (c : Dev nD) (t : Fin cfg0.N) (k : Fin 2048) : (iblk m c 2 t : Vec Ideal S1x2048 .f32) (ix2 0 k)
    = (m ((c.tc : Thread nD τ).loc main_arg2) : FVec Ideal S1x2048 .f32) (ix2 0 k) := by
  blk_ext [iblk, V, idx t]

/-- The columns, whole at every point. -/
theorem columns_block (c : Dev nD) (t : Fin cfg0.N) (k : Fin 2048) (j : Fin 128) : (iblk m c 3 t : Vec Ideal S2048x128 .f32) (ix2 k j)
    = column (m ((c.tc : Thread nD τ).loc main_arg3)) k j := by
  refine Eq.trans (b := (V m c main_v1 : FVec Ideal S2048x128 .f32) (ix2 k j)) ?_ (columns m c k j)
  blk_ext [iblk, idx t]

/-- A block is the whole's there. -/
theorem block (c : Dev nD) (ok : Cert.Pre_gates_finite.Reals (m ((c.tc : Thread nD τ).loc main_arg0)) (m ((c.tc : Thread nD τ).loc main_arg1)) (m ((c.tc : Thread nD τ).loc main_arg2)) (m ((c.tc : Thread nD τ).loc main_arg3))) (t : Fin cfg0.N) (i : Fin 1024) (j : Fin 128) (k : S16384x128.Idx)
    (h0 : (k 0).val = t.val * 1024 + i.val) (h1 : (k 1).val = j.val) :
    split (fun k : Fin 2048 => Row.modulated ((iblk m c 0 t : Vec Ideal S1024x2048 .f32) (ix2 i k)) ((iblk m c 1 t : Vec Ideal S1x2048 .f32) (ix2 0 k))
        ((iblk m c 2 t : Vec Ideal S1x2048 .f32) (ix2 0 k))) (fun k => (iblk m c 3 t : Vec Ideal S2048x128 .f32) (ix2 k j))
      = whole (m ((c.tc : Thread nD τ).loc main_arg0)) (m ((c.tc : Thread nD τ).loc main_arg1)) (m ((c.tc : Thread nD τ).loc main_arg2)) (m ((c.tc : Thread nD τ).loc main_arg3)) k := by
  have e0 : (⟨t.val * 1024 + i.val, by have := idx t; omega⟩ : Fin 16384) = k 0 := Fin.ext h0.symm
  have e1 : j = (⟨0 + (k 1).val, by have : (k 1).val < 128 := (k 1).isLt; omega⟩ : Fin 128) := Fin.ext (by show j.val = 0 + (k 1).val; omega)
  refine (split_eq _ _ (fun q => ?_) fun q => ?_).trans (Row.projected_of_block (i := k 0) (fun q => (rows_block m c t i q).trans (by rw [e0]))
    (scale_block m c t) (shift_block m c t) fun q => (columns_block m c t q j).trans (congrArg (column _ q) e1))
  · obtain ⟨x, hx⟩ := ok.x ⟨t.val * 1024 + i.val, by have := idx t; omega⟩ q
    obtain ⟨s, hs⟩ := ok.s q
    obtain ⟨h, hh⟩ := ok.h q
    refine ⟨x * (1 + s) + h, ?_⟩
    rw [(rows_block m c t i q).trans hx, (scale_block m c t q).trans hs, (shift_block m c t q).trans hh]
    unfold Row.modulated
    rw [← EReal.coe_one, ← EReal.coe_add, ← EReal.coe_mul, ← EReal.coe_add]
  · by_cases hj : j.val < 32
    · obtain ⟨w, hw⟩ := ok.w q ⟨j.val, hj⟩
      exact ⟨w, (columns_block m c t q j).trans ((dif_pos hj).trans hw)⟩
    · exact ⟨0, (columns_block m c t q j).trans (dif_neg hj)⟩

/-- The kernel's array. -/
theorem final (c : Dev nD) (ok : Cert.Pre_gates_finite.Reals (m ((c.tc : Thread nD τ).loc main_arg0)) (m ((c.tc : Thread nD τ).loc main_arg1)) (m ((c.tc : Thread nD τ).loc main_arg2)) (m ((c.tc : Thread nD τ).loc main_arg3))) : (dats m 0 c).arrAt 4 cfg0.N = whole (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  have w0 : win0_4.index t 0 = t.val := (idx t).2.2.2.2.1 ▸ rfl
  have w1 : win0_4.index t 1 = 0 := (idx t).2.2.2.2.1 ▸ rfl
  blk_simp
  rw [after0_4]
  frame_out
  refine (congrArg _ (ix2_eta y).symm).trans ((block_apply _ _ _ _ (y 0) (y 1)).trans ?_)
  refine block m c ok t (y 0) (y 1) _ ?_ ?_
  · show win0_4.index t 0 * 1024 + 1 * (y 0).val = t.val * 1024 + (y 0).val
    omega
  · show win0_4.index t 1 * 128 + 1 * (y 1).val = (y 1).val
    omega

end Cert.Kernel16Ideal.Value

namespace Cert.Reference16Ideal.Value

open Cert.Reference16Ideal Cert.Reference16Ideal.Gen

/-- The reference's array is the projection. -/
theorem product (x : FVec Ideal S16384x2048 .f32) (s h : FVec Ideal S1x2048 .f32) (w : FVec Ideal S2048x6176 .f32) :
    (Host.dotGeneral dot_S16384x2048_S2048x128_S16384x128_1_0_0_1_n_n none (addf (mulf x (broadcastInDim S16384x2048 ![0, 1] bcast_S1x2048_S16384x2048_0_1 (addf (broadcastInDim S1x2048 ![] bcast_S_S1x2048 (constant S_ .f32 0x3F800000#32)) s))) (broadcastInDim S16384x2048 ![0, 1] bcast_S1x2048_S16384x2048_0_1 h)) (concatenate S2048x128 1 [⟨S2048x32, (extractStridedSlice S2048x32 ![0, 6144] w slices_S2048x6176_S2048x32_0_6144)⟩, ⟨S2048x96, (broadcastInDim S2048x96 ![] bcast_S_S2048x96 (constant S_ .f32 0x00000000#32))⟩] concatenates_S2048x32_S2048x96_S2048x128_d1) : FVec Ideal S16384x128 .f32)
      = Cert.Kernel16Ideal.Value.whole x s h w := by
  funext i
  obtain ⟨r, j, rfl⟩ : ∃ r j, i = ix2 r j := ⟨i 0, i 1, (ix2_eta i).symm⟩
  pointwise [Cert.Kernel16Ideal.Value.whole, Row.projected]
  rfl

end Cert.Reference16Ideal.Value
end
-- ==== Proof.ShortConv.lean ====
module

public import proofs.«01_k».proof.Proof.Row
public import proofs.«01_k».proof.Proof.Gen.Kernel17Ideal.Value
public import proofs.«01_k».proof.Proof.Gen.Reference17Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel17Ideal.Value

open Cert.Kernel17Ideal Cert.Kernel17Ideal.Gen

/-- The rows with one row of zeros before and after them. -/
def padded (p : FVec Ideal S16384x3072 .f32) (k : ℕ) (j : Fin 3072) : EReal :=
  if h : 1 ≤ k ∧ k - 1 < 16384 then p (ix2 ⟨k - 1, h.2⟩ j) else 0

/-- The rows of zeros. -/
theorem padded_zero (p : FVec Ideal S16384x3072 .f32) (k : ℕ) (j : Fin 3072) (h : ¬(1 ≤ k ∧ k - 1 < 16384)) : padded p k j = 0 := by
  unfold padded
  exact dif_neg h

/-- The short convolution, element by element. -/
def conv (p : FVec Ideal S16384x3072 .f32) (w : FVec Ideal S3x3072 .f32) (b : FVec Ideal S3072 .f32) (r : Fin 16384) (j : Fin 3072) : EReal :=
  b (ix1 j) + padded p r.val j * w (ix2 0 j) + p (ix2 r j) * w (ix2 1 j) + padded p (2 + r.val) j * w (ix2 2 j)

/-- One of its groups of 1024 columns. -/
def group (o : ℕ) (ho : o + 1024 ≤ 3072) (p : FVec Ideal S16384x3072 .f32) (w : FVec Ideal S3x3072 .f32) (b : FVec Ideal S3072 .f32) :
    FVec Ideal S16384x1024 .f32 :=
  fun i => conv p w b (i 0) ⟨o + (i 1).val, by have : (i 1).val < 1024 := (i 1).isLt; omega⟩

/-- What the kernel takes for the row before. -/
def before (t : ℕ) (i : Fin 256) (p : EReal) (x : Fin 256 → EReal) : EReal :=
  Scalar.select (IntOp.cmpi CmpIPredicate.eq (BitVec.ofNat 32 i.val) 0#32)
    (Scalar.select (Scalar.cmpi CmpIPredicate.sgt (BitVec.ofNat 32 t) 0#32) p 0) (x ⟨(i.val + 256 - 1) % 256, Nat.mod_lt _ (by decide)⟩)

/-- What the kernel takes for the row after. -/
def behind (t : ℕ) (i : Fin 256) (n : EReal) (x : Fin 256 → EReal) : EReal :=
  Scalar.select (IntOp.cmpi CmpIPredicate.eq (BitVec.ofNat 32 i.val) 255#32)
    (Scalar.select (Scalar.cmpi CmpIPredicate.slt (BitVec.ofNat 32 t) 63#32) n 0) (x ⟨(i.val + 256 - 255) % 256, Nat.mod_lt _ (by decide)⟩)

/-- The kernel's choices, decided. -/
theorem choices : (∀ i : Fin 256, IntOp.cmpi CmpIPredicate.eq (BitVec.ofNat 32 i.val) 0#32 = if i.val = 0 then 1#1 else 0#1)
    ∧ (∀ i : Fin 256, IntOp.cmpi CmpIPredicate.eq (BitVec.ofNat 32 i.val) 255#32 = if i.val = 255 then 1#1 else 0#1)
    ∧ (∀ t : Fin 64, Scalar.cmpi CmpIPredicate.sgt (BitVec.ofNat 32 t.val) 0#32 = if 0 < t.val then 1#1 else 0#1)
    ∧ ∀ t : Fin 64, Scalar.cmpi CmpIPredicate.slt (BitVec.ofNat 32 t.val) 63#32 = if t.val < 63 then 1#1 else 0#1 := by
  decide +kernel

/-- A choice by a decided bit. -/
theorem select_ite (c : Prop) [Decidable c] (a b : EReal) : Scalar.select (if c then 1#1 else 0#1) a b = if c then a else b := by
  by_cases h : c <;> simp [Scalar.select, h]

/-- The row before, in the padded rows. -/
theorem before_eq (p : FVec Ideal S16384x3072 .f32) (j : Fin 3072) (t : ℕ) (ht : t < 64) (i : Fin 256) (a : EReal) (x : Fin 256 → EReal)
    (ha : 0 < t → a = padded p (t * 256) j) (hx : ∀ i, x i = padded p (t * 256 + i.val + 1) j) :
    before t i a x = padded p (t * 256 + i.val) j := by
  unfold before
  rw [choices.1 i, choices.2.2.1 ⟨t, ht⟩, select_ite, select_ite]
  dsimp only
  by_cases hi : i.val = 0
  · rw [if_pos hi]
    by_cases h : 0 < t
    · rw [if_pos h, ha h, hi, Nat.add_zero]
    · rw [if_neg h]
      exact (padded_zero p _ j (by omega)).symm
  · rw [if_neg hi, hx]
    exact congrArg (fun k => padded p k j) (by show t * 256 + (i.val + 256 - 1) % 256 + 1 = _; omega)

/-- The row after, in the padded rows. -/
theorem behind_eq (p : FVec Ideal S16384x3072 .f32) (j : Fin 3072) (t : ℕ) (ht : t < 64) (i : Fin 256) (a : EReal) (x : Fin 256 → EReal)
    (ha : t < 63 → a = padded p (t * 256 + 257) j) (hx : ∀ i, x i = padded p (t * 256 + i.val + 1) j) :
    behind t i a x = padded p (2 + (t * 256 + i.val)) j := by
  unfold behind
  rw [choices.2.1 i, choices.2.2.2 ⟨t, ht⟩, select_ite, select_ite]
  dsimp only
  by_cases hi : i.val = 255
  · rw [if_pos hi]
    by_cases h : t < 63
    · rw [if_pos h, ha h]
      exact congrArg (fun k => padded p k j) (by omega)
    · rw [if_neg h]
      exact (padded_zero p _ j (by omega)).symm
  · rw [if_neg hi, hx]
    exact congrArg (fun k => padded p k j) (by show t * 256 + (i.val + 256 - 255) % 256 + 1 = _; omega)

/-- One block of the convolution. -/
theorem block_apply (t : grid0.Coords) (p : Vec Ideal S8x3072 .f32) (x : Vec Ideal S256x3072 .f32) (n : Vec Ideal S8x3072 .f32) (w : Vec Ideal S3x3072 .f32)
    (b : Vec Ideal S1x3072 .f32) (i : Fin 256) (j : Fin 3072) :
    k0_pay5 (F := Ideal) t p x n w b (ix2 i j)
      = b (ix2 0 j) + before (t 0).val i (p (ix2 7 j)) (fun k => x (ix2 k j)) * w (ix2 0 j) + x (ix2 i j) * w (ix2 1 j)
        + behind (t 0).val i (n (ix2 0 j)) (fun k => x (ix2 k j)) * w (ix2 2 j) := by
  pointwise [k0_pay4, k0_pay5]
  rfl

/-- The first group's columns. -/
theorem first (v : FVec Ideal S256x3072 .f32) (i : Fin 256) (j : Fin 1024) : k0_pay1 v (ix2 i j) = v (ix2 i ⟨0 + j.val, by omega⟩) := by
  pointwise [k0_pay1]

/-- The second group's columns. -/
theorem second (v : FVec Ideal S256x3072 .f32) (i : Fin 256) (j : Fin 1024) : k0_pay2 v (ix2 i j) = v (ix2 i ⟨1024 + j.val, by omega⟩) := by
  pointwise [k0_pay2]

/-- The third group's columns. -/
theorem third (v : FVec Ideal S256x3072 .f32) (i : Fin 256) (j : Fin 1024) : k0_pay3 v (ix2 i j) = v (ix2 i ⟨2048 + j.val, by omega⟩) := by
  pointwise [k0_pay3]

variable (m : (ℓ : Loc nD τ sig) → Buf (Elt Ideal) ℓ)

/-- The block of each window at each grid point. -/
theorem idx : ∀ t : Fin cfg0.N, win0_0.index t = ![32 * t.val - 1, 0] ∧ win0_1.index t = ![t.val, 0] ∧ win0_2.index t = ![min (32 * t.val + 32) 2047, 0]
    ∧ win0_3.index t = ![0, 0] ∧ win0_4.index t = ![0, 0] ∧ win0_5.index t = ![t.val, 0] ∧ win0_6.index t = ![t.val, 0] ∧ win0_7.index t = ![t.val, 0]
    ∧ (grid0.coords t 0).val = t.val ∧ t.val < 64 :=
  (by decide +kernel : ∀ t : Fin grid0.N, _)

/-- The eight rows up to a block. -/
theorem block0 (c : Dev nD) (t : Fin cfg0.N) (i : Fin 8) (k : Fin 3072) : (iblk m c 0 t : Vec Ideal S8x3072 .f32) (ix2 i k)
    = ((m ((c.tc : Thread nD τ).loc main_arg0)) : FVec Ideal S16384x3072 .f32) (ix2 ⟨(32 * t.val - 1) * 8 + i.val, by have := idx t; omega⟩ k) := by
  blk_ext [iblk, V, idx t]

/-- A block of rows. -/
theorem block1 (c : Dev nD) (t : Fin cfg0.N) (i : Fin 256) (k : Fin 3072) : (iblk m c 1 t : Vec Ideal S256x3072 .f32) (ix2 i k)
    = ((m ((c.tc : Thread nD τ).loc main_arg0)) : FVec Ideal S16384x3072 .f32) (ix2 ⟨t.val * 256 + i.val, by have := idx t; omega⟩ k) := by
  blk_ext [iblk, V, idx t]

/-- The eight rows from the end of a block. -/
theorem block2 (c : Dev nD) (t : Fin cfg0.N) (i : Fin 8) (k : Fin 3072) : (iblk m c 2 t : Vec Ideal S8x3072 .f32) (ix2 i k)
    = ((m ((c.tc : Thread nD τ).loc main_arg0)) : FVec Ideal S16384x3072 .f32) (ix2 ⟨min (32 * t.val + 32) 2047 * 8 + i.val, by have := idx t; omega⟩ k) := by
  blk_ext [iblk, V, idx t]

/-- The weights, whole at every point. -/
theorem block3 (c : Dev nD) (t : Fin cfg0.N) (i : Fin 3) (k : Fin 3072) : (iblk m c 3 t : Vec Ideal S3x3072 .f32) (ix2 i k)
    = ((m ((c.tc : Thread nD τ).loc main_arg1)) : FVec Ideal S3x3072 .f32) (ix2 i k) := by
  blk_ext [iblk, V, idx t]

/-- The bias the kernel is called with. -/
theorem bias (c : Dev nD) (j : Fin 3072) :
    (V m c main_v0 : FVec Ideal S1x3072 .f32) (ix2 0 j) = ((m ((c.tc : Thread nD τ).loc main_arg2)) : FVec Ideal S3072 .f32) (ix1 j) := by
  unfold V
  after_reads_at

/-- The bias, whole at every point. -/
theorem block4 (c : Dev nD) (t : Fin cfg0.N) (j : Fin 3072) : (iblk m c 4 t : Vec Ideal S1x3072 .f32) (ix2 0 j)
    = ((m ((c.tc : Thread nD τ).loc main_arg2)) : FVec Ideal S3072 .f32) (ix1 j) := by
  refine Eq.trans (b := (V m c main_v0 : FVec Ideal S1x3072 .f32) (ix2 0 j)) ?_ (bias m c j)
  blk_ext [iblk, idx t]

/-- A row of the argument, in the padded rows. -/
theorem padded_eq (p : FVec Ideal S16384x3072 .f32) (j : Fin 3072) (r : Fin 16384) (k : ℕ) (h : k = r.val + 1) : p (ix2 r j) = padded p k j := by
  subst h
  unfold padded
  rw [dif_pos (show 1 ≤ r.val + 1 ∧ r.val + 1 - 1 < 16384 by omega)]
  rfl

/-- A block is the whole's there. -/
theorem block (c : Dev nD) (t : Fin cfg0.N) (i : Fin 256) (j : Fin 3072) (r : Fin 16384) (l : Fin 3072)
    (h0 : r.val = t.val * 256 + i.val) (h1 : l.val = j.val) :
    k0_pay5 (F := Ideal) (grid0.coords t) (iblk m c 0 t) (iblk m c 1 t) (iblk m c 2 t) (iblk m c 3 t) (iblk m c 4 t) (ix2 i j)
      = conv (m ((c.tc : Thread nD τ).loc main_arg0)) (m ((c.tc : Thread nD τ).loc main_arg1)) (m ((c.tc : Thread nD τ).loc main_arg2)) r l := by
  obtain rfl : j = l := Fin.ext h1.symm
  have ht := (idx t).2.2.2.2.2.2.2.2.2
  have hx : ∀ i : Fin 256, (iblk m c 1 t : Vec Ideal S256x3072 .f32) (ix2 i j) = padded (m ((c.tc : Thread nD τ).loc main_arg0)) (t.val * 256 + i.val + 1) j :=
    fun i => (block1 m c t i j).trans (padded_eq _ j _ _ rfl)
  refine (block_apply _ _ _ _ _ _ i j).trans ?_
  rw [(idx t).2.2.2.2.2.2.2.2.1]
  unfold conv
  refine congrArg₂ (· + ·) (congrArg₂ (· + ·) (congrArg₂ (· + ·) (block4 m c t j) (congrArg₂ (· * ·) ?_ (block3 m c t 0 j)))
    (congrArg₂ (· * ·) ?_ (block3 m c t 1 j))) (congrArg₂ (· * ·) ?_ (block3 m c t 2 j))
  · rw [h0]
    exact before_eq _ j t.val ht i _ _ (fun h => (block0 m c t 7 j).trans (padded_eq _ j _ _ (by show t.val * 256 = (32 * t.val - 1) * 8 + 7 + 1; omega))) hx
  · exact (block1 m c t i j).trans (congrArg (fun r => ((m ((c.tc : Thread nD τ).loc main_arg0)) : FVec Ideal S16384x3072 .f32) (ix2 r j)) (Fin.ext h0.symm))
  · rw [h0]
    exact behind_eq _ j t.val ht i _ _ (fun h => (block2 m c t 0 j).trans (padded_eq _ j _ _ (by show t.val * 256 + 257 = min (32 * t.val + 32) 2047 * 8 + 0 + 1; omega))) hx

/-- The kernel's array of the first group. -/
theorem final_first (c : Dev nD) : (dats m 0 c).arrAt 5 cfg0.N = group 0 (by decide) (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  have w0 : win0_5.index t 0 = t.val := (idx t).2.2.2.2.2.1 ▸ rfl
  have w1 : win0_5.index t 1 = 0 := (idx t).2.2.2.2.2.1 ▸ rfl
  blk_simp
  rw [after0_5]
  frame_out
  refine (congrArg _ (ix2_eta y).symm).trans ((first _ (y 0) (y 1)).trans ?_)
  refine block m c t (y 0) _ _ _ ?_ ?_
  · show win0_5.index t 0 * 256 + 1 * (y 0).val = t.val * 256 + (y 0).val
    omega
  · show 0 + (win0_5.index t 1 * 1024 + 1 * (y 1).val) = 0 + (y 1).val
    omega

/-- The kernel's array of the second group. -/
theorem final_second (c : Dev nD) : (dats m 0 c).arrAt 6 cfg0.N = group 1024 (by decide) (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  have w0 : win0_6.index t 0 = t.val := (idx t).2.2.2.2.2.2.1 ▸ rfl
  have w1 : win0_6.index t 1 = 0 := (idx t).2.2.2.2.2.2.1 ▸ rfl
  blk_simp
  rw [after0_6]
  frame_out
  refine (congrArg _ (ix2_eta y).symm).trans ((second _ (y 0) (y 1)).trans ?_)
  refine block m c t (y 0) _ _ _ ?_ ?_
  · show win0_6.index t 0 * 256 + 1 * (y 0).val = t.val * 256 + (y 0).val
    omega
  · show 1024 + (win0_6.index t 1 * 1024 + 1 * (y 1).val) = 1024 + (y 1).val
    omega

/-- The kernel's array of the third group. -/
theorem final_third (c : Dev nD) : (dats m 0 c).arrAt 7 cfg0.N = group 2048 (by decide) (m ((c.tc : Thread nD τ).loc main_arg0)) (m ((c.tc : Thread nD τ).loc main_arg1)) (m ((c.tc : Thread nD τ).loc main_arg2)) := by
  refine (dats m 0 c).arrAt_eq_of_covers 7 _ (by decide +kernel) fun t hf y => ?_
  have w0 : win0_7.index t 0 = t.val := (idx t).2.2.2.2.2.2.2.1 ▸ rfl
  have w1 : win0_7.index t 1 = 0 := (idx t).2.2.2.2.2.2.2.1 ▸ rfl
  blk_simp
  rw [after0_7]
  frame_out
  refine (congrArg _ (ix2_eta y).symm).trans ((third _ (y 0) (y 1)).trans ?_)
  refine block m c t (y 0) _ _ _ ?_ ?_
  · show win0_7.index t 0 * 256 + 1 * (y 0).val = t.val * 256 + (y 0).val
    omega
  · show 2048 + (win0_7.index t 1 * 1024 + 1 * (y 1).val) = 2048 + (y 1).val
    omega

end Cert.Kernel17Ideal.Value

namespace Cert.Reference17Ideal.Value

open Cert.Reference17Ideal Cert.Reference17Ideal.Gen

/-- The padding's zero. -/
theorem zero : (FloatOps.sitofp (F := Ideal) .f32 0#32 : EReal) = 0 := by
  show (((0#32 : BitVec 32).toInt : ℝ) : EReal) = 0
  simp

/-- The reference's array of the first group. -/
theorem first (x : FVec Ideal S16384x3072 .f32) (w : FVec Ideal S3x3072 .f32) (b : FVec Ideal S3072 .f32) :
    (extractStridedSlice S16384x1024 ![0, 0] (addf (addf (addf (broadcastInDim S16384x3072 ![0, 1] bcast_S1x3072_S16384x3072_0_1 (broadcastInDim S1x3072 ![1] bcast_S3072_S1x3072_1 b)) (mulf (extractStridedSlice S16384x3072 ![0, 0] (pad S16386x3072 ![1, 0] ![1, 0] ![0, 0] x (sitofp .f32 (constantI S_ 32 0#32)) pads_S16384x3072_S16386x3072_110_000 h_S_) slices_S16386x3072_S16384x3072_0_0) (broadcastInDim S16384x3072 ![0, 1] bcast_S1x3072_S16384x3072_0_1 (broadcastInDim S1x3072 ![1] bcast_S3072_S1x3072_1 (shapeCast _ (extractStridedSlice S1x3072 ![0, 0] w slices_S3x3072_S1x3072_0_0) shapeCasts_S1x3072_S3072))))) (mulf (extractStridedSlice S16384x3072 ![1, 0] (pad S16386x3072 ![1, 0] ![1, 0] ![0, 0] x (sitofp .f32 (constantI S_ 32 0#32)) pads_S16384x3072_S16386x3072_110_000 h_S_) slices_S16386x3072_S16384x3072_1_0) (broadcastInDim S16384x3072 ![0, 1] bcast_S1x3072_S16384x3072_0_1 (broadcastInDim S1x3072 ![1] bcast_S3072_S1x3072_1 (shapeCast _ (extractStridedSlice S1x3072 ![1, 0] w slices_S3x3072_S1x3072_1_0) shapeCasts_S1x3072_S3072))))) (mulf (extractStridedSlice S16384x3072 ![2, 0] (pad S16386x3072 ![1, 0] ![1, 0] ![0, 0] x (sitofp .f32 (constantI S_ 32 0#32)) pads_S16384x3072_S16386x3072_110_000 h_S_) slices_S16386x3072_S16384x3072_2_0) (broadcastInDim S16384x3072 ![0, 1] bcast_S1x3072_S16384x3072_0_1 (broadcastInDim S1x3072 ![1] bcast_S3072_S1x3072_1 (shapeCast _ (extractStridedSlice S1x3072 ![2, 0] w slices_S3x3072_S1x3072_2_0) shapeCasts_S1x3072_S3072))))) slices_S16384x3072_S16384x1024_0_0 : FVec Ideal S16384x1024 .f32)
      = Cert.Kernel17Ideal.Value.group 0 (by decide) x w b := by
  funext i
  obtain ⟨r, j, rfl⟩ : ∃ r j, i = ix2 r j := ⟨i 0, i 1, (ix2_eta i).symm⟩
  have hj : j.val < 3072 := by omega
  pointwise [Cert.Kernel17Ideal.Value.group, Cert.Kernel17Ideal.Value.conv, Cert.Kernel17Ideal.Value.padded]
  simp only [zero, hj, and_true, dite_true]

/-- The reference's array of the second group. -/
theorem second (x : FVec Ideal S16384x3072 .f32) (w : FVec Ideal S3x3072 .f32) (b : FVec Ideal S3072 .f32) :
    (extractStridedSlice S16384x1024 ![0, 1024] (addf (addf (addf (broadcastInDim S16384x3072 ![0, 1] bcast_S1x3072_S16384x3072_0_1 (broadcastInDim S1x3072 ![1] bcast_S3072_S1x3072_1 b)) (mulf (extractStridedSlice S16384x3072 ![0, 0] (pad S16386x3072 ![1, 0] ![1, 0] ![0, 0] x (sitofp .f32 (constantI S_ 32 0#32)) pads_S16384x3072_S16386x3072_110_000 h_S_) slices_S16386x3072_S16384x3072_0_0) (broadcastInDim S16384x3072 ![0, 1] bcast_S1x3072_S16384x3072_0_1 (broadcastInDim S1x3072 ![1] bcast_S3072_S1x3072_1 (shapeCast _ (extractStridedSlice S1x3072 ![0, 0] w slices_S3x3072_S1x3072_0_0) shapeCasts_S1x3072_S3072))))) (mulf (extractStridedSlice S16384x3072 ![1, 0] (pad S16386x3072 ![1, 0] ![1, 0] ![0, 0] x (sitofp .f32 (constantI S_ 32 0#32)) pads_S16384x3072_S16386x3072_110_000 h_S_) slices_S16386x3072_S16384x3072_1_0) (broadcastInDim S16384x3072 ![0, 1] bcast_S1x3072_S16384x3072_0_1 (broadcastInDim S1x3072 ![1] bcast_S3072_S1x3072_1 (shapeCast _ (extractStridedSlice S1x3072 ![1, 0] w slices_S3x3072_S1x3072_1_0) shapeCasts_S1x3072_S3072))))) (mulf (extractStridedSlice S16384x3072 ![2, 0] (pad S16386x3072 ![1, 0] ![1, 0] ![0, 0] x (sitofp .f32 (constantI S_ 32 0#32)) pads_S16384x3072_S16386x3072_110_000 h_S_) slices_S16386x3072_S16384x3072_2_0) (broadcastInDim S16384x3072 ![0, 1] bcast_S1x3072_S16384x3072_0_1 (broadcastInDim S1x3072 ![1] bcast_S3072_S1x3072_1 (shapeCast _ (extractStridedSlice S1x3072 ![2, 0] w slices_S3x3072_S1x3072_2_0) shapeCasts_S1x3072_S3072))))) slices_S16384x3072_S16384x1024_0_1024 : FVec Ideal S16384x1024 .f32)
      = Cert.Kernel17Ideal.Value.group 1024 (by decide) x w b := by
  funext i
  obtain ⟨r, j, rfl⟩ : ∃ r j, i = ix2 r j := ⟨i 0, i 1, (ix2_eta i).symm⟩
  have hj : 1024 + j.val < 3072 := by omega
  pointwise [Cert.Kernel17Ideal.Value.group, Cert.Kernel17Ideal.Value.conv, Cert.Kernel17Ideal.Value.padded]
  simp only [zero, hj, and_true, dite_true]

/-- The reference's array of the third group. -/
theorem third (x : FVec Ideal S16384x3072 .f32) (w : FVec Ideal S3x3072 .f32) (b : FVec Ideal S3072 .f32) :
    (extractStridedSlice S16384x1024 ![0, 2048] (addf (addf (addf (broadcastInDim S16384x3072 ![0, 1] bcast_S1x3072_S16384x3072_0_1 (broadcastInDim S1x3072 ![1] bcast_S3072_S1x3072_1 b)) (mulf (extractStridedSlice S16384x3072 ![0, 0] (pad S16386x3072 ![1, 0] ![1, 0] ![0, 0] x (sitofp .f32 (constantI S_ 32 0#32)) pads_S16384x3072_S16386x3072_110_000 h_S_) slices_S16386x3072_S16384x3072_0_0) (broadcastInDim S16384x3072 ![0, 1] bcast_S1x3072_S16384x3072_0_1 (broadcastInDim S1x3072 ![1] bcast_S3072_S1x3072_1 (shapeCast _ (extractStridedSlice S1x3072 ![0, 0] w slices_S3x3072_S1x3072_0_0) shapeCasts_S1x3072_S3072))))) (mulf (extractStridedSlice S16384x3072 ![1, 0] (pad S16386x3072 ![1, 0] ![1, 0] ![0, 0] x (sitofp .f32 (constantI S_ 32 0#32)) pads_S16384x3072_S16386x3072_110_000 h_S_) slices_S16386x3072_S16384x3072_1_0) (broadcastInDim S16384x3072 ![0, 1] bcast_S1x3072_S16384x3072_0_1 (broadcastInDim S1x3072 ![1] bcast_S3072_S1x3072_1 (shapeCast _ (extractStridedSlice S1x3072 ![1, 0] w slices_S3x3072_S1x3072_1_0) shapeCasts_S1x3072_S3072))))) (mulf (extractStridedSlice S16384x3072 ![2, 0] (pad S16386x3072 ![1, 0] ![1, 0] ![0, 0] x (sitofp .f32 (constantI S_ 32 0#32)) pads_S16384x3072_S16386x3072_110_000 h_S_) slices_S16386x3072_S16384x3072_2_0) (broadcastInDim S16384x3072 ![0, 1] bcast_S1x3072_S16384x3072_0_1 (broadcastInDim S1x3072 ![1] bcast_S3072_S1x3072_1 (shapeCast _ (extractStridedSlice S1x3072 ![2, 0] w slices_S3x3072_S1x3072_2_0) shapeCasts_S1x3072_S3072))))) slices_S16384x3072_S16384x1024_0_2048 : FVec Ideal S16384x1024 .f32)
      = Cert.Kernel17Ideal.Value.group 2048 (by decide) x w b := by
  funext i
  obtain ⟨r, j, rfl⟩ : ∃ r j, i = ix2 r j := ⟨i 0, i 1, (ix2_eta i).symm⟩
  have hj : 2048 + j.val < 3072 := by omega
  pointwise [Cert.Kernel17Ideal.Value.group, Cert.Kernel17Ideal.Value.conv, Cert.Kernel17Ideal.Value.padded]
  simp only [zero, hj, and_true, dite_true]

end Cert.Reference17Ideal.Value
end
-- ==== Proof.AdaMod.lean ====
module

public import proofs.«01_k».proof.Proof.ProjG
public import proofs.«01_k».proof.Proof.Gen.Kernel18Ideal.Value
public import proofs.«01_k».proof.Proof.Gen.Reference18Ideal.Run
public import Idealize.ShloMosaic.Lib.Claim
public import Idealize.ShloMosaic.Lib.Pipeline.ValueKit
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Pre_mod_finite

/-- The witness of the precondition's side conditions. -/
theorem facts : Facts :=
  ⟨by decide, by decide, by decide, by decide, by decide⟩

attribute [local instance] facts

/-- All that the modulations' product reads is real. -/
structure Reals (x : FVec Ideal S8x2048 .f32) (w : FVec Ideal S2048x12288 .f32) : Prop where
  x : ∀ (i : Fin 8) (k : Fin 2048), ∃ r : ℝ, x (ix2 i k) = r
  w : ∀ (k : Fin 2048) (j : Fin 12288), ∃ r : ℝ, w (ix2 k j) = r

/-- The precondition says so. -/
theorem reals (x : FVec Ideal S8x2048 .f32) (w : FVec Ideal S2048x12288 .f32) (b : FVec Ideal S12288 .f32)
    (hp : fn (F := Ideal) x w b = fun _ => 1#1) : Reals x w := by
  have e : fn (F := Ideal) x w b ix0 = 1#1 := congrFun hp ix0
  unfold fn at e
  dsimp only at e
  have ew := IntOp.andi_eq_one.1 e
  refine ⟨fun i k => ?_, fun k j => ?_⟩
  · exact Cert.Pre_scores_finite.real_of_cmp _ (Host.reduce_andi_all _ _ _ _ _ ew.1 (ix2 i k))
  · exact Cert.Pre_scores_finite.real_of_cmp _ (Host.reduce_andi_all _ _ _ _ _ ew.2 (ix2 k j))

end Cert.Pre_mod_finite

namespace Cert.Kernel18Ideal.Value

open Cert.Kernel18Ideal Cert.Kernel18Ideal.Gen

/-- A number times its logistic function. -/
def silu (x : EReal) : EReal := x * Ideal.div 1 (1 + Ideal.exp (0 - x))

/-- It is real at a real number. -/
theorem silu_real (x : EReal) (h : ∃ r : ℝ, x = r) : ∃ r : ℝ, silu x = r := by
  obtain ⟨r, rfl⟩ := h
  have e : (1 : EReal) + Ideal.exp (0 - (r : EReal)) = ((1 + Real.exp (0 - r) : ℝ) : EReal) := by
    rw [← EReal.coe_zero, ← EReal.coe_sub, Ideal.exp_coe, ← EReal.coe_one, ← EReal.coe_add]
  unfold silu
  rw [e, Ideal.div_coe (by positivity), one_mul, ← EReal.coe_mul]
  exact ⟨_, rfl⟩

/-- The modulations, element by element. -/
def whole (x : FVec Ideal S8x2048 .f32) (w : FVec Ideal S2048x12288 .f32) (b : FVec Ideal S12288 .f32) : FVec Ideal S8x12288 .f32 :=
  fun i => Row.times (fun k : Fin 2048 => silu (x (ix2 (i 0) k))) (fun k => w (ix2 k (i 1))) + b (ix1 (i 1))

/-- One block of the modulations. -/
theorem block_apply (a : Vec Ideal S8x2048 .f32) (w : Vec Ideal S2048x512 .f32) (b : Vec Ideal S1x512 .f32) (i : Fin 8) (j : Fin 512) :
    k0_pay1 (F := Ideal) a w b (ix2 i j)
      = Cert.Kernel16Ideal.Value.split (fun k : Fin 2048 => silu (a (ix2 i k))) (fun k => w (ix2 k j)) + b (ix2 0 j) := by
  pointwise [k0_pay1]
  rfl

variable (m : (ℓ : Loc nD τ sig) → Buf (Elt Ideal) ℓ)

/-- The bias the kernel is called with. -/
theorem bias (c : Dev nD) (j : Fin 12288) :
    (V m c main_v0 : FVec Ideal S1x12288 .f32) (ix2 0 j) = ((m ((c.tc : Thread nD τ).loc main_arg2)) : FVec Ideal S12288 .f32) (ix1 j) := by
  unfold V
  after_reads_at

/-- The block of each window at each grid point. -/
theorem idx : ∀ t : Fin cfg0.N, win0_0.index t = ![0, 0] ∧ win0_1.index t = ![0, t.val] ∧ win0_2.index t = ![0, t.val]
    ∧ win0_3.index t = ![0, t.val] ∧ t.val < 24 :=
  (by decide +kernel : ∀ t : Fin grid0.N, _)

/-- The input, whole at every point. -/
theorem input_block (c : Dev nD) (t : Fin cfg0.N) (i : Fin 8) (k : Fin 2048) : (iblk m c 0 t : Vec Ideal S8x2048 .f32) (ix2 i k)
    = ((m ((c.tc : Thread nD τ).loc main_arg0)) : FVec Ideal S8x2048 .f32) (ix2 i k) := by
  blk_ext [iblk, V, idx t]

/-- A block of the weights' columns. -/
theorem weights_block (c : Dev nD) (t : Fin cfg0.N) (k : Fin 2048) (j : Fin 512) : (iblk m c 1 t : Vec Ideal S2048x512 .f32) (ix2 k j)
    = ((m ((c.tc : Thread nD τ).loc main_arg1)) : FVec Ideal S2048x12288 .f32) (ix2 k ⟨t.val * 512 + j.val, by have := idx t; omega⟩) := by
  blk_ext [iblk, V, idx t]

/-- A block of the bias. -/
theorem bias_block (c : Dev nD) (t : Fin cfg0.N) (j : Fin 512) : (iblk m c 2 t : Vec Ideal S1x512 .f32) (ix2 0 j)
    = ((m ((c.tc : Thread nD τ).loc main_arg2)) : FVec Ideal S12288 .f32) (ix1 ⟨t.val * 512 + j.val, by have := idx t; omega⟩) := by
  refine Eq.trans (b := (V m c main_v0 : FVec Ideal S1x12288 .f32) (ix2 0 ⟨t.val * 512 + j.val, by have := idx t; omega⟩)) ?_ (bias m c _)
  blk_ext [iblk, idx t]

/-- A block is the whole's there. -/
theorem block (c : Dev nD) (ok : Cert.Pre_mod_finite.Reals (m ((c.tc : Thread nD τ).loc main_arg0)) (m ((c.tc : Thread nD τ).loc main_arg1))) (t : Fin cfg0.N) (i : Fin 8) (j : Fin 512) (k : S8x12288.Idx)
    (h0 : (k 0).val = i.val) (h1 : (k 1).val = t.val * 512 + j.val) :
    Cert.Kernel16Ideal.Value.split (fun k : Fin 2048 => silu ((iblk m c 0 t : Vec Ideal S8x2048 .f32) (ix2 i k)))
        (fun k => (iblk m c 1 t : Vec Ideal S2048x512 .f32) (ix2 k j)) + (iblk m c 2 t : Vec Ideal S1x512 .f32) (ix2 0 j)
      = whole (m ((c.tc : Thread nD τ).loc main_arg0)) (m ((c.tc : Thread nD τ).loc main_arg1)) (m ((c.tc : Thread nD τ).loc main_arg2)) k := by
  have e0 : i = k 0 := Fin.ext h0.symm
  have e1 : (⟨t.val * 512 + j.val, by have := idx t; omega⟩ : Fin 12288) = k 1 := Fin.ext h1.symm
  have a : (fun q : Fin 2048 => silu ((iblk m c 0 t : Vec Ideal S8x2048 .f32) (ix2 i q))) = fun q => silu (((m ((c.tc : Thread nD τ).loc main_arg0)) : FVec Ideal S8x2048 .f32) (ix2 (k 0) q)) :=
    funext fun q => congrArg silu ((input_block m c t i q).trans (by rw [e0]))
  have w : (fun q : Fin 2048 => (iblk m c 1 t : Vec Ideal S2048x512 .f32) (ix2 q j)) = fun q => ((m ((c.tc : Thread nD τ).loc main_arg1)) : FVec Ideal S2048x12288 .f32) (ix2 q (k 1)) :=
    funext fun q => (weights_block m c t q j).trans (by rw [e1])
  have b : (iblk m c 2 t : Vec Ideal S1x512 .f32) (ix2 0 j) = ((m ((c.tc : Thread nD τ).loc main_arg2)) : FVec Ideal S12288 .f32) (ix1 (k 1)) := (bias_block m c t j).trans (by rw [e1])
  exact congrArg₂ (· + ·) ((congrArg₂ Cert.Kernel16Ideal.Value.split a w).trans
    (Cert.Kernel16Ideal.Value.split_eq _ _ (fun q => silu_real _ (ok.x _ q)) fun q => ok.w q _)) b

/-- The kernel's array. -/
theorem final (c : Dev nD) (ok : Cert.Pre_mod_finite.Reals (m ((c.tc : Thread nD τ).loc main_arg0)) (m ((c.tc : Thread nD τ).loc main_arg1))) : (dats m 0 c).arrAt 3 cfg0.N = whole (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have w0 : win0_3.index t 0 = 0 := (idx t).2.2.2.1 ▸ rfl
  have w1 : win0_3.index t 1 = t.val := (idx t).2.2.2.1 ▸ rfl
  blk_simp
  rw [after0_3]
  frame_out
  refine (congrArg _ (ix2_eta y).symm).trans ((block_apply _ _ _ (y 0) (y 1)).trans ?_)
  refine block m c ok t (y 0) (y 1) _ ?_ ?_
  · show win0_3.index t 0 * 8 + 1 * (y 0).val = (y 0).val
    omega
  · show win0_3.index t 1 * 512 + 1 * (y 1).val = t.val * 512 + (y 1).val
    omega

end Cert.Kernel18Ideal.Value

namespace Cert.Reference18Ideal.Value

open Cert.Reference18Ideal Cert.Reference18Ideal.Gen

/-- The reference's array. -/
theorem modulations (x : FVec Ideal S8x2048 .f32) (w : FVec Ideal S2048x12288 .f32) (b : FVec Ideal S12288 .f32) :
    (addf (Host.dotGeneral dot_S8x2048_S2048x12288_S8x12288_1_0_0_1_n_n none (mulf x (Host.divf (broadcastInDim S8x2048 ![] bcast_S_S8x2048 (constant S_ .f32 0x3F800000#32)) (addf (broadcastInDim S8x2048 ![] bcast_S_S8x2048 (constant S_ .f32 0x3F800000#32)) (Host.exp (Host.negf x))))) w) (broadcastInDim S8x12288 ![0, 1] bcast_S1x12288_S8x12288_0_1 (broadcastInDim S1x12288 ![1] bcast_S12288_S1x12288_1 b)) : FVec Ideal S8x12288 .f32)
      = Cert.Kernel18Ideal.Value.whole x w b := by
  funext i
  obtain ⟨r, j, rfl⟩ : ∃ r j, i = ix2 r j := ⟨i 0, i 1, (ix2_eta i).symm⟩
  pointwise [Cert.Kernel18Ideal.Value.whole, Cert.Kernel18Ideal.Value.silu]
  simp only [zero_sub]
  rfl

end Cert.Reference18Ideal.Value
end
-- ==== Proof.lean ====
/- The neighbourhood attention: the programs' frames, and the kernel's array against the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel11.Frame
public import proofs.«01_k».proof.Proof.Gen.Kernel10Ideal.Frame
public import proofs.«01_k».proof.Proof.Gen.Kernel11Ideal.Frame
public import proofs.«01_k».proof.Proof.Gen.Kernel10Ideal.Value
public import proofs.«01_k».proof.Proof.Gen.Kernel11Ideal.Value
public import proofs.«01_k».proof.Proof.Gen.Reference10Ideal.Run
public import proofs.«01_k».proof.Proof.Gen.Reference11Ideal.Run
public import proofs.«01_k».proof.Proof.Meet
public import proofs.«01_k».proof.Proof.HyProj
public import proofs.«01_k».proof.Proof.NaProj
public import proofs.«01_k».proof.Proof.MlQk
public import proofs.«01_k».proof.Proof.MlV
public import proofs.«01_k».proof.Proof.MlO
public import proofs.«01_k».proof.Proof.AbOut
public import proofs.«01_k».proof.Proof.MlOut
public import proofs.«01_k».proof.Proof.PeerQ
public import proofs.«01_k».proof.Proof.Real
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.ScanKernel
public import proofs.«01_k».proof.Proof.ScanRef
public import proofs.«01_k».proof.Proof.ScanPre
public import proofs.«01_k».proof.Proof.ScanKernelBack
public import proofs.«01_k».proof.Proof.ScanRefBack
public import proofs.«01_k».proof.Proof.ScanPreBack
public import proofs.«01_k».proof.Proof.Merge
public import proofs.«01_k».proof.Proof.LnRes
public import proofs.«01_k».proof.Proof.Gates
public import proofs.«01_k».proof.Proof.LnResT
public import proofs.«01_k».proof.Proof.ProjG
public import proofs.«01_k».proof.Proof.ShortConv
public import proofs.«01_k».proof.Proof.AdaMod
public import Idealize.ShloMosaic.Lib.Claim
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_scores_finite.facts
attribute [local instance] Cert.Kernel2.Gen.facts Cert.Kernel2Ideal.Gen.facts Cert.Reference2Ideal.Gen.facts
attribute [local instance] Cert.Kernel3.Gen.facts Cert.Kernel3Ideal.Gen.facts Cert.Reference3Ideal.Gen.facts
attribute [local instance] Cert.Kernel4.Gen.facts Cert.Kernel4Ideal.Gen.facts Cert.Reference4Ideal.Gen.facts
attribute [local instance] Cert.Kernel5.Gen.facts Cert.Kernel5Ideal.Gen.facts Cert.Reference5Ideal.Gen.facts
attribute [local instance] Cert.Kernel6.Gen.facts Cert.Kernel6Ideal.Gen.facts Cert.Reference6Ideal.Gen.facts
attribute [local instance] Cert.Kernel7.Gen.facts Cert.Kernel7Ideal.Gen.facts Cert.Reference7Ideal.Gen.facts
attribute [local instance] Cert.Kernel8.Gen.facts Cert.Kernel8Ideal.Gen.facts Cert.Reference8Ideal.Gen.facts
attribute [local instance] Cert.Kernel9.Gen.facts Cert.Kernel9Ideal.Gen.facts Cert.Reference9Ideal.Gen.facts
attribute [local instance] Cert.Kernel10.Gen.facts Cert.Kernel10Ideal.Gen.facts Cert.Reference10Ideal.Gen.facts Cert.Pre_scan_finite.facts
attribute [local instance] Cert.Kernel11.Gen.facts Cert.Kernel11Ideal.Gen.facts Cert.Reference11Ideal.Gen.facts Cert.Pre_back_finite.facts
attribute [local instance] Cert.Kernel12.Gen.facts Cert.Kernel12Ideal.Gen.facts Cert.Reference12Ideal.Gen.facts
attribute [local instance] Cert.Kernel13.Gen.facts Cert.Kernel13Ideal.Gen.facts Cert.Reference13Ideal.Gen.facts
attribute [local instance] Cert.Kernel14.Gen.facts Cert.Kernel14Ideal.Gen.facts Cert.Reference14Ideal.Gen.facts
attribute [local instance] Cert.Kernel15.Gen.facts Cert.Kernel15Ideal.Gen.facts Cert.Reference15Ideal.Gen.facts
attribute [local instance] Cert.Kernel16.Gen.facts Cert.Kernel16Ideal.Gen.facts Cert.Reference16Ideal.Gen.facts Cert.Pre_gates_finite.facts
attribute [local instance] Cert.Kernel17.Gen.facts Cert.Kernel17Ideal.Gen.facts Cert.Reference17Ideal.Gen.facts
attribute [local instance] Cert.Kernel18.Gen.facts Cert.Kernel18Ideal.Gen.facts Cert.Reference18Ideal.Gen.facts Cert.Pre_mod_finite.facts

/-- From equal arguments with finite scores, the kernel's run and the reference's end with the same array. -/
theorem value : algebraic_KernelIdeal_ReferenceIdeal_pre_scores_finite := by
  intro m g m' g' hp ha
  refine ⟨fun c => Cert.ReferenceIdeal.Value.attention (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run _ _ _).mono (fun r h c => ?_) (Cert.KernelIdeal.Value.run_blocks m g)
    obtain ⟨hx, hy, hb⟩ := Cert.Pre_scores_finite.reals _ _ _ (hp c)
    refine ⟨((h c).1.trans (Cert.KernelIdeal.Value.final m c)).trans ?_, (h c).2⟩
    exact Cert.Meet.result_eq hx hy hb (Cert.KernelIdeal.Value.biases m c)
  · refine (θ_run _ _ _).mono (fun r h c => ?_) (Cert.ReferenceIdeal.Value.run m' g')
    obtain ⟨a0, a1, a2⟩ := ha c
    refine ⟨((h c).1.trans (Cert.ReferenceIdeal.Value.res_eq m' c)).trans ?_, (h c).2⟩
    rw [a0, a1, a2]

/-- The reference's run keeps its arguments and ends with every counter at zero. -/
theorem reference_ends : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel and the reference of the long convolution projection end with the same array. -/
theorem value2 : algebraic_Kernel2Ideal_Reference2Ideal := by
  intro m g m' g' _ ha
  refine ⟨fun c => Cert.Kernel2Ideal.Value.whole (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), ?_, ?_⟩
  · exact (θ_run _ _ _).mono (fun r h c => ⟨(h c).1.trans (Cert.Kernel2Ideal.Value.final m c), (h c).2⟩) (Cert.Kernel2Ideal.Value.run_blocks m g)
  · refine (θ_run _ _ _).mono (fun r h c => ?_) (Cert.Reference2Ideal.Value.run m' g')
    obtain ⟨a0, a1, a2, a3⟩ := ha c
    refine ⟨((h c).1.trans (Cert.Reference2Ideal.Value.product _ _ _ _)).trans ?_, (h c).2⟩
    rw [a0, a1, a2, a3]

/-- The reference of the long convolution projection keeps its arguments and ends with every counter at zero. -/
theorem reference_ends2 : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From equal arguments the kernel and the reference of the attention projection end with the same array. -/
theorem value3 : algebraic_Kernel3Ideal_Reference3Ideal := by
  intro m g m' g' _ ha
  refine ⟨fun c => Cert.Kernel3Ideal.Value.whole (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)), ?_, ?_⟩
  · exact (θ_run _ _ _).mono (fun r h c => ⟨(h c).1.trans (Cert.Kernel3Ideal.Value.final m c), (h c).2⟩) (Cert.Kernel3Ideal.Value.run_blocks m g)
  · refine (θ_run _ _ _).mono (fun r h c => ?_) (Cert.Reference3Ideal.Value.run m' g')
    obtain ⟨a0, a1, a2, a3⟩ := ha c
    refine ⟨((h c).1.trans (Cert.Reference3Ideal.Value.product _ _ _ _)).trans ?_, (h c).2⟩
    rw [a0, a1, a2, a3]

/-- The reference of the attention projection keeps its arguments and ends with every counter at zero. -/
theorem reference_ends3 : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From equal arguments the kernel and the reference of the query and key projection end with the same array. -/
theorem value4 : algebraic_Kernel4Ideal_Reference4Ideal := by
  intro m g m' g' _ ha
  refine ⟨fun c => Cert.Kernel4Ideal.Value.whole (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), ?_, ?_⟩
  · exact (θ_run _ _ _).mono (fun r h c => ⟨(h c).1.trans (Cert.Kernel4Ideal.Value.final m c), (h c).2⟩) (Cert.Kernel4Ideal.Value.run_blocks m g)
  · refine (θ_run _ _ _).mono (fun r h c => ?_) (Cert.Reference4Ideal.Value.run m' g')
    obtain ⟨a0, a1, a2, a3⟩ := ha c
    refine ⟨((h c).1.trans (Cert.Reference4Ideal.Value.product _ _ _ _)).trans ?_, (h c).2⟩
    rw [a0, a1, a2, a3]

/-- The reference of the query and key projection keeps its arguments and ends with every counter at zero. -/
theorem reference_ends4 : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- From equal arguments the kernel and the reference of the value projection end with the same array. -/
theorem value5 : algebraic_Kernel5Ideal_Reference5Ideal := by
  intro m g m' g' _ ha
  refine ⟨fun c => Cert.Kernel5Ideal.Value.whole (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), ?_, ?_⟩
  · exact (θ_run _ _ _).mono (fun r h c => ⟨(h c).1.trans (Cert.Kernel5Ideal.Value.final m c), (h c).2⟩) (Cert.Kernel5Ideal.Value.run_blocks m g)
  · refine (θ_run _ _ _).mono (fun r h c => ?_) (Cert.Reference5Ideal.Value.run m' g')
    obtain ⟨a0, a1, a2, a3⟩ := ha c
    refine ⟨((h c).1.trans (Cert.Reference5Ideal.Value.product _ _ _ _)).trans ?_, (h c).2⟩
    rw [a0, a1, a2, a3]

/-- The reference of the value projection keeps its arguments and ends with every counter at zero. -/
theorem reference_ends5 : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- From equal arguments the kernel and the reference of the output gate projection end with the same array. -/
theorem value6 : algebraic_Kernel6Ideal_Reference6Ideal := by
  intro m g m' g' _ ha
  refine ⟨fun c => Cert.Kernel6Ideal.Value.whole (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)), ?_, ?_⟩
  · exact (θ_run _ _ _).mono (fun r h c => ⟨(h c).1.trans (Cert.Kernel6Ideal.Value.final m c), (h c).2⟩) (Cert.Kernel6Ideal.Value.run_blocks m g)
  · refine (θ_run _ _ _).mono (fun r h c => ?_) (Cert.Reference6Ideal.Value.run m' g')
    obtain ⟨a0, a1, a2, a3⟩ := ha c
    refine ⟨((h c).1.trans (Cert.Reference6Ideal.Value.product _ _ _ _)).trans ?_, (h c).2⟩
    rw [a0, a1, a2, a3]

/-- The reference of the output gate projection keeps its arguments and ends with every counter at zero. -/
theorem reference_ends6 : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- From equal arguments the kernel and the reference of the even layer's output projection end with the same array. -/
theorem value7 : algebraic_Kernel7Ideal_Reference7Ideal := by
  intro m g m' g' _ ha
  refine ⟨fun c => Cert.Kernel7Ideal.Value.whole (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), ?_, ?_⟩
  · exact (θ_run _ _ _).mono (fun r h c => ⟨(h c).1.trans (Cert.Kernel7Ideal.Value.final m c), (h c).2⟩) (Cert.Kernel7Ideal.Value.run_blocks m g)
  · refine (θ_run _ _ _).mono (fun r h c => ?_) (Cert.Reference7Ideal.Value.run m' g')
    obtain ⟨a0, a1, a2⟩ := ha c
    refine ⟨((h c).1.trans (Cert.Reference7Ideal.Value.product _ _ _)).trans ?_, (h c).2⟩
    rw [a0, a1, a2]

/-- The reference of the even layer's output projection keeps its arguments and ends with every counter at zero. -/
theorem reference_ends7 : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- From equal arguments the kernel and the reference of the odd layer's output projection end with the same array. -/
theorem value8 : algebraic_Kernel8Ideal_Reference8Ideal := by
  intro m g m' g' _ ha
  refine ⟨fun c => Cert.Kernel8Ideal.Value.whole (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · exact (θ_run _ _ _).mono (fun r h c => ⟨(h c).1.trans (Cert.Kernel8Ideal.Value.final m c), (h c).2⟩) (Cert.Kernel8Ideal.Value.run_blocks m g)
  · refine (θ_run _ _ _).mono (fun r h c => ?_) (Cert.Reference8Ideal.Value.run m' g')
    obtain ⟨a0, a1⟩ := ha c
    refine ⟨((h c).1.trans (Cert.Reference8Ideal.Value.product _ _)).trans ?_, (h c).2⟩
    rw [a0, a1]

/-- The reference of the odd layer's output projection keeps its arguments and ends with every counter at zero. -/
theorem reference_ends8 : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- From equal arguments the kernel and the reference of the expert queries end with the same array. -/
theorem value9 : algebraic_Kernel9Ideal_Reference9Ideal := by
  intro m g m' g' _ ha
  refine ⟨fun c => Cert.Kernel9Ideal.Value.whole (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · exact (θ_run _ _ _).mono (fun r h c => ⟨(h c).1.trans (Cert.Kernel9Ideal.Value.final m c), (h c).2⟩) (Cert.Kernel9Ideal.Value.run_blocks m g)
  · refine (θ_run _ _ _).mono (fun r h c => ?_) (Cert.Reference9Ideal.Value.run m' g')
    obtain ⟨a0, a1⟩ := ha c
    refine ⟨((h c).1.trans (Cert.Reference9Ideal.Value.product _ _)).trans ?_, (h c).2⟩
    rw [a0, a1]

/-- The reference of the expert queries keeps its arguments and ends with every counter at zero. -/
theorem reference_ends9 : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- From equal real arguments the kernel and the reference of the scan end with the same array. -/
theorem value10 : algebraic_Kernel10Ideal_Reference10Ideal_pre_scan_finite := by
  intro m g m' g' hp ha
  refine ⟨fun c => (Cert.Kernel10Ideal.Gen.dats m 0 c).arrAt 8 Cert.Kernel10Ideal.cfg0.N, ?_, ?_⟩
  · exact (θ_run _ _ _).mono (fun r h c => ⟨(h c).1, (h c).2.2.2.2⟩) (Cert.Kernel10Ideal.Value.run_blocks m g)
  · refine (θ_run _ _ _).mono (fun r h c => ?_) (Cert.Reference10Ideal.Value.run m' g')
    obtain ⟨a0, a1, a2, a3, a4, a5, a6⟩ := ha c
    refine ⟨(h c).1.trans (Eq.trans (funext fun y => ?_) (Cert.Kernel10Ideal.Value.final m c (Cert.Pre_scan_finite.reals _ _ _ _ _ _ _ (hp c))).symm), (h c).2⟩
    refine (congrArg _ (ix2_eta y).symm).trans ((Cert.Reference10Ideal.Value.result m' c (y 0) (y 1)).trans ?_)
    rw [a0, a1, a2, a3, a4, a5, a6]

/-- The reference of the scan keeps its arguments and ends with every counter at zero. -/
theorem reference_ends10 : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- From equal real arguments the kernel and the reference of the backward scan end with the same array. -/
theorem value11 : algebraic_Kernel11Ideal_Reference11Ideal_pre_back_finite := by
  intro m g m' g' hp ha
  refine ⟨fun c => (Cert.Kernel11Ideal.Gen.dats m 0 c).arrAt 8 Cert.Kernel11Ideal.cfg0.N, ?_, ?_⟩
  · exact (θ_run _ _ _).mono (fun r h c => ⟨(h c).1, (h c).2.2.2.2⟩) (Cert.Kernel11Ideal.Value.run_blocks m g)
  · refine (θ_run _ _ _).mono (fun r h c => ?_) (Cert.Reference11Ideal.Value.run m' g')
    obtain ⟨a0, a1, a2, a3, a4, a5, a6⟩ := ha c
    refine ⟨(h c).1.trans (Eq.trans (funext fun y => ?_) (Cert.Kernel11Ideal.Value.final m c (Cert.Pre_back_finite.reals _ _ _ _ _ _ _ (hp c))).symm), (h c).2⟩
    refine (congrArg _ (ix2_eta y).symm).trans ((Cert.Reference11Ideal.Value.result m' c (y 0) (y 1)).trans ?_)
    rw [a0, a1, a2, a3, a4, a5, a6]

/-- The reference of the backward scan keeps its arguments and ends with every counter at zero. -/
theorem reference_ends11 : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- From equal arguments the kernel and the reference of the merged scans end with the same array. -/
theorem value12 : algebraic_Kernel12Ideal_Reference12Ideal := by
  intro m g m' g' _ ha
  refine ⟨fun c => Norm.merge (n := 16384) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (fun k => ((m ((c.tc : Thread Cert.Kernel12Ideal.nD Cert.Kernel12Ideal.τ).loc Cert.Kernel12Ideal.main_arg3)) : FVec Ideal Cert.Kernel12Ideal.S2048 .f32) (ix1 k)), ?_, ?_⟩
  · exact (θ_run _ _ _).mono (fun r h c => ⟨(h c).1.trans (Cert.Kernel12Ideal.Value.final m c), (h c).2⟩) (Cert.Kernel12Ideal.Value.run_blocks m g)
  · refine (θ_run _ _ _).mono (fun r h c => ?_) (Cert.Reference12Ideal.Value.run m' g')
    obtain ⟨a0, a1, a2, a3⟩ := ha c
    refine ⟨((h c).1.trans (Cert.Reference12Ideal.Value.merged _ _ _ _)).trans ?_, (h c).2⟩
    rw [a0, a1, a2, a3]

/-- The reference of the merged scans keeps its arguments and ends with every counter at zero. -/
theorem reference_ends12 : quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- From equal arguments the kernel and the reference of the normalised residual end with the same two arrays. -/
theorem value13 : algebraic_Kernel13Ideal_Reference13Ideal := by
  intro m g m' g' _ ha
  refine ⟨fun c => Cert.Kernel13Ideal.Value.normed (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)), fun c => Cert.Kernel13Ideal.Value.modulated (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)), ?_, ?_⟩
  · exact (θ_run _ _ _).mono (fun r h c => ⟨(h c).1.trans (Cert.Kernel13Ideal.Value.final_normed m c),
      (h c).2.1.trans (Cert.Kernel13Ideal.Value.final_modulated m c), (h c).2.2⟩) (Cert.Kernel13Ideal.Value.run_blocks m g)
  · refine (θ_run _ _ _).mono (fun r h c => ?_) (Cert.Reference13Ideal.Value.run m' g')
    obtain ⟨a0, a1, a2, a3, a4, a5, a6⟩ := ha c
    refine ⟨((h c).1.trans (Cert.Reference13Ideal.Value.normed _ _ _ _ _)).trans ?_,
      ((h c).2.1.trans (Cert.Reference13Ideal.Value.modulated _ _ _ _ _ _ _)).trans ?_, (h c).2.2⟩
    · rw [a0, a1, a2, a3, a4]
    · rw [a0, a1, a2, a3, a4, a5, a6]

/-- The reference of the normalised residual keeps its arguments and ends with every counter at zero. -/
theorem reference_ends13 : quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

/-- From equal arguments the kernel and the reference of the scans' gates end with the same array. -/
theorem value14 : algebraic_Kernel14Ideal_Reference14Ideal := by
  intro m g m' g' _ ha
  refine ⟨fun c => Cert.Kernel14Ideal.Value.whole (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), ?_, ?_⟩
  · exact (θ_run _ _ _).mono (fun r h c => ⟨(h c).1.trans (Cert.Kernel14Ideal.Value.final m c), (h c).2⟩) (Cert.Kernel14Ideal.Value.run_blocks m g)
  · refine (θ_run _ _ _).mono (fun r h c => ?_) (Cert.Reference14Ideal.Value.run m' g')
    obtain ⟨a0, a1⟩ := ha c
    refine ⟨((h c).1.trans (Cert.Reference14Ideal.Value.gates _ _)).trans ?_, (h c).2⟩
    rw [a0, a1]

/-- The reference of the scans' gates keeps its arguments and ends with every counter at zero. -/
theorem reference_ends14 : quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- From equal arguments the kernel and the reference of the normalised residual of a transposed summand end with the same array. -/
theorem value15 : algebraic_Kernel15Ideal_Reference15Ideal := by
  intro m g m' g' _ ha
  refine ⟨fun c => Cert.Kernel15Ideal.Value.normed (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)), ?_, ?_⟩
  · exact (θ_run _ _ _).mono (fun r h c => ⟨(h c).1.trans (Cert.Kernel15Ideal.Value.final m c), (h c).2⟩) (Cert.Kernel15Ideal.Value.run_blocks m g)
  · refine (θ_run _ _ _).mono (fun r h c => ?_) (Cert.Reference15Ideal.Value.run m' g')
    obtain ⟨a0, a1, a2, a3, a4, a5, a6⟩ := ha c
    refine ⟨((h c).1.trans (Cert.Reference15Ideal.Value.normed _ _ _ _ _)).trans ?_, (h c).2⟩
    rw [a0, a1, a2, a3, a4]

/-- The reference of the normalised residual of a transposed summand keeps its arguments and ends with every counter at zero. -/
theorem reference_ends15 : quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- From equal real arguments the kernel and the reference of the gates' projection end with the same array. -/
theorem value16 : algebraic_Kernel16Ideal_Reference16Ideal_pre_gates_finite := by
  intro m g m' g' hp ha
  refine ⟨fun c => Cert.Kernel16Ideal.Value.whole (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)), ?_, ?_⟩
  · exact (θ_run _ _ _).mono (fun r h c => ⟨(h c).1.trans (Cert.Kernel16Ideal.Value.final m c (Cert.Pre_gates_finite.reals _ _ _ _ (hp c))), (h c).2⟩) (Cert.Kernel16Ideal.Value.run_blocks m g)
  · refine (θ_run _ _ _).mono (fun r h c => ?_) (Cert.Reference16Ideal.Value.run m' g')
    obtain ⟨a0, a1, a2, a3⟩ := ha c
    refine ⟨((h c).1.trans (Cert.Reference16Ideal.Value.product _ _ _ _)).trans ?_, (h c).2⟩
    rw [a0, a1, a2, a3]

/-- The reference of the gates' projection keeps its arguments and ends with every counter at zero. -/
theorem reference_ends16 : quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- From equal arguments the kernel and the reference of the short convolution end with the same three arrays. -/
theorem value17 : algebraic_Kernel17Ideal_Reference17Ideal := by
  intro m g m' g' _ ha
  refine ⟨fun c => Cert.Kernel17Ideal.Value.group 0 (by decide) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)),
    fun c => Cert.Kernel17Ideal.Value.group 1024 (by decide) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)),
    fun c => Cert.Kernel17Ideal.Value.group 2048 (by decide) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)), ?_, ?_⟩
  · exact (θ_run _ _ _).mono (fun r h c => ⟨(h c).1.trans (Cert.Kernel17Ideal.Value.final_first m c),
      (h c).2.1.trans (Cert.Kernel17Ideal.Value.final_second m c), (h c).2.2.1.trans (Cert.Kernel17Ideal.Value.final_third m c), (h c).2.2.2⟩)
      (Cert.Kernel17Ideal.Value.run_blocks m g)
  · refine (θ_run _ _ _).mono (fun r h c => ?_) (Cert.Reference17Ideal.Value.run m' g')
    obtain ⟨a0, a1, a2⟩ := ha c
    refine ⟨((h c).1.trans (Cert.Reference17Ideal.Value.first _ _ _)).trans ?_, ((h c).2.1.trans (Cert.Reference17Ideal.Value.second _ _ _)).trans ?_,
      ((h c).2.2.1.trans (Cert.Reference17Ideal.Value.third _ _ _)).trans ?_, (h c).2.2.2⟩
    all_goals rw [a0, a1, a2]

/-- The reference of the short convolution keeps its arguments and ends with every counter at zero. -/
theorem reference_ends17 : quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

/-- From equal arguments, real but for the bias, the kernel and the reference of the modulations end with the same array. -/
theorem value18 : algebraic_Kernel18Ideal_Reference18Ideal_pre_mod_finite := by
  intro m g m' g' hp ha
  refine ⟨fun c => Cert.Kernel18Ideal.Value.whole (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)), ?_, ?_⟩
  · exact (θ_run _ _ _).mono (fun r h c => ⟨(h c).1.trans (Cert.Kernel18Ideal.Value.final m c (Cert.Pre_mod_finite.reals _ _ _ (hp c))), (h c).2⟩) (Cert.Kernel18Ideal.Value.run_blocks m g)
  · refine (θ_run _ _ _).mono (fun r h c => ?_) (Cert.Reference18Ideal.Value.run m' g')
    obtain ⟨a0, a1, a2⟩ := ha c
    refine ⟨((h c).1.trans (Cert.Reference18Ideal.Value.modulations _ _ _)).trans ?_, (h c).2⟩
    rw [a0, a1, a2]

/-- The reference of the modulations keeps its arguments and ends with every counter at zero. -/
theorem reference_ends18 : quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- All of the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Pre_scores_finite.facts, Cert.Pre_scan_finite.facts, Cert.Pre_back_finite.facts, Cert.Pre_gates_finite.facts, Cert.Pre_mod_finite.facts,
    fun m ρ _ => Cert.Kernel.Gen.frame m ρ, fun m ρ _ => Cert.KernelIdeal.Gen.frame m ρ, fun m ρ _ => Cert.KernelIdeal.Gen.frame m ρ,
    reference_ends, fun m ρ _ => reference_ends m ρ trivial,
    fun m ρ _ => Cert.Kernel2.Gen.frame m ρ, fun m ρ _ => Cert.Kernel2Ideal.Gen.frame m ρ, reference_ends2,
    fun m ρ _ => Cert.Kernel3.Gen.frame m ρ, fun m ρ _ => Cert.Kernel3Ideal.Gen.frame m ρ, reference_ends3,
    fun m ρ _ => Cert.Kernel4.Gen.frame m ρ, fun m ρ _ => Cert.Kernel4Ideal.Gen.frame m ρ, reference_ends4,
    fun m ρ _ => Cert.Kernel5.Gen.frame m ρ, fun m ρ _ => Cert.Kernel5Ideal.Gen.frame m ρ, reference_ends5,
    fun m ρ _ => Cert.Kernel6.Gen.frame m ρ, fun m ρ _ => Cert.Kernel6Ideal.Gen.frame m ρ, reference_ends6,
    fun m ρ _ => Cert.Kernel7.Gen.frame m ρ, fun m ρ _ => Cert.Kernel7Ideal.Gen.frame m ρ, reference_ends7,
    fun m ρ _ => Cert.Kernel8.Gen.frame m ρ, fun m ρ _ => Cert.Kernel8Ideal.Gen.frame m ρ, reference_ends8,
    fun m ρ _ => Cert.Kernel9.Gen.frame m ρ, fun m ρ _ => Cert.Kernel9Ideal.Gen.frame m ρ, reference_ends9,
    fun m ρ _ => Cert.Kernel10.Gen.frame m ρ, fun m ρ _ => Cert.Kernel10Ideal.Gen.frame m ρ, fun m ρ _ => Cert.Kernel10Ideal.Gen.frame m ρ,
    reference_ends10, fun m ρ _ => reference_ends10 m ρ trivial,
    fun m ρ _ => Cert.Kernel11.Gen.frame m ρ, fun m ρ _ => Cert.Kernel11Ideal.Gen.frame m ρ, fun m ρ _ => Cert.Kernel11Ideal.Gen.frame m ρ,
    reference_ends11, fun m ρ _ => reference_ends11 m ρ trivial,
    fun m ρ _ => Cert.Kernel12.Gen.frame m ρ, fun m ρ _ => Cert.Kernel12Ideal.Gen.frame m ρ, reference_ends12,
    fun m ρ _ => Cert.Kernel13.Gen.frame m ρ, fun m ρ _ => Cert.Kernel13Ideal.Gen.frame m ρ, reference_ends13,
    fun m ρ _ => Cert.Kernel14.Gen.frame m ρ, fun m ρ _ => Cert.Kernel14Ideal.Gen.frame m ρ, reference_ends14,
    fun m ρ _ => Cert.Kernel15.Gen.frame m ρ, fun m ρ _ => Cert.Kernel15Ideal.Gen.frame m ρ, reference_ends15,
    fun m ρ _ => Cert.Kernel16.Gen.frame m ρ, fun m ρ _ => Cert.Kernel16Ideal.Gen.frame m ρ, fun m ρ _ => Cert.Kernel16Ideal.Gen.frame m ρ,
    reference_ends16, fun m ρ _ => reference_ends16 m ρ trivial,
    fun m ρ _ => Cert.Kernel17.Gen.frame m ρ, fun m ρ _ => Cert.Kernel17Ideal.Gen.frame m ρ, reference_ends17,
    fun m ρ _ => Cert.Kernel18.Gen.frame m ρ, fun m ρ _ => Cert.Kernel18Ideal.Gen.frame m ρ, fun m ρ _ => Cert.Kernel18Ideal.Gen.frame m ρ,
    reference_ends18, fun m ρ _ => reference_ends18 m ρ trivial,
    trivial, value, trivial, value2, trivial, value3, trivial, value4, trivial, value5, trivial, value6, trivial, value7, trivial, value8, trivial, value9, trivial, value10, trivial, value11, trivial, value12, trivial, value13, trivial, value14, trivial, value15, trivial, value16, trivial, value17, trivial, value18⟩

end Cert.Proof

end
